-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10)
      ∧ r.2.mem ((c.tc : Thread Cert.Last.nD Cert.Last.τ).loc Cert.Last.main_arg11) = m ((c.tc : Thread Cert.Last.nD Cert.Last.τ).loc Cert.Last.main_arg11)
      ∧ r.2.mem ((c.tc : Thread Cert.Last.nD Cert.Last.τ).loc Cert.Last.main_arg12) = m ((c.tc : Thread Cert.Last.nD Cert.Last.τ).loc Cert.Last.main_arg12)
      ∧ r.2.mem ((c.tc : Thread Cert.Last.nD Cert.Last.τ).loc Cert.Last.main_arg13) = m ((c.tc : Thread Cert.Last.nD Cert.Last.τ).loc Cert.Last.main_arg13)
      ∧ r.2.mem ((c.tc : Thread Cert.Last.nD Cert.Last.τ).loc Cert.Last.main_arg14) = m ((c.tc : Thread Cert.Last.nD Cert.Last.τ).loc Cert.Last.main_arg14)
      ∧ r.2.mem ((c.tc : Thread Cert.Last.nD Cert.Last.τ).loc Cert.Last.main_arg15) = m ((c.tc : Thread Cert.Last.nD Cert.Last.τ).loc Cert.Last.main_arg15)
      ∧ r.2.mem ((c.tc : Thread Cert.Last.nD Cert.Last.τ).loc Cert.Last.main_arg16) = m ((c.tc : Thread Cert.Last.nD Cert.Last.τ).loc Cert.Last.main_arg16)
      ∧ r.2.mem ((c.tc : Thread Cert.Last.nD Cert.Last.τ).loc Cert.Last.main_arg17) = m ((c.tc : Thread Cert.Last.nD Cert.Last.τ).loc Cert.Last.main_arg17)
      ∧ r.2.mem ((c.tc : Thread Cert.Last.nD Cert.Last.τ).loc Cert.Last.main_arg18) = m ((c.tc : Thread Cert.Last.nD Cert.Last.τ).loc Cert.Last.main_arg18)
      ∧ r.2.mem ((c.tc : Thread Cert.Last.nD Cert.Last.τ).loc Cert.Last.main_arg19) = m ((c.tc : Thread Cert.Last.nD Cert.Last.τ).loc Cert.Last.main_arg19)
      ∧ r.2.mem ((c.tc : Thread Cert.Last.nD Cert.Last.τ).loc Cert.Last.main_arg20) = m ((c.tc : Thread Cert.Last.nD Cert.Last.τ).loc Cert.Last.main_arg20))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
      ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
      ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
      ∧ r.2.mem ((c.tc : Thread Cert.LastIdeal.nD Cert.LastIdeal.τ).loc Cert.LastIdeal.main_arg14) = m ((c.tc : Thread Cert.LastIdeal.nD Cert.LastIdeal.τ).loc Cert.LastIdeal.main_arg14)
      ∧ r.2.mem ((c.tc : Thread Cert.LastIdeal.nD Cert.LastIdeal.τ).loc Cert.LastIdeal.main_arg15) = m ((c.tc : Thread Cert.LastIdeal.nD Cert.LastIdeal.τ).loc Cert.LastIdeal.main_arg15)
      ∧ r.2.mem ((c.tc : Thread Cert.LastIdeal.nD Cert.LastIdeal.τ).loc Cert.LastIdeal.main_arg16) = m ((c.tc : Thread Cert.LastIdeal.nD Cert.LastIdeal.τ).loc Cert.LastIdeal.main_arg16)
      ∧ r.2.mem ((c.tc : Thread Cert.LastIdeal.nD Cert.LastIdeal.τ).loc Cert.LastIdeal.main_arg17) = m ((c.tc : Thread Cert.LastIdeal.nD Cert.LastIdeal.τ).loc Cert.LastIdeal.main_arg17)
      ∧ r.2.mem ((c.tc : Thread Cert.LastIdeal.nD Cert.LastIdeal.τ).loc Cert.LastIdeal.main_arg18) = m ((c.tc : Thread Cert.LastIdeal.nD Cert.LastIdeal.τ).loc Cert.LastIdeal.main_arg18)
      ∧ r.2.mem ((c.tc : Thread Cert.LastIdeal.nD Cert.LastIdeal.τ).loc Cert.LastIdeal.main_arg19) = m ((c.tc : Thread Cert.LastIdeal.nD Cert.LastIdeal.τ).loc Cert.LastIdeal.main_arg19)
      ∧ r.2.mem ((c.tc : Thread Cert.LastIdeal.nD Cert.LastIdeal.τ).loc Cert.LastIdeal.main_arg20) = m ((c.tc : Thread Cert.LastIdeal.nD Cert.LastIdeal.τ).loc Cert.LastIdeal.main_arg20))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11)
      ∧ r.2.mem ((c.tc : Thread Cert.LastRefIdeal.nD Cert.LastRefIdeal.τ).loc Cert.LastRefIdeal.main_arg12) = m ((c.tc : Thread Cert.LastRefIdeal.nD Cert.LastRefIdeal.τ).loc Cert.LastRefIdeal.main_arg12)
      ∧ r.2.mem ((c.tc : Thread Cert.LastRefIdeal.nD Cert.LastRefIdeal.τ).loc Cert.LastRefIdeal.main_arg13) = m ((c.tc : Thread Cert.LastRefIdeal.nD Cert.LastRefIdeal.τ).loc Cert.LastRefIdeal.main_arg13)
      ∧ r.2.mem ((c.tc : Thread Cert.LastRefIdeal.nD Cert.LastRefIdeal.τ).loc Cert.LastRefIdeal.main_arg14) = m ((c.tc : Thread Cert.LastRefIdeal.nD Cert.LastRefIdeal.τ).loc Cert.LastRefIdeal.main_arg14)
      ∧ r.2.mem ((c.tc : Thread Cert.LastRefIdeal.nD Cert.LastRefIdeal.τ).loc Cert.LastRefIdeal.main_arg15) = m ((c.tc : Thread Cert.LastRefIdeal.nD Cert.LastRefIdeal.τ).loc Cert.LastRefIdeal.main_arg15)
      ∧ r.2.mem ((c.tc : Thread Cert.LastRefIdeal.nD Cert.LastRefIdeal.τ).loc Cert.LastRefIdeal.main_arg16) = m ((c.tc : Thread Cert.LastRefIdeal.nD Cert.LastRefIdeal.τ).loc Cert.LastRefIdeal.main_arg16)
      ∧ r.2.mem ((c.tc : Thread Cert.LastRefIdeal.nD Cert.LastRefIdeal.τ).loc Cert.LastRefIdeal.main_arg17) = m ((c.tc : Thread Cert.LastRefIdeal.nD Cert.LastRefIdeal.τ).loc Cert.LastRefIdeal.main_arg17)
      ∧ r.2.mem ((c.tc : Thread Cert.LastRefIdeal.nD Cert.LastRefIdeal.τ).loc Cert.LastRefIdeal.main_arg18) = m ((c.tc : Thread Cert.LastRefIdeal.nD Cert.LastRefIdeal.τ).loc Cert.LastRefIdeal.main_arg18)
      ∧ r.2.mem ((c.tc : Thread Cert.LastRefIdeal.nD Cert.LastRefIdeal.τ).loc Cert.LastRefIdeal.main_arg19) = m ((c.tc : Thread Cert.LastRefIdeal.nD Cert.LastRefIdeal.τ).loc Cert.LastRefIdeal.main_arg19)
      ∧ r.2.mem ((c.tc : Thread Cert.LastRefIdeal.nD Cert.LastRefIdeal.τ).loc Cert.LastRefIdeal.main_arg20) = m ((c.tc : Thread Cert.LastRefIdeal.nD Cert.LastRefIdeal.τ).loc Cert.LastRefIdeal.main_arg20))
      ∧ r.2.sem = fun _ => 0)

def preserves_Kernel_KernelIdeal : Prop :=
  True

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v93) = v0 c
          ∧ r.2.mem ((c.tc : Thread Cert.RefIdeal.nD Cert.RefIdeal.τ).loc Cert.RefIdeal.main_v99) = v1 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v80) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v4)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v4) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v52) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v172) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)
      ∧ m' ((c.tc : Thread Cert.LastRefIdeal.nD Cert.LastRefIdeal.τ).loc Cert.LastRefIdeal.main_arg11) = m ((c.tc : Thread Cert.LastIdeal.nD Cert.LastIdeal.τ).loc Cert.LastIdeal.main_arg11)
      ∧ m' ((c.tc : Thread Cert.LastRefIdeal.nD Cert.LastRefIdeal.τ).loc Cert.LastRefIdeal.main_arg12) = m ((c.tc : Thread Cert.LastIdeal.nD Cert.LastIdeal.τ).loc Cert.LastIdeal.main_arg12)
      ∧ m' ((c.tc : Thread Cert.LastRefIdeal.nD Cert.LastRefIdeal.τ).loc Cert.LastRefIdeal.main_arg13) = m ((c.tc : Thread Cert.LastIdeal.nD Cert.LastIdeal.τ).loc Cert.LastIdeal.main_arg13)
      ∧ m' ((c.tc : Thread Cert.LastRefIdeal.nD Cert.LastRefIdeal.τ).loc Cert.LastRefIdeal.main_arg14) = m ((c.tc : Thread Cert.LastIdeal.nD Cert.LastIdeal.τ).loc Cert.LastIdeal.main_arg14)
      ∧ m' ((c.tc : Thread Cert.LastRefIdeal.nD Cert.LastRefIdeal.τ).loc Cert.LastRefIdeal.main_arg15) = m ((c.tc : Thread Cert.LastIdeal.nD Cert.LastIdeal.τ).loc Cert.LastIdeal.main_arg15)
      ∧ m' ((c.tc : Thread Cert.LastRefIdeal.nD Cert.LastRefIdeal.τ).loc Cert.LastRefIdeal.main_arg16) = m ((c.tc : Thread Cert.LastIdeal.nD Cert.LastIdeal.τ).loc Cert.LastIdeal.main_arg16)
      ∧ m' ((c.tc : Thread Cert.LastRefIdeal.nD Cert.LastRefIdeal.τ).loc Cert.LastRefIdeal.main_arg17) = m ((c.tc : Thread Cert.LastIdeal.nD Cert.LastIdeal.τ).loc Cert.LastIdeal.main_arg17)
      ∧ m' ((c.tc : Thread Cert.LastRefIdeal.nD Cert.LastRefIdeal.τ).loc Cert.LastRefIdeal.main_arg18) = m ((c.tc : Thread Cert.LastIdeal.nD Cert.LastIdeal.τ).loc Cert.LastIdeal.main_arg18)
      ∧ m' ((c.tc : Thread Cert.LastRefIdeal.nD Cert.LastRefIdeal.τ).loc Cert.LastRefIdeal.main_arg19) = m ((c.tc : Thread Cert.LastIdeal.nD Cert.LastIdeal.τ).loc Cert.LastIdeal.main_arg19)
      ∧ m' ((c.tc : Thread Cert.LastRefIdeal.nD Cert.LastRefIdeal.τ).loc Cert.LastRefIdeal.main_arg20) = m ((c.tc : Thread Cert.LastIdeal.nD Cert.LastIdeal.τ).loc Cert.LastIdeal.main_arg20)) →
    ∃ (v0 : (c : Dev Cert.LastIdeal.nD) → Buf (Elt Ideal) ((c.tc : Thread Cert.LastIdeal.nD Cert.LastIdeal.τ).loc Cert.LastIdeal.main_v13)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v13) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
          ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
          ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
          ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
          ∧ r.2.mem ((c.tc : Thread Cert.LastIdeal.nD Cert.LastIdeal.τ).loc Cert.LastIdeal.main_arg14) = m ((c.tc : Thread Cert.LastIdeal.nD Cert.LastIdeal.τ).loc Cert.LastIdeal.main_arg14)
          ∧ r.2.mem ((c.tc : Thread Cert.LastIdeal.nD Cert.LastIdeal.τ).loc Cert.LastIdeal.main_arg15) = m ((c.tc : Thread Cert.LastIdeal.nD Cert.LastIdeal.τ).loc Cert.LastIdeal.main_arg15)
          ∧ r.2.mem ((c.tc : Thread Cert.LastIdeal.nD Cert.LastIdeal.τ).loc Cert.LastIdeal.main_arg16) = m ((c.tc : Thread Cert.LastIdeal.nD Cert.LastIdeal.τ).loc Cert.LastIdeal.main_arg16)
          ∧ r.2.mem ((c.tc : Thread Cert.LastIdeal.nD Cert.LastIdeal.τ).loc Cert.LastIdeal.main_arg17) = m ((c.tc : Thread Cert.LastIdeal.nD Cert.LastIdeal.τ).loc Cert.LastIdeal.main_arg17)
          ∧ r.2.mem ((c.tc : Thread Cert.LastIdeal.nD Cert.LastIdeal.τ).loc Cert.LastIdeal.main_arg18) = m ((c.tc : Thread Cert.LastIdeal.nD Cert.LastIdeal.τ).loc Cert.LastIdeal.main_arg18)
          ∧ r.2.mem ((c.tc : Thread Cert.LastIdeal.nD Cert.LastIdeal.τ).loc Cert.LastIdeal.main_arg19) = m ((c.tc : Thread Cert.LastIdeal.nD Cert.LastIdeal.τ).loc Cert.LastIdeal.main_arg19)
          ∧ r.2.mem ((c.tc : Thread Cert.LastIdeal.nD Cert.LastIdeal.τ).loc Cert.LastIdeal.main_arg20) = m ((c.tc : Thread Cert.LastIdeal.nD Cert.LastIdeal.τ).loc Cert.LastIdeal.main_arg20))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v137) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10)
          ∧ r.2.mem ((c.tc : Thread Cert.LastRefIdeal.nD Cert.LastRefIdeal.τ).loc Cert.LastRefIdeal.main_arg11) = m' ((c.tc : Thread Cert.LastRefIdeal.nD Cert.LastRefIdeal.τ).loc Cert.LastRefIdeal.main_arg11)
          ∧ r.2.mem ((c.tc : Thread Cert.LastRefIdeal.nD Cert.LastRefIdeal.τ).loc Cert.LastRefIdeal.main_arg12) = m' ((c.tc : Thread Cert.LastRefIdeal.nD Cert.LastRefIdeal.τ).loc Cert.LastRefIdeal.main_arg12)
          ∧ r.2.mem ((c.tc : Thread Cert.LastRefIdeal.nD Cert.LastRefIdeal.τ).loc Cert.LastRefIdeal.main_arg13) = m' ((c.tc : Thread Cert.LastRefIdeal.nD Cert.LastRefIdeal.τ).loc Cert.LastRefIdeal.main_arg13)
          ∧ r.2.mem ((c.tc : Thread Cert.LastRefIdeal.nD Cert.LastRefIdeal.τ).loc Cert.LastRefIdeal.main_arg14) = m' ((c.tc : Thread Cert.LastRefIdeal.nD Cert.LastRefIdeal.τ).loc Cert.LastRefIdeal.main_arg14)
          ∧ r.2.mem ((c.tc : Thread Cert.LastRefIdeal.nD Cert.LastRefIdeal.τ).loc Cert.LastRefIdeal.main_arg15) = m' ((c.tc : Thread Cert.LastRefIdeal.nD Cert.LastRefIdeal.τ).loc Cert.LastRefIdeal.main_arg15)
          ∧ r.2.mem ((c.tc : Thread Cert.LastRefIdeal.nD Cert.LastRefIdeal.τ).loc Cert.LastRefIdeal.main_arg16) = m' ((c.tc : Thread Cert.LastRefIdeal.nD Cert.LastRefIdeal.τ).loc Cert.LastRefIdeal.main_arg16)
          ∧ r.2.mem ((c.tc : Thread Cert.LastRefIdeal.nD Cert.LastRefIdeal.τ).loc Cert.LastRefIdeal.main_arg17) = m' ((c.tc : Thread Cert.LastRefIdeal.nD Cert.LastRefIdeal.τ).loc Cert.LastRefIdeal.main_arg17)
          ∧ r.2.mem ((c.tc : Thread Cert.LastRefIdeal.nD Cert.LastRefIdeal.τ).loc Cert.LastRefIdeal.main_arg18) = m' ((c.tc : Thread Cert.LastRefIdeal.nD Cert.LastRefIdeal.τ).loc Cert.LastRefIdeal.main_arg18)
          ∧ r.2.mem ((c.tc : Thread Cert.LastRefIdeal.nD Cert.LastRefIdeal.τ).loc Cert.LastRefIdeal.main_arg19) = m' ((c.tc : Thread Cert.LastRefIdeal.nD Cert.LastRefIdeal.τ).loc Cert.LastRefIdeal.main_arg19)
          ∧ r.2.mem ((c.tc : Thread Cert.LastRefIdeal.nD Cert.LastRefIdeal.τ).loc Cert.LastRefIdeal.main_arg20) = m' ((c.tc : Thread Cert.LastRefIdeal.nD Cert.LastRefIdeal.τ).loc Cert.LastRefIdeal.main_arg20))

def Claim : Prop :=
  ∃ (hKernel : Cert.Kernel.Facts) (hKernelIdeal : Cert.KernelIdeal.Facts) (hRefIdeal : Cert.RefIdeal.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hMerge : Cert.Merge.Facts) (hMergeIdeal : Cert.MergeIdeal.Facts) (hMergeRefIdeal : Cert.MergeRefIdeal.Facts) (hMod : Cert.Mod.Facts) (hModIdeal : Cert.ModIdeal.Facts) (hModRefIdeal : Cert.ModRefIdeal.Facts) (hLast : Cert.Last.Facts) (hLastIdeal : Cert.LastIdeal.Facts) (hLastRefIdeal : Cert.LastRefIdeal.Facts),
    quiescent_Kernel (hKernel := hKernel)
    ∧ quiescent_KernelIdeal (hKernelIdeal := hKernelIdeal)
    ∧ quiescent_RefIdeal (hRefIdeal := hRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mod (hMod := hMod)
    ∧ quiescent_ModIdeal (hModIdeal := hModIdeal)
    ∧ quiescent_ModRefIdeal (hModRefIdeal := hModRefIdeal)
    ∧ quiescent_Last (hLast := hLast)
    ∧ quiescent_LastIdeal (hLastIdeal := hLastIdeal)
    ∧ quiescent_LastRefIdeal (hLastRefIdeal := hLastRefIdeal)
    ∧ preserves_Kernel_KernelIdeal
    ∧ algebraic_KernelIdeal_RefIdeal (hKernelIdeal := hKernelIdeal) (hRefIdeal := hRefIdeal)
    ∧ preserves_Ffn_FfnIdeal
    ∧ algebraic_FfnIdeal_FfnRefIdeal (hFfnIdeal := hFfnIdeal) (hFfnRefIdeal := hFfnRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Merge_MergeIdeal
    ∧ algebraic_MergeIdeal_MergeRefIdeal (hMergeIdeal := hMergeIdeal) (hMergeRefIdeal := hMergeRefIdeal)
    ∧ preserves_Mod_ModIdeal
    ∧ algebraic_ModIdeal_ModRefIdeal (hModIdeal := hModIdeal) (hModRefIdeal := hModRefIdeal)
    ∧ preserves_Last_LastIdeal
    ∧ algebraic_LastIdeal_LastRefIdeal (hLastIdeal := hLastIdeal) (hLastRefIdeal := hLastRefIdeal)
-- ==== Kernel.lean ====
abbrev S8x2x8448x512 : Shape := ⟨4, ![8, 2, 8448, 512]⟩
abbrev S8x2x8448x256 : Shape := ⟨4, ![8, 2, 8448, 256]⟩
abbrev S8x132x8x128 : Shape := ⟨4, ![8, 132, 8, 128]⟩
abbrev S8x8448x512 : Shape := ⟨3, ![8, 8448, 512]⟩
abbrev S8x1x256x512 : Shape := ⟨4, ![8, 1, 256, 512]⟩
abbrev S8x1x256x256 : Shape := ⟨4, ![8, 1, 256, 256]⟩
abbrev S8x4x8x128 : Shape := ⟨4, ![8, 4, 8, 128]⟩
abbrev S8x256x512 : Shape := ⟨3, ![8, 256, 512]⟩
abbrev S8x8x128x128 : Shape := ⟨4, ![8, 8, 128, 128]⟩
abbrev S1x1x128x128 : Shape := ⟨4, ![1, 1, 128, 128]⟩
abbrev S128x128 : Shape := ⟨2, ![128, 128]⟩
abbrev S1x1x64x128 : Shape := ⟨4, ![1, 1, 64, 128]⟩
abbrev S64x128 : Shape := ⟨2, ![64, 128]⟩
abbrev S1x1x64x64 : Shape := ⟨4, ![1, 1, 64, 64]⟩
abbrev S64x64 : Shape := ⟨2, ![64, 64]⟩
abbrev S1x64x128 : Shape := ⟨3, ![1, 64, 128]⟩
abbrev S1x1x1x128 : Shape := ⟨4, ![1, 1, 1, 128]⟩
abbrev S1x128 : Shape := ⟨2, ![1, 128]⟩

abbrev nBuf : Space → Nat
  | .hbm => 8
  | .vmem => 29
  | .smem => 0
  | _ => 0

abbrev bufTy : (tb : Table) → Fin (tcTables nBuf tb) → BufTy
  | .hbm, ⟨0, _⟩ => ⟨S8x2x8448x512, .bf16⟩
  | .hbm, ⟨1, _⟩ => ⟨S8x2x8448x512, .bf16⟩
  | .hbm, ⟨2, _⟩ => ⟨S8x2x8448x512, .bf16⟩
  | .hbm, ⟨3, _⟩ => ⟨S8x2x8448x512, .bf16⟩
  | .hbm, ⟨4, _⟩ => ⟨S8x2x8448x256, .bf16⟩
  | .hbm, ⟨5, _⟩ => ⟨S8x132x8x128, .f32⟩
  | .hbm, ⟨6, _⟩ => ⟨S8x8448x512, .bf16⟩
  | .hbm, ⟨7, _⟩ => ⟨S8x8448x512, .bf16⟩
  | .local _ .vmem, ⟨0, _⟩ => ⟨S8x1x256x512, .bf16⟩
  | .local _ .vmem, ⟨1, _⟩ => ⟨S8x1x256x512, .bf16⟩
  | .local _ .vmem, ⟨2, _⟩ => ⟨S8x1x256x512, .bf16⟩
  | .local _ .vmem, ⟨3, _⟩ => ⟨S8x1x256x512, .bf16⟩
  | .local _ .vmem, ⟨4, _⟩ => ⟨S8x1x256x512, .bf16⟩
  | .local _ .vmem, ⟨5, _⟩ => ⟨S8x1x256x512, .bf16⟩
  | .local _ .vmem, ⟨6, _⟩ => ⟨S8x1x256x512, .bf16⟩
  | .local _ .vmem, ⟨7, _⟩ => ⟨S8x1x256x512, .bf16⟩
  | .local _ .vmem, ⟨8, _⟩ => ⟨S8x1x256x256, .bf16⟩
  | .local _ .vmem, ⟨9, _⟩ => ⟨S8x1x256x256, .bf16⟩
  | .local _ .vmem, ⟨10, _⟩ => ⟨S8x4x8x128, .f32⟩
  | .local _ .vmem, ⟨11, _⟩ => ⟨S8x4x8x128, .f32⟩
  | .local _ .vmem, ⟨12, _⟩ => ⟨S8x1x256x512, .bf16⟩
  | .local _ .vmem, ⟨13, _⟩ => ⟨S8x1x256x512, .bf16⟩
  | .local _ .vmem, ⟨14, _⟩ => ⟨S8x1x256x512, .bf16⟩
  | .local _ .vmem, ⟨15, _⟩ => ⟨S8x1x256x512, .bf16⟩
  | .local _ .vmem, ⟨16, _⟩ => ⟨S8x1x256x512, .bf16⟩
  | .local _ .vmem, ⟨17, _⟩ => ⟨S8x1x256x512, .bf16⟩
  | .local _ .vmem, ⟨18, _⟩ => ⟨S8x1x256x512, .bf16⟩
  | .local _ .vmem, ⟨19, _⟩ => ⟨S8x1x256x512, .bf16⟩
  | .local _ .vmem, ⟨20, _⟩ => ⟨S8x1x256x256, .bf16⟩
  | .local _ .vmem, ⟨21, _⟩ => ⟨S8x1x256x256, .bf16⟩
  | .local _ .vmem, ⟨22, _⟩ => ⟨S8x4x8x128, .f32⟩
  | .local _ .vmem, ⟨23, _⟩ => ⟨S8x4x8x128, .f32⟩
  | .local _ .vmem, ⟨24, _⟩ => ⟨S8x256x512, .bf16⟩
  | .local _ .vmem, ⟨25, _⟩ => ⟨S8x256x512, .bf16⟩
  | .local _ .vmem, ⟨26, _⟩ => ⟨S8x256x512, .bf16⟩
  | .local _ .vmem, ⟨27, _⟩ => ⟨S8x256x512, .bf16⟩
  | .local _ .vmem, ⟨28, _⟩ => ⟨S8x8x128x128, .f32⟩
  | _, _ => ⟨S8x2x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![1, 33], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![arg0.toNat, c0_i32_3.toNat, v10.toNat, c0_i32_4.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![arg0.toNat, c0_i32_3.toNat, v10.toNat, c0_i32_4.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![arg0.toNat, c0_i32_3.toNat, v10.toNat, c0_i32_4.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![arg0.toNat, c0_i32_3.toNat, v10.toNat, c0_i32_4.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![arg0.toNat, c0_i32_3.toNat, v10.toNat, c0_i32_4.toNat]

def cc0_transform_5 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![arg0.toNat, v10.toNat, c0_i32_3.toNat, c0_i32_4.toNat]

def cc0_transform_6 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![arg0.toNat, c1_i32.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![arg0.toNat, c1_i32.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![arg0.toNat, c1_i32.toNat, v0.toNat, c0_i32.toNat]

def cc0_transform_9 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![arg0.toNat, c1_i32.toNat, v0.toNat, c0_i32.toNat]

def cc0_transform_10 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let c0_i32 : BitVec 32 := 0#32
  let c0_i32_0 : BitVec 32 := 0#32
  ![arg0.toNat, c1_i32.toNat, v0.toNat, c0_i32.toNat]

def cc0_transform_11 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c33_i32 : BitVec 32 := 33#32
  let c0_i32 : BitVec 32 := 0#32
  let v1 : BitVec 1 := Scalar.cmpi .eq c33_i32 c0_i32
  let c1_i32 : BitVec 32 := 1#32
  let v2 : BitVec 32 := Scalar.select v1 c1_i32 c33_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![arg0.toNat, v10.toNat, c0_i32_3.toNat]

def cc0_transform_13 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

abbrev stage0_0 : Fin 2 → Memref sig .tc .vmem S8x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x4x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RefIdeal.lean ====
abbrev S8x2x8448x512 : Shape := ⟨4, ![8, 2, 8448, 512]⟩
abbrev S8x2x8448x256 : Shape := ⟨4, ![8, 2, 8448, 256]⟩
abbrev S8x132x8x128 : Shape := ⟨4, ![8, 132, 8, 128]⟩
abbrev S8x132x2x4x128 : Shape := ⟨5, ![8, 132, 2, 4, 128]⟩
abbrev S132x2x8x4x128 : Shape := ⟨5, ![132, 2, 8, 4, 128]⟩
abbrev S4x1x8x4x128 : Shape := ⟨5, ![4, 1, 8, 4, 128]⟩
abbrev S4x8x4x128 : Shape := ⟨4, ![4, 8, 4, 128]⟩
abbrev S128x1x8x4x128 : Shape := ⟨5, ![128, 1, 8, 4, 128]⟩
abbrev S128x8x4x128 : Shape := ⟨4, ![128, 8, 4, 128]⟩
abbrev S132x8x4x128 : Shape := ⟨4, ![132, 8, 4, 128]⟩
abbrev S132x1x8x4x128 : Shape := ⟨5, ![132, 1, 8, 4, 128]⟩
abbrev S_ : Shape := ⟨0, ![]⟩
abbrev S2x8x4x128x128 : Shape := ⟨5, ![2, 8, 4, 128, 128]⟩
abbrev S8x2x132x64x4x128 : Shape := ⟨6, ![8, 2, 132, 64, 4, 128]⟩
abbrev S132x2x8x4x64x128 : Shape := ⟨6, ![132, 2, 8, 4, 64, 128]⟩
abbrev S4x1x8x4x64x128 : Shape := ⟨6, ![4, 1, 8, 4, 64, 128]⟩
abbrev S4x8x4x64x128 : Shape := ⟨5, ![4, 8, 4, 64, 128]⟩
abbrev S128x1x8x4x64x128 : Shape := ⟨6, ![128, 1, 8, 4, 64, 128]⟩
abbrev S128x8x4x64x128 : Shape := ⟨5, ![128, 8, 4, 64, 128]⟩
abbrev S132x8x4x64x128 : Shape := ⟨5, ![132, 8, 4, 64, 128]⟩
abbrev S132x1x8x4x64x128 : Shape := ⟨6, ![132, 1, 8, 4, 64, 128]⟩
abbrev S8x2x132x64x4x64 : Shape := ⟨6, ![8, 2, 132, 64, 4, 64]⟩
abbrev S132x2x8x4x64x64 : Shape := ⟨6, ![132, 2, 8, 4, 64, 64]⟩
abbrev S4x1x8x4x64x64 : Shape := ⟨6, ![4, 1, 8, 4, 64, 64]⟩
abbrev S4x8x4x64x64 : Shape := ⟨5, ![4, 8, 4, 64, 64]⟩
abbrev S128x1x8x4x64x64 : Shape := ⟨6, ![128, 1, 8, 4, 64, 64]⟩
abbrev S128x8x4x64x64 : Shape := ⟨5, ![128, 8, 4, 64, 64]⟩
abbrev S132x8x4x64x64 : Shape := ⟨5, ![132, 8, 4, 64, 64]⟩
abbrev S132x1x8x4x64x64 : Shape := ⟨6, ![132, 1, 8, 4, 64, 64]⟩
abbrev S1x2x8x4x64x128 : Shape := ⟨6, ![1, 2, 8, 4, 64, 128]⟩
abbrev S2x8x4x64x128 : Shape := ⟨5, ![2, 8, 4, 64, 128]⟩
abbrev S1x2x8x4x64x64 : Shape := ⟨6, ![1, 2, 8, 4, 64, 64]⟩
abbrev S2x8x4x64x64 : Shape := ⟨5, ![2, 8, 4, 64, 64]⟩
abbrev S1x2x8x4x128 : Shape := ⟨5, ![1, 2, 8, 4, 128]⟩
abbrev S2x8x4x128 : Shape := ⟨4, ![2, 8, 4, 128]⟩
abbrev S2x8x4x1x128 : Shape := ⟨5, ![2, 8, 4, 1, 128]⟩
abbrev S8x132x64x4x128 : Shape := ⟨5, ![8, 132, 64, 4, 128]⟩
abbrev S8x8448x512 : Shape := ⟨3, ![8, 8448, 512]⟩

abbrev nBuf : Space → Nat
  | .hbm => 179
  | .vmem => 0
  | .smem => 0
  | _ => 0

abbrev hbmTy0_0 (i : Nat) : BufTy := match i % 128 with
  | 0 => ⟨S8x2x8448x512, .bf16⟩
  | 1 => ⟨S8x2x8448x512, .bf16⟩
  | 2 => ⟨S8x2x8448x512, .bf16⟩
  | 3 => ⟨S8x2x8448x512, .bf16⟩
  | 4 => ⟨S8x2x8448x256, .bf16⟩
  | 5 => ⟨S8x132x8x128, .f32⟩
  | 6 => ⟨S8x132x2x4x128, .f32⟩
  | 7 => ⟨S132x2x8x4x128, .f32⟩
  | 8 => ⟨S4x1x8x4x128, .f32⟩
  | 9 => ⟨S4x8x4x128, .f32⟩
  | 10 => ⟨S128x1x8x4x128, .f32⟩
  | 11 => ⟨S128x8x4x128, .f32⟩
  | 12 => ⟨S132x8x4x128, .f32⟩
  | 13 => ⟨S132x1x8x4x128, .f32⟩
  | 14 => ⟨S132x8x4x128, .f32⟩
  | 15 => ⟨S132x8x4x128, .f32⟩
  | 16 => ⟨S132x1x8x4x128, .f32⟩
  | 17 => ⟨S132x1x8x4x128, .f32⟩
  | 18 => ⟨S132x2x8x4x128, .f32⟩
  | 19 => ⟨S_, .f32⟩
  | 20 => ⟨S2x8x4x128x128, .f32⟩
  | 21 => ⟨S8x2x8448x512, .f32⟩
  | 22 => ⟨S8x2x132x64x4x128, .f32⟩
  | 23 => ⟨S132x2x8x4x64x128, .f32⟩
  | 24 => ⟨S4x1x8x4x64x128, .f32⟩
  | 25 => ⟨S4x8x4x64x128, .f32⟩
  | 26 => ⟨S128x1x8x4x64x128, .f32⟩
  | 27 => ⟨S128x8x4x64x128, .f32⟩
  | 28 => ⟨S132x8x4x64x128, .f32⟩
  | 29 => ⟨S132x1x8x4x64x128, .f32⟩
  | 30 => ⟨S132x8x4x64x128, .f32⟩
  | 31 => ⟨S132x8x4x64x128, .f32⟩
  | 32 => ⟨S132x1x8x4x64x128, .f32⟩
  | 33 => ⟨S132x1x8x4x64x128, .f32⟩
  | 34 => ⟨S132x2x8x4x64x128, .f32⟩
  | 35 => ⟨S8x2x8448x512, .f32⟩
  | 36 => ⟨S8x2x132x64x4x128, .f32⟩
  | 37 => ⟨S132x2x8x4x64x128, .f32⟩
  | 38 => ⟨S4x1x8x4x64x128, .f32⟩
  | 39 => ⟨S4x8x4x64x128, .f32⟩
  | 40 => ⟨S128x1x8x4x64x128, .f32⟩
  | 41 => ⟨S128x8x4x64x128, .f32⟩
  | 42 => ⟨S132x8x4x64x128, .f32⟩
  | 43 => ⟨S132x1x8x4x64x128, .f32⟩
  | 44 => ⟨S132x8x4x64x128, .f32⟩
  | 45 => ⟨S132x8x4x64x128, .f32⟩
  | 46 => ⟨S132x1x8x4x64x128, .f32⟩
  | 47 => ⟨S132x1x8x4x64x128, .f32⟩
  | 48 => ⟨S132x2x8x4x64x128, .f32⟩
  | 49 => ⟨S8x2x8448x512, .f32⟩
  | 50 => ⟨S8x2x132x64x4x128, .f32⟩
  | 51 => ⟨S132x2x8x4x64x128, .f32⟩
  | 52 => ⟨S4x1x8x4x64x128, .f32⟩
  | 53 => ⟨S4x8x4x64x128, .f32⟩
  | 54 => ⟨S128x1x8x4x64x128, .f32⟩
  | 55 => ⟨S128x8x4x64x128, .f32⟩
  | 56 => ⟨S132x8x4x64x128, .f32⟩
  | 57 => ⟨S132x1x8x4x64x128, .f32⟩
  | 58 => ⟨S132x8x4x64x128, .f32⟩
  | 59 => ⟨S132x8x4x64x128, .f32⟩
  | 60 => ⟨S132x1x8x4x64x128, .f32⟩
  | 61 => ⟨S132x1x8x4x64x128, .f32⟩
  | 62 => ⟨S132x2x8x4x64x128, .f32⟩
  | 63 => ⟨S8x2x8448x512, .f32⟩
  | 64 => ⟨S8x2x132x64x4x128, .f32⟩
  | 65 => ⟨S132x2x8x4x64x128, .f32⟩
  | 66 => ⟨S4x1x8x4x64x128, .f32⟩
  | 67 => ⟨S4x8x4x64x128, .f32⟩
  | 68 => ⟨S128x1x8x4x64x128, .f32⟩
  | 69 => ⟨S128x8x4x64x128, .f32⟩
  | 70 => ⟨S132x8x4x64x128, .f32⟩
  | 71 => ⟨S132x1x8x4x64x128, .f32⟩
  | 72 => ⟨S132x8x4x64x128, .f32⟩
  | 73 => ⟨S132x8x4x64x128, .f32⟩
  | 74 => ⟨S132x1x8x4x64x128, .f32⟩
  | 75 => ⟨S132x1x8x4x64x128, .f32⟩
  | 76 => ⟨S132x2x8x4x64x128, .f32⟩
  | 77 => ⟨S8x2x8448x256, .f32⟩
  | 78 => ⟨S8x2x132x64x4x64, .f32⟩
  | 79 => ⟨S132x2x8x4x64x64, .f32⟩
  | 80 => ⟨S4x1x8x4x64x64, .f32⟩
  | 81 => ⟨S4x8x4x64x64, .f32⟩
  | 82 => ⟨S128x1x8x4x64x64, .f32⟩
  | 83 => ⟨S128x8x4x64x64, .f32⟩
  | 84 => ⟨S132x8x4x64x64, .f32⟩
  | 85 => ⟨S132x1x8x4x64x64, .f32⟩
  | 86 => ⟨S132x8x4x64x64, .f32⟩
  | 87 => ⟨S132x8x4x64x64, .f32⟩
  | 88 => ⟨S132x1x8x4x64x64, .f32⟩
  | 89 => ⟨S132x1x8x4x64x64, .f32⟩
  | 90 => ⟨S132x2x8x4x64x64, .f32⟩
  | 91 => ⟨S_, .f32⟩
  | 92 => ⟨S132x2x8x4x64x128, .f32⟩
  | 93 => ⟨S_, .i32⟩
  | 94 => ⟨S132x2x8x4x64x128, .f32⟩
  | 95 => ⟨S132x2x8x4x64x128, .f32⟩
  | 96 => ⟨S132x2x8x4x64x128, .f32⟩
  | 97 => ⟨S132x2x8x4x64x128, .f32⟩
  | 98 => ⟨S132x2x8x4x64x64, .f32⟩
  | 99 => ⟨S132x2x8x4x128, .f32⟩
  | 100 => ⟨S_, .i32⟩
  | 101 => ⟨S2x8x4x128x128, .f32⟩
  | 102 => ⟨S132x2x8x4x64x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x2x8x4x64x128, .f32⟩
  | 111 => ⟨S2x8x4x64x128, .f32⟩
  | 112 => ⟨S_, .i32⟩
  | 113 => ⟨S_, .i32⟩
  | 114 => ⟨S_, .i32⟩
  | 115 => ⟨S_, .i32⟩
  | 116 => ⟨S_, .i32⟩
  | 117 => ⟨S1x2x8x4x64x128, .f32⟩
  | 118 => ⟨S2x8x4x64x128, .f32⟩
  | 119 => ⟨S_, .i32⟩
  | 120 => ⟨S_, .i32⟩
  | 121 => ⟨S_, .i32⟩
  | 122 => ⟨S_, .i32⟩
  | 123 => ⟨S_, .i32⟩
  | 124 => ⟨S1x2x8x4x64x128, .f32⟩
  | 125 => ⟨S2x8x4x64x128, .f32⟩
  | 126 => ⟨S_, .i32⟩
  | 127 => ⟨S_, .i32⟩
  | _ => ⟨S8x2x8448x512, .bf16⟩

abbrev hbmTy0_1 (i : Nat) : BufTy := match i % 128 with
  | 0 => ⟨S_, .i32⟩
  | 1 => ⟨S_, .i32⟩
  | 2 => ⟨S_, .i32⟩
  | 3 => ⟨S1x2x8x4x64x128, .f32⟩
  | 4 => ⟨S2x8x4x64x128, .f32⟩
  | 5 => ⟨S_, .i32⟩
  | 6 => ⟨S_, .i32⟩
  | 7 => ⟨S_, .i32⟩
  | 8 => ⟨S_, .i32⟩
  | 9 => ⟨S_, .i32⟩
  | 10 => ⟨S1x2x8x4x64x64, .f32⟩
  | 11 => ⟨S2x8x4x64x64, .f32⟩
  | 12 => ⟨S_, .i32⟩
  | 13 => ⟨S_, .i32⟩
  | 14 => ⟨S_, .i32⟩
  | 15 => ⟨S_, .i32⟩
  | 16 => ⟨S1x2x8x4x128, .f32⟩
  | 17 => ⟨S2x8x4x128, .f32⟩
  | 18 => ⟨S2x8x4x64x128, .f32⟩
  | 19 => ⟨S2x8x4x64x128, .f32⟩
  | 20 => ⟨S2x8x4x64x128, .f32⟩
  | 21 => ⟨S2x8x4x64x128, .f32⟩
  | 22 => ⟨S2x8x4x64x128, .f32⟩
  | 23 => ⟨S2x8x4x1x128, .f32⟩
  | 24 => ⟨S2x8x4x128x128, .f32⟩
  | 25 => ⟨S2x8x4x128x128, .f32⟩
  | 26 => ⟨S2x8x4x128x128, .f32⟩
  | 27 => ⟨S2x8x4x128x128, .f32⟩
  | 28 => ⟨S1x2x8x4x64x128, .f32⟩
  | 29 => ⟨S_, .i32⟩
  | 30 => ⟨S_, .i32⟩
  | 31 => ⟨S_, .i32⟩
  | 32 => ⟨S_, .i32⟩
  | 33 => ⟨S_, .i32⟩
  | 34 => ⟨S132x2x8x4x64x128, .f32⟩
  | 35 => ⟨S_, .i32⟩
  | 36 => ⟨S_, .i32⟩
  | 37 => ⟨S128x1x8x4x64x128, .f32⟩
  | 38 => ⟨S128x8x4x64x128, .f32⟩
  | 39 => ⟨S4x1x8x4x64x128, .f32⟩
  | 40 => ⟨S4x8x4x64x128, .f32⟩
  | 41 => ⟨S132x8x4x64x128, .f32⟩
  | 42 => ⟨S8x132x64x4x128, .f32⟩
  | 43 => ⟨S8x8448x512, .f32⟩
  | 44 => ⟨S8x8448x512, .bf16⟩
  | 45 => ⟨S132x1x8x4x64x128, .f32⟩
  | 46 => ⟨S132x8x4x64x128, .f32⟩
  | 47 => ⟨S132x8x4x64x128, .f32⟩
  | 48 => ⟨S8x132x64x4x128, .f32⟩
  | 49 => ⟨S8x8448x512, .f32⟩
  | 50 => ⟨S8x8448x512, .bf16⟩
  | _ => ⟨S8x2x8448x512, .bf16⟩

abbrev hbmTy (i : Nat) : BufTy := match i / 128 with
  | 0 => hbmTy0_0 i
  | 1 => hbmTy0_1 i
  | _ => ⟨S8x2x8448x512, .bf16⟩

abbrev bufTy : (tb : Table) → Fin (tcTables nBuf tb) → BufTy
  | .hbm, ⟨i, _⟩ => hbmTy i
  | _, _ => ⟨S8x2x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_cst_0 : Ref sig .tc := ⟨.hbm, 91, rfl⟩
abbrev main_v84 : Ref sig .tc := ⟨.hbm, 92, rfl⟩
abbrev main_c : Ref sig .tc := ⟨.hbm, 93, rfl⟩
abbrev main_v85_0 : Ref sig .tc := ⟨.hbm, 94, rfl⟩
abbrev main_v85_1 : Ref sig .tc := ⟨.hbm, 95, rfl⟩
abbrev main_v85_2 : Ref sig .tc := ⟨.hbm, 96, rfl⟩
abbrev main_v85_3 : Ref sig .tc := ⟨.hbm, 97, rfl⟩
abbrev main_v85_4 : Ref sig .tc := ⟨.hbm, 98, rfl⟩
abbrev main_v85_5 : Ref sig .tc := ⟨.hbm, 99, rfl⟩
abbrev main_v85_6 : Ref sig .tc := ⟨.hbm, 100, rfl⟩
abbrev main_v85_7 : Ref sig .tc := ⟨.hbm, 101, rfl⟩
abbrev main_v85_8 : Ref sig .tc := ⟨.hbm, 102, rfl⟩
abbrev main_while0c_c_9 : Ref sig .tc := ⟨.hbm, 103, rfl⟩
abbrev main_while0c_v100 : Ref sig .tc := ⟨.hbm, 104, rfl⟩
abbrev main_while0b_call6_c : Ref sig .tc := ⟨.hbm, 105, rfl⟩
abbrev main_while0b_call6_c_0 : Ref sig .tc := ⟨.hbm, 106, rfl⟩
abbrev main_while0b_call6_c_1 : Ref sig .tc := ⟨.hbm, 107, rfl⟩
abbrev main_while0b_call6_c_2 : Ref sig .tc := ⟨.hbm, 108, rfl⟩
abbrev main_while0b_call6_c_3 : Ref sig .tc := ⟨.hbm, 109, rfl⟩
abbrev main_while0b_call6_v0 : Ref sig .tc := ⟨.hbm, 110, rfl⟩
abbrev main_while0b_v100 : Ref sig .tc := ⟨.hbm, 111, rfl⟩
abbrev main_while0b_call7_c : Ref sig .tc := ⟨.hbm, 112, rfl⟩
abbrev main_while0b_call7_c_0 : Ref sig .tc := ⟨.hbm, 113, rfl⟩
abbrev main_while0b_call7_c_1 : Ref sig .tc := ⟨.hbm, 114, rfl⟩
abbrev main_while0b_call7_c_2 : Ref sig .tc := ⟨.hbm, 115, rfl⟩
abbrev main_while0b_call7_c_3 : Ref sig .tc := ⟨.hbm, 116, rfl⟩
abbrev main_while0b_call7_v0 : Ref sig .tc := ⟨.hbm, 117, rfl⟩
abbrev main_while0b_v101 : Ref sig .tc := ⟨.hbm, 118, rfl⟩
abbrev main_while0b_call8_c : Ref sig .tc := ⟨.hbm, 119, rfl⟩
abbrev main_while0b_call8_c_0 : Ref sig .tc := ⟨.hbm, 120, rfl⟩
abbrev main_while0b_call8_c_1 : Ref sig .tc := ⟨.hbm, 121, rfl⟩
abbrev main_while0b_call8_c_2 : Ref sig .tc := ⟨.hbm, 122, rfl⟩
abbrev main_while0b_call8_c_3 : Ref sig .tc := ⟨.hbm, 123, rfl⟩
abbrev main_while0b_call8_v0 : Ref sig .tc := ⟨.hbm, 124, rfl⟩
abbrev main_while0b_v102 : Ref sig .tc := ⟨.hbm, 125, rfl⟩
abbrev main_while0b_call9_c : Ref sig .tc := ⟨.hbm, 126, rfl⟩
abbrev main_while0b_call9_c_0 : Ref sig .tc := ⟨.hbm, 127, rfl⟩
abbrev main_while0b_call9_c_1 : Ref sig .tc := ⟨.hbm, 128, rfl⟩
abbrev main_while0b_call9_c_2 : Ref sig .tc := ⟨.hbm, 129, rfl⟩
abbrev main_while0b_call9_c_3 : Ref sig .tc := ⟨.hbm, 130, rfl⟩
abbrev main_while0b_call9_v0 : Ref sig .tc := ⟨.hbm, 131, rfl⟩
abbrev main_while0b_v103 : Ref sig .tc := ⟨.hbm, 132, rfl⟩
abbrev main_while0b_call10_c : Ref sig .tc := ⟨.hbm, 133, rfl⟩
abbrev main_while0b_call10_c_0 : Ref sig .tc := ⟨.hbm, 134, rfl⟩
abbrev main_while0b_call10_c_1 : Ref sig .tc := ⟨.hbm, 135, rfl⟩
abbrev main_while0b_call10_c_2 : Ref sig .tc := ⟨.hbm, 136, rfl⟩
abbrev main_while0b_call10_c_3 : Ref sig .tc := ⟨.hbm, 137, rfl⟩
abbrev main_while0b_call10_v0 : Ref sig .tc := ⟨.hbm, 138, rfl⟩
abbrev main_while0b_v104 : Ref sig .tc := ⟨.hbm, 139, rfl⟩
abbrev main_while0b_call11_c : Ref sig .tc := ⟨.hbm, 140, rfl⟩
abbrev main_while0b_call11_c_0 : Ref sig .tc := ⟨.hbm, 141, rfl⟩
abbrev main_while0b_call11_c_1 : Ref sig .tc := ⟨.hbm, 142, rfl⟩
abbrev main_while0b_call11_c_2 : Ref sig .tc := ⟨.hbm, 143, rfl⟩
abbrev main_while0b_call11_v0 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_call12_v0 : Ref sig .tc := ⟨.hbm, 156, rfl⟩
abbrev main_while0b_call12_c : Ref sig .tc := ⟨.hbm, 157, rfl⟩
abbrev main_while0b_call12_c_0 : Ref sig .tc := ⟨.hbm, 158, rfl⟩
abbrev main_while0b_call12_c_1 : Ref sig .tc := ⟨.hbm, 159, rfl⟩
abbrev main_while0b_call12_c_2 : Ref sig .tc := ⟨.hbm, 160, rfl⟩
abbrev main_while0b_call12_c_3 : Ref sig .tc := ⟨.hbm, 161, rfl⟩
abbrev main_while0b_v116 : Ref sig .tc := ⟨.hbm, 162, rfl⟩
abbrev main_while0b_c_9 : Ref sig .tc := ⟨.hbm, 163, rfl⟩
abbrev main_while0b_v117 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩

abbrev nD : Nat := 1
abbrev τ : Topo := Topo.v7x

variable {F : FTy → Type} [FloatOps F]

abbrev main_while0_count : Scf.Loop 32 := ⟨0#32, 132#32, 1#32⟩
-- ==== Ffn.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S2x256x1024 : Shape := ⟨3, ![2, 256, 1024]⟩
abbrev S2x1x6x1024 : Shape := ⟨4, ![2, 1, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 11
  | .vmem => 10
  | .smem => 0
  | _ => 0

abbrev bufTy : (tb : Table) → Fin (tcTables nBuf tb) → BufTy
  | .hbm, ⟨0, _⟩ => ⟨S8x8448x1024, .f32⟩
  | .hbm, ⟨1, _⟩ => ⟨S8x2x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S8x8448x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x1x6x1024, .f32⟩
  | .local _ .vmem, ⟨3, _⟩ => ⟨S2x1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S2x256x1024, .f32⟩
  | .local _ .vmem, ⟨9, _⟩ => ⟨S2x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x5632 : Shape := ⟨2, ![1024, 5632]⟩
abbrev S2816x1024 : Shape := ⟨2, ![2816, 1024]⟩
abbrev S8x8192x1024 : Shape := ⟨3, ![8, 8192, 1024]⟩
abbrev S8x1x6x1024 : Shape := ⟨4, ![8, 1, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x256x1024 : Shape := ⟨3, ![8, 256, 1024]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩

abbrev nBuf : Space → Nat
  | .hbm => 111
  | .vmem => 0
  | .smem => 0
  | _ => 0

abbrev bufTy : (tb : Table) → Fin (tcTables nBuf tb) → BufTy
  | .hbm, ⟨0, _⟩ => ⟨S8x8448x1024, .f32⟩
  | .hbm, ⟨1, _⟩ => ⟨S8x2x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x8192x1024, .f32⟩
  | .hbm, ⟨7, _⟩ => ⟨S8x1x6x1024, .f32⟩
  | .hbm, ⟨8, _⟩ => ⟨S8x6x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x8192x1024, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x5632, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S8x8192x2816, .f32⟩
  | .hbm, ⟨46, _⟩ => ⟨S_, .f32⟩
  | .hbm, ⟨47, _⟩ => ⟨S8x8192x2816, .f32⟩
  | .hbm, ⟨48, _⟩ => ⟨S8x8192x2816, .f32⟩
  | .hbm, ⟨49, _⟩ => ⟨S_, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S8x8192x2816, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S8x256x1024, .f32⟩
  | .hbm, ⟨59, _⟩ => ⟨S8x1x6x1024, .f32⟩
  | .hbm, ⟨60, _⟩ => ⟨S8x6x1024, .f32⟩
  | .hbm, ⟨61, _⟩ => ⟨S8x1x1024, .f32⟩
  | .hbm, ⟨62, _⟩ => ⟨S8x1024, .f32⟩
  | .hbm, ⟨63, _⟩ => ⟨S8x1x1024, .f32⟩
  | .hbm, ⟨64, _⟩ => ⟨S8x1x1024, .f32⟩
  | .hbm, ⟨65, _⟩ => ⟨S8x1024, .f32⟩
  | .hbm, ⟨66, _⟩ => ⟨S8x1x1024, .f32⟩
  | .hbm, ⟨67, _⟩ => ⟨S8x1x1024, .f32⟩
  | .hbm, ⟨68, _⟩ => ⟨S8x1024, .f32⟩
  | .hbm, ⟨69, _⟩ => ⟨S8x1x1024, .f32⟩
  | .hbm, ⟨70, _⟩ => ⟨S8x256x1024, .f32⟩
  | .hbm, ⟨71, _⟩ => ⟨S_, .f32⟩
  | .hbm, ⟨72, _⟩ => ⟨S8x256, .f32⟩
  | .hbm, ⟨73, _⟩ => ⟨S8x256x1, .f32⟩
  | .hbm, ⟨74, _⟩ => ⟨S_, .f32⟩
  | .hbm, ⟨75, _⟩ => ⟨S8x256x1, .f32⟩
  | .hbm, ⟨76, _⟩ => ⟨S8x256x1, .f32⟩
  | .hbm, ⟨77, _⟩ => ⟨S_, .f32⟩
  | .hbm, ⟨78, _⟩ => ⟨S8x256x1, .f32⟩
  | .hbm, ⟨79, _⟩ => ⟨S8x256x1, .f32⟩
  | .hbm, ⟨80, _⟩ => ⟨S8x256x1, .f32⟩
  | .hbm, ⟨81, _⟩ => ⟨S8x256x1024, .f32⟩
  | .hbm, ⟨82, _⟩ => ⟨S8x256x1024, .f32⟩
  | .hbm, ⟨83, _⟩ => ⟨S1x1x1024, .f32⟩
  | .hbm, ⟨84, _⟩ => ⟨S8x256x1024, .f32⟩
  | .hbm, ⟨85, _⟩ => ⟨S8x256x1024, .f32⟩
  | .hbm, ⟨86, _⟩ => ⟨S_, .f32⟩
  | .hbm, ⟨87, _⟩ => ⟨S8x1x1024, .f32⟩
  | .hbm, ⟨88, _⟩ => ⟨S8x1x1024, .f32⟩
  | .hbm, ⟨89, _⟩ => ⟨S8x256x1024, .f32⟩
  | .hbm, ⟨90, _⟩ => ⟨S8x256x1024, .f32⟩
  | .hbm, ⟨91, _⟩ => ⟨S8x256x1024, .f32⟩
  | .hbm, ⟨92, _⟩ => ⟨S8x256x1024, .f32⟩
  | .hbm, ⟨93, _⟩ => ⟨S8x256x5632, .f32⟩
  | .hbm, ⟨94, _⟩ => ⟨S8x256x2816, .f32⟩
  | .hbm, ⟨95, _⟩ => ⟨S8x256x2816, .f32⟩
  | .hbm, ⟨96, _⟩ => ⟨S8x256x2816, .f32⟩
  | .hbm, ⟨97, _⟩ => ⟨S8x256x2816, .f32⟩
  | .hbm, ⟨98, _⟩ => ⟨S_, .f32⟩
  | .hbm, ⟨99, _⟩ => ⟨S8x256x2816, .f32⟩
  | .hbm, ⟨100, _⟩ => ⟨S8x256x2816, .f32⟩
  | .hbm, ⟨101, _⟩ => ⟨S_, .f32⟩
  | .hbm, ⟨102, _⟩ => ⟨S8x256x2816, .f32⟩
  | .hbm, ⟨103, _⟩ => ⟨S8x256x2816, .f32⟩
  | .hbm, ⟨104, _⟩ => ⟨S8x256x2816, .f32⟩
  | .hbm, ⟨105, _⟩ => ⟨S8x256x2816, .f32⟩
  | .hbm, ⟨106, _⟩ => ⟨S8x256x1024, .f32⟩
  | .hbm, ⟨107, _⟩ => ⟨S8x256x1024, .f32⟩
  | .hbm, ⟨108, _⟩ => ⟨S8x256x1024, .f32⟩
  | .hbm, ⟨109, _⟩ => ⟨S8x256x1024, .f32⟩
  | .hbm, ⟨110, _⟩ => ⟨S8x8448x1024, .f32⟩
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_3 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== FfnLast.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S8x8192x1024 : Shape := ⟨3, ![8, 8192, 1024]⟩
abbrev S2x256x1024 : Shape := ⟨3, ![2, 256, 1024]⟩
abbrev S2x1x6x1024 : Shape := ⟨4, ![2, 1, 6, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 11
  | .vmem => 10
  | .smem => 0
  | _ => 0

abbrev bufTy : (tb : Table) → Fin (tcTables nBuf tb) → BufTy
  | .hbm, ⟨0, _⟩ => ⟨S8x8448x1024, .f32⟩
  | .hbm, ⟨1, _⟩ => ⟨S8x2x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S8x8192x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x1x6x1024, .f32⟩
  | .local _ .vmem, ⟨3, _⟩ => ⟨S2x1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S2x256x1024, .f32⟩
  | .local _ .vmem, ⟨9, _⟩ => ⟨S2x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnLastRefIdeal.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x5632 : Shape := ⟨2, ![1024, 5632]⟩
abbrev S2816x1024 : Shape := ⟨2, ![2816, 1024]⟩
abbrev S8x8192x1024 : Shape := ⟨3, ![8, 8192, 1024]⟩
abbrev S8x1x6x1024 : Shape := ⟨4, ![8, 1, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩

abbrev nBuf : Space → Nat
  | .hbm => 74
  | .vmem => 0
  | .smem => 0
  | _ => 0

abbrev bufTy : (tb : Table) → Fin (tcTables nBuf tb) → BufTy
  | .hbm, ⟨0, _⟩ => ⟨S8x8448x1024, .f32⟩
  | .hbm, ⟨1, _⟩ => ⟨S8x2x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x8192x1024, .f32⟩
  | .hbm, ⟨7, _⟩ => ⟨S8x1x6x1024, .f32⟩
  | .hbm, ⟨8, _⟩ => ⟨S8x6x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x8192x1024, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x5632, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S8x8192x2816, .f32⟩
  | .hbm, ⟨46, _⟩ => ⟨S_, .f32⟩
  | .hbm, ⟨47, _⟩ => ⟨S8x8192x2816, .f32⟩
  | .hbm, ⟨48, _⟩ => ⟨S8x8192x2816, .f32⟩
  | .hbm, ⟨49, _⟩ => ⟨S_, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S8x8192x2816, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S8x8192x1, .f32⟩
  | .hbm, ⟨69, _⟩ => ⟨S8x8192x1024, .f32⟩
  | .hbm, ⟨70, _⟩ => ⟨S8x8192x1024, .f32⟩
  | .hbm, ⟨71, _⟩ => ⟨S1x1x1024, .f32⟩
  | .hbm, ⟨72, _⟩ => ⟨S8x8192x1024, .f32⟩
  | .hbm, ⟨73, _⟩ => ⟨S8x8192x1024, .f32⟩
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Merge.lean ====
abbrev S8x8192x1024 : Shape := ⟨3, ![8, 8192, 1024]⟩
abbrev S8x256x1024 : Shape := ⟨3, ![8, 256, 1024]⟩
abbrev S8x2x6x1024 : Shape := ⟨4, ![8, 2, 6, 1024]⟩
abbrev S1024 : Shape := ⟨1, ![1024]⟩
abbrev S8x8448x512 : Shape := ⟨3, ![8, 8448, 512]⟩
abbrev S8x8192x512 : Shape := ⟨3, ![8, 8192, 512]⟩
abbrev S8x256x512 : Shape := ⟨3, ![8, 256, 512]⟩
abbrev S1024x3072 : Shape := ⟨2, ![1024, 3072]⟩
abbrev S3072 : Shape := ⟨1, ![3072]⟩
abbrev S128 : Shape := ⟨1, ![128]⟩
abbrev S512x1024 : Shape := ⟨2, ![512, 1024]⟩
abbrev S1024x1024 : Shape := ⟨2, ![1024, 1024]⟩
abbrev S1x1024 : Shape := ⟨2, ![1, 1024]⟩
abbrev S1x3072 : Shape := ⟨2, ![1, 3072]⟩
abbrev S1x128 : Shape := ⟨2, ![1, 128]⟩
abbrev S8x8448x1024 : Shape := ⟨3, ![8, 8448, 1024]⟩
abbrev S2x256x1024 : Shape := ⟨3, ![2, 256, 1024]⟩
abbrev S2x1x6x1024 : Shape := ⟨4, ![2, 1, 6, 1024]⟩
abbrev S2x256x512 : Shape := ⟨3, ![2, 256, 512]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x3072 : Shape := ⟨2, ![256, 3072]⟩
abbrev S1x256x512 : Shape := ⟨3, ![1, 256, 512]⟩
abbrev S256x512 : Shape := ⟨2, ![256, 512]⟩
abbrev S256x128 : Shape := ⟨2, ![256, 128]⟩

abbrev nBuf : Space → Nat
  | .hbm => 26
  | .vmem => 28
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S8x2x6x1024, .f32⟩
  | .hbm, ⟨3, _⟩ => ⟨S1024, .f32⟩
  | .hbm, ⟨4, _⟩ => ⟨S8x8448x512, .bf16⟩
  | .hbm, ⟨5, _⟩ => ⟨S8x8448x512, .bf16⟩
  | .hbm, ⟨6, _⟩ => ⟨S8x8448x512, .f32⟩
  | .hbm, ⟨7, _⟩ => ⟨S8x8448x512, .bf16⟩
  | .hbm, ⟨8, _⟩ => ⟨S8x8192x512, .bf16⟩
  | .hbm, ⟨9, _⟩ => ⟨S8x256x512, .bf16⟩
  | .hbm, ⟨10, _⟩ => ⟨S1024x3072, .f32⟩
  | .hbm, ⟨11, _⟩ => ⟨S3072, .f32⟩
  | .hbm, ⟨12, _⟩ => ⟨S128, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1x1024, .f32⟩
  | .hbm, ⟨18, _⟩ => ⟨S1024x3072, .bf16⟩
  | .hbm, ⟨19, _⟩ => ⟨S1x3072, .f32⟩
  | .hbm, ⟨20, _⟩ => ⟨S1x128, .f32⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S8x8448x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x1x6x1024, .f32⟩
  | .local _ .vmem, ⟨5, _⟩ => ⟨S2x1x6x1024, .f32⟩
  | .local _ .vmem, ⟨6, _⟩ => ⟨S2x256x512, .bf16⟩
  | .local _ .vmem, ⟨7, _⟩ => ⟨S2x256x512, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .f32⟩
  | .local _ .vmem, ⟨11, _⟩ => ⟨S2x256x512, .f32⟩
  | .local _ .vmem, ⟨12, _⟩ => ⟨S2x256x512, .bf16⟩
  | .local _ .vmem, ⟨13, _⟩ => ⟨S2x256x512, .bf16⟩
  | .local _ .vmem, ⟨14, _⟩ => ⟨S2x256x512, .bf16⟩
  | .local _ .vmem, ⟨15, _⟩ => ⟨S2x256x512, .bf16⟩
  | .local _ .vmem, ⟨16, _⟩ => ⟨S2x256x512, .bf16⟩
  | .local _ .vmem, ⟨17, _⟩ => ⟨S2x256x512, .bf16⟩
  | .local _ .vmem, ⟨18, _⟩ => ⟨S1x1024, .f32⟩
  | .local _ .vmem, ⟨19, _⟩ => ⟨S1024x3072, .bf16⟩
  | .local _ .vmem, ⟨20, _⟩ => ⟨S1x3072, .f32⟩
  | .local _ .vmem, ⟨21, _⟩ => ⟨S1x128, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S2x256x1024, .f32⟩
  | .local _ .vmem, ⟨27, _⟩ => ⟨S2x256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeRefIdeal.lean ====
abbrev S8x8192x1024 : Shape := ⟨3, ![8, 8192, 1024]⟩
abbrev S8x256x1024 : Shape := ⟨3, ![8, 256, 1024]⟩
abbrev S8x2x6x1024 : Shape := ⟨4, ![8, 2, 6, 1024]⟩
abbrev S1024 : Shape := ⟨1, ![1024]⟩
abbrev S8x8448x512 : Shape := ⟨3, ![8, 8448, 512]⟩
abbrev S8x8192x512 : Shape := ⟨3, ![8, 8192, 512]⟩
abbrev S8x256x512 : Shape := ⟨3, ![8, 256, 512]⟩
abbrev S1024x3072 : Shape := ⟨2, ![1024, 3072]⟩
abbrev S3072 : Shape := ⟨1, ![3072]⟩
abbrev S128 : Shape := ⟨1, ![128]⟩
abbrev S512x1024 : Shape := ⟨2, ![512, 1024]⟩
abbrev S1024x1024 : Shape := ⟨2, ![1024, 1024]⟩
abbrev S8x1x6x1024 : Shape := ⟨4, ![8, 1, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192x3072 : Shape := ⟨3, ![8, 8192, 3072]⟩
abbrev S1x1x3072 : Shape := ⟨3, ![1, 1, 3072]⟩
abbrev S8x8192x3x1024 : Shape := ⟨4, ![8, 8192, 3, 1024]⟩
abbrev S8x8192x1x1024 : Shape := ⟨4, ![8, 8192, 1, 1024]⟩
abbrev S8x256 : Shape := ⟨2, ![8, 256]⟩
abbrev S8x256x1 : Shape := ⟨3, ![8, 256, 1]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S8x256x3072 : Shape := ⟨3, ![8, 256, 3072]⟩
abbrev S8x256x3x1024 : Shape := ⟨4, ![8, 256, 3, 1024]⟩
abbrev S8x256x1x1024 : Shape := ⟨4, ![8, 256, 1, 1024]⟩
abbrev S8x8448x1024 : Shape := ⟨3, ![8, 8448, 1024]⟩

abbrev nBuf : Space → Nat
  | .hbm => 224
  | .vmem => 0
  | .smem => 0
  | _ => 0

abbrev hbmTy0_0 (i : Nat) : BufTy := match i % 128 with
  | 0 => ⟨S8x8192x1024, .f32⟩
  | 1 => ⟨S8x256x1024, .f32⟩
  | 2 => ⟨S8x2x6x1024, .f32⟩
  | 3 => ⟨S1024, .f32⟩
  | 4 => ⟨S8x8448x512, .bf16⟩
  | 5 => ⟨S8x8448x512, .bf16⟩
  | 6 => ⟨S8x8448x512, .f32⟩
  | 7 => ⟨S8x8448x512, .bf16⟩
  | 8 => ⟨S8x8192x512, .bf16⟩
  | 9 => ⟨S8x256x512, .bf16⟩
  | 10 => ⟨S1024x3072, .f32⟩
  | 11 => ⟨S3072, .f32⟩
  | 12 => ⟨S128, .f32⟩
  | 13 => ⟨S512x1024, .f32⟩
  | 14 => ⟨S512x1024, .f32⟩
  | 15 => ⟨S512x1024, .f32⟩
  | 16 => ⟨S1024x1024, .f32⟩
  | 17 => ⟨S8x1x6x1024, .f32⟩
  | 18 => ⟨S8x6x1024, .f32⟩
  | 19 => ⟨S8x8192x512, .bf16⟩
  | 20 => ⟨S8x8192x512, .bf16⟩
  | 21 => ⟨S8x8192x512, .f32⟩
  | 22 => ⟨S8x8192x512, .bf16⟩
  | 23 => ⟨S8x1x1024, .f32⟩
  | 24 => ⟨S8x1024, .f32⟩
  | 25 => ⟨S8x1x1024, .f32⟩
  | 26 => ⟨S8x1x1024, .f32⟩
  | 27 => ⟨S8x1024, .f32⟩
  | 28 => ⟨S8x1x1024, .f32⟩
  | 29 => ⟨S8x1x1024, .f32⟩
  | 30 => ⟨S8x1024, .f32⟩
  | 31 => ⟨S8x1x1024, .f32⟩
  | 32 => ⟨S8x8192x1024, .f32⟩
  | 33 => ⟨S_, .f32⟩
  | 34 => ⟨S8x8192, .f32⟩
  | 35 => ⟨S8x8192x1, .f32⟩
  | 36 => ⟨S_, .f32⟩
  | 37 => ⟨S8x8192x1, .f32⟩
  | 38 => ⟨S8x8192x1, .f32⟩
  | 39 => ⟨S_, .f32⟩
  | 40 => ⟨S8x8192x1, .f32⟩
  | 41 => ⟨S8x8192x1, .f32⟩
  | 42 => ⟨S8x8192x1, .f32⟩
  | 43 => ⟨S8x8192x1024, .f32⟩
  | 44 => ⟨S8x8192x1024, .f32⟩
  | 45 => ⟨S1x1x1024, .f32⟩
  | 46 => ⟨S8x8192x1024, .f32⟩
  | 47 => ⟨S8x8192x1024, .f32⟩
  | 48 => ⟨S_, .f32⟩
  | 49 => ⟨S8x1x1024, .f32⟩
  | 50 => ⟨S8x1x1024, .f32⟩
  | 51 => ⟨S8x8192x1024, .f32⟩
  | 52 => ⟨S8x8192x1024, .f32⟩
  | 53 => ⟨S8x8192x1024, .f32⟩
  | 54 => ⟨S8x8192x1024, .f32⟩
  | 55 => ⟨S8x8192x512, .f32⟩
  | 56 => ⟨S8x8192x512, .f32⟩
  | 57 => ⟨S8x8192x512, .f32⟩
  | 58 => ⟨S8x8192x512, .f32⟩
  | 59 => ⟨S8x8192x512, .f32⟩
  | 60 => ⟨S8x8192x4x128, .f32⟩
  | 61 => ⟨S8x8192x4x128, .f32⟩
  | 62 => ⟨S8x8192x4x128, .f32⟩
  | 63 => ⟨S_, .f32⟩
  | 64 => ⟨S8x8192x4x128, .f32⟩
  | 65 => ⟨S8x8192x4x128, .f32⟩
  | 66 => ⟨S_, .f32⟩
  | 67 => ⟨S8x8192x4x128, .f32⟩
  | 68 => ⟨S8x8192x4x128, .f32⟩
  | 69 => ⟨S8x8192x4x128, .f32⟩
  | 70 => ⟨S8x8192x4x128, .f32⟩
  | 71 => ⟨S8x8192x4x128, .f32⟩
  | 72 => ⟨S_, .f32⟩
  | 73 => ⟨S8x8192x4, .f32⟩
  | 74 => ⟨S8x8192x4x1, .f32⟩
  | 75 => ⟨S_, .f32⟩
  | 76 => ⟨S8x8192x4x1, .f32⟩
  | 77 => ⟨S8x8192x4x1, .f32⟩
  | 78 => ⟨S_, .f32⟩
  | 79 => ⟨S8x8192x4x1, .f32⟩
  | 80 => ⟨S8x8192x4x1, .f32⟩
  | 81 => ⟨S8x8192x4x1, .f32⟩
  | 82 => ⟨S8x8192x4x128, .f32⟩
  | 83 => ⟨S8x8192x4x128, .f32⟩
  | 84 => ⟨S1x1x1x128, .f32⟩
  | 85 => ⟨S8x8192x4x128, .f32⟩
  | 86 => ⟨S8x8192x4x128, .f32⟩
  | 87 => ⟨S8x8192x4x128, .f32⟩
  | 88 => ⟨S8x8192x512, .f32⟩
  | 89 => ⟨S8x8192x1024, .f32⟩
  | 90 => ⟨S8x8192x1024, .f32⟩
  | 91 => ⟨S8x8192x1024, .f32⟩
  | 92 => ⟨S8x8192x3072, .f32⟩
  | 93 => ⟨S1x1x3072, .f32⟩
  | 94 => ⟨S8x8192x3072, .f32⟩
  | 95 => ⟨S8x8192x3072, .f32⟩
  | 96 => ⟨S8x8192x3072, .f32⟩
  | 97 => ⟨S8x8192x3072, .f32⟩
  | 98 => ⟨S_, .f32⟩
  | 99 => ⟨S8x8192x3072, .f32⟩
  | 100 => ⟨S8x8192x3072, .f32⟩
  | 101 => ⟨S_, .f32⟩
  | 102 => ⟨S8x8192x3072, .f32⟩
  | 103 => ⟨S8x8192x3072, .f32⟩
  | 104 => ⟨S8x8192x3x1024, .f32⟩
  | 105 => ⟨S8x8192x1x1024, .f32⟩
  | 106 => ⟨S8x8192x1024, .f32⟩
  | 107 => ⟨S8x8192x1024, .f32⟩
  | 108 => ⟨S8x8192x1x1024, .f32⟩
  | 109 => ⟨S8x8192x1024, .f32⟩
  | 110 => ⟨S8x8192x1024, .f32⟩
  | 111 => ⟨S8x8192x1024, .f32⟩
  | 112 => ⟨S8x8192x1x1024, .f32⟩
  | 113 => ⟨S8x8192x1024, .f32⟩
  | 114 => ⟨S8x8192x1024, .f32⟩
  | 115 => ⟨S8x8192x1024, .f32⟩
  | 116 => ⟨S8x8192x1024, .f32⟩
  | 117 => ⟨S8x8192x1024, .f32⟩
  | 118 => ⟨S8x8192x1024, .f32⟩
  | 119 => ⟨S8x8192x1024, .f32⟩
  | 120 => ⟨S8x1x6x1024, .f32⟩
  | 121 => ⟨S8x6x1024, .f32⟩
  | 122 => ⟨S8x256x512, .bf16⟩
  | 123 => ⟨S8x256x512, .bf16⟩
  | 124 => ⟨S8x256x512, .f32⟩
  | 125 => ⟨S8x256x512, .bf16⟩
  | 126 => ⟨S8x1x1024, .f32⟩
  | 127 => ⟨S8x1024, .f32⟩
  | _ => ⟨S8x8192x1024, .f32⟩

abbrev hbmTy0_1 (i : Nat) : BufTy := match i % 128 with
  | 0 => ⟨S8x1x1024, .f32⟩
  | 1 => ⟨S8x1x1024, .f32⟩
  | 2 => ⟨S8x1024, .f32⟩
  | 3 => ⟨S8x1x1024, .f32⟩
  | 4 => ⟨S8x1x1024, .f32⟩
  | 5 => ⟨S8x1024, .f32⟩
  | 6 => ⟨S8x1x1024, .f32⟩
  | 7 => ⟨S8x256x1024, .f32⟩
  | 8 => ⟨S_, .f32⟩
  | 9 => ⟨S8x256, .f32⟩
  | 10 => ⟨S8x256x1, .f32⟩
  | 11 => ⟨S_, .f32⟩
  | 12 => ⟨S8x256x1, .f32⟩
  | 13 => ⟨S8x256x1, .f32⟩
  | 14 => ⟨S_, .f32⟩
  | 15 => ⟨S8x256x1, .f32⟩
  | 16 => ⟨S8x256x1, .f32⟩
  | 17 => ⟨S8x256x1, .f32⟩
  | 18 => ⟨S8x256x1024, .f32⟩
  | 19 => ⟨S8x256x1024, .f32⟩
  | 20 => ⟨S1x1x1024, .f32⟩
  | 21 => ⟨S8x256x1024, .f32⟩
  | 22 => ⟨S8x256x1024, .f32⟩
  | 23 => ⟨S_, .f32⟩
  | 24 => ⟨S8x1x1024, .f32⟩
  | 25 => ⟨S8x1x1024, .f32⟩
  | 26 => ⟨S8x256x1024, .f32⟩
  | 27 => ⟨S8x256x1024, .f32⟩
  | 28 => ⟨S8x256x1024, .f32⟩
  | 29 => ⟨S8x256x1024, .f32⟩
  | 30 => ⟨S8x256x512, .f32⟩
  | 31 => ⟨S8x256x512, .f32⟩
  | 32 => ⟨S8x256x512, .f32⟩
  | 33 => ⟨S8x256x512, .f32⟩
  | 34 => ⟨S8x256x512, .f32⟩
  | 35 => ⟨S8x256x4x128, .f32⟩
  | 36 => ⟨S8x256x4x128, .f32⟩
  | 37 => ⟨S8x256x4x128, .f32⟩
  | 38 => ⟨S_, .f32⟩
  | 39 => ⟨S8x256x4x128, .f32⟩
  | 40 => ⟨S8x256x4x128, .f32⟩
  | 41 => ⟨S_, .f32⟩
  | 42 => ⟨S8x256x4x128, .f32⟩
  | 43 => ⟨S8x256x4x128, .f32⟩
  | 44 => ⟨S8x256x4x128, .f32⟩
  | 45 => ⟨S8x256x4x128, .f32⟩
  | 46 => ⟨S8x256x4x128, .f32⟩
  | 47 => ⟨S_, .f32⟩
  | 48 => ⟨S8x256x4, .f32⟩
  | 49 => ⟨S8x256x4x1, .f32⟩
  | 50 => ⟨S_, .f32⟩
  | 51 => ⟨S8x256x4x1, .f32⟩
  | 52 => ⟨S8x256x4x1, .f32⟩
  | 53 => ⟨S_, .f32⟩
  | 54 => ⟨S8x256x4x1, .f32⟩
  | 55 => ⟨S8x256x4x1, .f32⟩
  | 56 => ⟨S8x256x4x1, .f32⟩
  | 57 => ⟨S8x256x4x128, .f32⟩
  | 58 => ⟨S8x256x4x128, .f32⟩
  | 59 => ⟨S1x1x1x128, .f32⟩
  | 60 => ⟨S8x256x4x128, .f32⟩
  | 61 => ⟨S8x256x4x128, .f32⟩
  | 62 => ⟨S8x256x4x128, .f32⟩
  | 63 => ⟨S8x256x512, .f32⟩
  | 64 => ⟨S8x256x1024, .f32⟩
  | 65 => ⟨S8x256x1024, .f32⟩
  | 66 => ⟨S8x256x1024, .f32⟩
  | 67 => ⟨S8x256x3072, .f32⟩
  | 68 => ⟨S1x1x3072, .f32⟩
  | 69 => ⟨S8x256x3072, .f32⟩
  | 70 => ⟨S8x256x3072, .f32⟩
  | 71 => ⟨S8x256x3072, .f32⟩
  | 72 => ⟨S8x256x3072, .f32⟩
  | 73 => ⟨S_, .f32⟩
  | 74 => ⟨S8x256x3072, .f32⟩
  | 75 => ⟨S8x256x3072, .f32⟩
  | 76 => ⟨S_, .f32⟩
  | 77 => ⟨S8x256x3072, .f32⟩
  | 78 => ⟨S8x256x3072, .f32⟩
  | 79 => ⟨S8x256x3x1024, .f32⟩
  | 80 => ⟨S8x256x1x1024, .f32⟩
  | 81 => ⟨S8x256x1024, .f32⟩
  | 82 => ⟨S8x256x1024, .f32⟩
  | 83 => ⟨S8x256x1x1024, .f32⟩
  | 84 => ⟨S8x256x1024, .f32⟩
  | 85 => ⟨S8x256x1024, .f32⟩
  | 86 => ⟨S8x256x1024, .f32⟩
  | 87 => ⟨S8x256x1x1024, .f32⟩
  | 88 => ⟨S8x256x1024, .f32⟩
  | 89 => ⟨S8x256x1024, .f32⟩
  | 90 => ⟨S8x256x1024, .f32⟩
  | 91 => ⟨S8x256x1024, .f32⟩
  | 92 => ⟨S8x256x1024, .f32⟩
  | 93 => ⟨S8x256x1024, .f32⟩
  | 94 => ⟨S8x256x1024, .f32⟩
  | 95 => ⟨S8x8448x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_3 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_6 : Ref sig .tc := ⟨.hbm, 98, rfl⟩
abbrev main_v66 : Ref sig .tc := ⟨.hbm, 99, rfl⟩
abbrev main_v67 : Ref sig .tc := ⟨.hbm, 100, rfl⟩
abbrev main_cst_7 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_8 : Ref sig .tc := ⟨.hbm, 136, rfl⟩
abbrev main_v102 : Ref sig .tc := ⟨.hbm, 137, rfl⟩
abbrev main_v103 : Ref sig .tc := ⟨.hbm, 138, rfl⟩
abbrev main_cst_9 : Ref sig .tc := ⟨.hbm, 139, rfl⟩
abbrev main_v104 : Ref sig .tc := ⟨.hbm, 140, rfl⟩
abbrev main_v105 : Ref sig .tc := ⟨.hbm, 141, rfl⟩
abbrev main_cst_10 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_11 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_call1_v0 : Ref sig .tc := ⟨.hbm, 164, rfl⟩
abbrev main_call1_v1 : Ref sig .tc := ⟨.hbm, 165, rfl⟩
abbrev main_call1_cst : Ref sig .tc := ⟨.hbm, 166, rfl⟩
abbrev main_call1_v2 : Ref sig .tc := ⟨.hbm, 167, rfl⟩
abbrev main_call1_v3 : Ref sig .tc := ⟨.hbm, 168, rfl⟩
abbrev main_call1_cst_0 : Ref sig .tc := ⟨.hbm, 169, rfl⟩
abbrev main_call1_v4 : Ref sig .tc := ⟨.hbm, 170, rfl⟩
abbrev main_call1_v5 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_12 : Ref sig .tc := ⟨.hbm, 175, rfl⟩
abbrev main_v129 : Ref sig .tc := ⟨.hbm, 176, rfl⟩
abbrev main_v130 : Ref sig .tc := ⟨.hbm, 177, rfl⟩
abbrev main_cst_13 : Ref sig .tc := ⟨.hbm, 178, rfl⟩
abbrev main_v131 : Ref sig .tc := ⟨.hbm, 179, rfl⟩
abbrev main_v132 : Ref sig .tc := ⟨.hbm, 180, rfl⟩
abbrev main_cst_14 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_15 : Ref sig .tc := ⟨.hbm, 201, rfl⟩
abbrev main_v152 : Ref sig .tc := ⟨.hbm, 202, rfl⟩
abbrev main_v153 : Ref sig .tc := ⟨.hbm, 203, rfl⟩
abbrev main_cst_16 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩

abbrev nD : Nat := 1
abbrev τ : Topo := Topo.v7x

variable {F : FTy → Type} [FloatOps F]
-- ==== Mod.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Last.lean ====
abbrev S8x8192x1024 : Shape := ⟨3, ![8, 8192, 1024]⟩
abbrev S8x256x1024 : Shape := ⟨3, ![8, 256, 1024]⟩
abbrev S8x2x6x1024 : Shape := ⟨4, ![8, 2, 6, 1024]⟩
abbrev S1024 : Shape := ⟨1, ![1024]⟩
abbrev S8x8448x512 : Shape := ⟨3, ![8, 8448, 512]⟩
abbrev S8x8192x512 : Shape := ⟨3, ![8, 8192, 512]⟩
abbrev S8x256x512 : Shape := ⟨3, ![8, 256, 512]⟩
abbrev S1024x3072 : Shape := ⟨2, ![1024, 3072]⟩
abbrev S3072 : Shape := ⟨1, ![3072]⟩
abbrev S128 : Shape := ⟨1, ![128]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x3072 : Shape := ⟨2, ![1, 3072]⟩
abbrev S1x128 : Shape := ⟨2, ![1, 128]⟩
abbrev S8x8448x1024 : Shape := ⟨3, ![8, 8448, 1024]⟩
abbrev S2x256x1024 : Shape := ⟨3, ![2, 256, 1024]⟩
abbrev S2x1x6x1024 : Shape := ⟨4, ![2, 1, 6, 1024]⟩
abbrev S2x256x512 : Shape := ⟨3, ![2, 256, 512]⟩
abbrev S1x256x1024 : Shape := ⟨3, ![1, 256, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x3072 : Shape := ⟨2, ![256, 3072]⟩
abbrev S1x256x512 : Shape := ⟨3, ![1, 256, 512]⟩
abbrev S256x512 : Shape := ⟨2, ![256, 512]⟩
abbrev S256x128 : Shape := ⟨2, ![256, 128]⟩
abbrev S256x5632 : Shape := ⟨2, ![256, 5632]⟩
abbrev S256x2816 : Shape := ⟨2, ![256, 2816]⟩

abbrev nBuf : Space → Nat
  | .hbm => 35
  | .vmem => 38
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S8x2x6x1024, .f32⟩
  | .hbm, ⟨3, _⟩ => ⟨S1024, .f32⟩
  | .hbm, ⟨4, _⟩ => ⟨S8x8448x512, .bf16⟩
  | .hbm, ⟨5, _⟩ => ⟨S8x8448x512, .bf16⟩
  | .hbm, ⟨6, _⟩ => ⟨S8x8448x512, .f32⟩
  | .hbm, ⟨7, _⟩ => ⟨S8x8448x512, .bf16⟩
  | .hbm, ⟨8, _⟩ => ⟨S8x8192x512, .bf16⟩
  | .hbm, ⟨9, _⟩ => ⟨S8x256x512, .bf16⟩
  | .hbm, ⟨10, _⟩ => ⟨S1024x3072, .f32⟩
  | .hbm, ⟨11, _⟩ => ⟨S3072, .f32⟩
  | .hbm, ⟨12, _⟩ => ⟨S128, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1024, .f32⟩
  | .hbm, ⟨18, _⟩ => ⟨S1024x5632, .f32⟩
  | .hbm, ⟨19, _⟩ => ⟨S2816x1024, .f32⟩
  | .hbm, ⟨20, _⟩ => ⟨S1024, .f32⟩
  | .hbm, ⟨21, _⟩ => ⟨S1x1024, .f32⟩
  | .hbm, ⟨22, _⟩ => ⟨S1024x3072, .bf16⟩
  | .hbm, ⟨23, _⟩ => ⟨S1x3072, .f32⟩
  | .hbm, ⟨24, _⟩ => ⟨S1x128, .f32⟩
  | .hbm, ⟨25, _⟩ => ⟨S512x1024, .bf16⟩
  | .hbm, ⟨26, _⟩ => ⟨S512x1024, .bf16⟩
  | .hbm, ⟨27, _⟩ => ⟨S512x1024, .bf16⟩
  | .hbm, ⟨28, _⟩ => ⟨S1024x1024, .bf16⟩
  | .hbm, ⟨29, _⟩ => ⟨S8x8448x1024, .f32⟩
  | .hbm, ⟨30, _⟩ => ⟨S1x1024, .f32⟩
  | .hbm, ⟨31, _⟩ => ⟨S1024x5632, .bf16⟩
  | .hbm, ⟨32, _⟩ => ⟨S2816x1024, .bf16⟩
  | .hbm, ⟨33, _⟩ => ⟨S1x1024, .f32⟩
  | .hbm, ⟨34, _⟩ => ⟨S8x8192x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x1x6x1024, .f32⟩
  | .local _ .vmem, ⟨5, _⟩ => ⟨S2x1x6x1024, .f32⟩
  | .local _ .vmem, ⟨6, _⟩ => ⟨S2x256x512, .bf16⟩
  | .local _ .vmem, ⟨7, _⟩ => ⟨S2x256x512, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .f32⟩
  | .local _ .vmem, ⟨11, _⟩ => ⟨S2x256x512, .f32⟩
  | .local _ .vmem, ⟨12, _⟩ => ⟨S2x256x512, .bf16⟩
  | .local _ .vmem, ⟨13, _⟩ => ⟨S2x256x512, .bf16⟩
  | .local _ .vmem, ⟨14, _⟩ => ⟨S2x256x512, .bf16⟩
  | .local _ .vmem, ⟨15, _⟩ => ⟨S2x256x512, .bf16⟩
  | .local _ .vmem, ⟨16, _⟩ => ⟨S2x256x512, .bf16⟩
  | .local _ .vmem, ⟨17, _⟩ => ⟨S2x256x512, .bf16⟩
  | .local _ .vmem, ⟨18, _⟩ => ⟨S1x1024, .f32⟩
  | .local _ .vmem, ⟨19, _⟩ => ⟨S1024x3072, .bf16⟩
  | .local _ .vmem, ⟨20, _⟩ => ⟨S1x3072, .f32⟩
  | .local _ .vmem, ⟨21, _⟩ => ⟨S1x128, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S2x256x1024, .f32⟩
  | .local _ .vmem, ⟨27, _⟩ => ⟨S2x256x1024, .f32⟩
  | .local _ .vmem, ⟨28, _⟩ => ⟨S2x256x1024, .f32⟩
  | .local _ .vmem, ⟨29, _⟩ => ⟨S2x256x1024, .f32⟩
  | .local _ .vmem, ⟨30, _⟩ => ⟨S2x1x6x1024, .f32⟩
  | .local _ .vmem, ⟨31, _⟩ => ⟨S2x1x6x1024, .f32⟩
  | .local _ .vmem, ⟨32, _⟩ => ⟨S1x1024, .f32⟩
  | .local _ .vmem, ⟨33, _⟩ => ⟨S1024x5632, .bf16⟩
  | .local _ .vmem, ⟨34, _⟩ => ⟨S2816x1024, .bf16⟩
  | .local _ .vmem, ⟨35, _⟩ => ⟨S1x1024, .f32⟩
  | .local _ .vmem, ⟨36, _⟩ => ⟨S2x256x1024, .f32⟩
  | .local _ .vmem, ⟨37, _⟩ => ⟨S2x256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg3_0 : Ref sig .tc := ⟨.vmem, 33, rfl⟩
abbrev cc1_stg4_0 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem3_0 : DmaSem sig := 33
abbrev cc1_sem4_0 : DmaSem sig := 34
abbrev cc1_sem5_0 : DmaSem sig := 35
abbrev cc1_sem6_0 : DmaSem sig := 36
abbrev cc1_sem6_1 : DmaSem sig := 37

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x5632 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== LastRefIdeal.lean ====
abbrev S8x8192x1024 : Shape := ⟨3, ![8, 8192, 1024]⟩
abbrev S8x256x1024 : Shape := ⟨3, ![8, 256, 1024]⟩
abbrev S8x2x6x1024 : Shape := ⟨4, ![8, 2, 6, 1024]⟩
abbrev S1024 : Shape := ⟨1, ![1024]⟩
abbrev S8x8448x512 : Shape := ⟨3, ![8, 8448, 512]⟩
abbrev S8x8192x512 : Shape := ⟨3, ![8, 8192, 512]⟩
abbrev S8x256x512 : Shape := ⟨3, ![8, 256, 512]⟩
abbrev S1024x3072 : Shape := ⟨2, ![1024, 3072]⟩
abbrev S3072 : Shape := ⟨1, ![3072]⟩
abbrev S128 : Shape := ⟨1, ![128]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S8x1x6x1024 : Shape := ⟨4, ![8, 1, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192x3072 : Shape := ⟨3, ![8, 8192, 3072]⟩
abbrev S1x1x3072 : Shape := ⟨3, ![1, 1, 3072]⟩
abbrev S8x8192x3x1024 : Shape := ⟨4, ![8, 8192, 3, 1024]⟩
abbrev S8x8192x1x1024 : Shape := ⟨4, ![8, 8192, 1, 1024]⟩
abbrev S8x8192x5632 : Shape := ⟨3, ![8, 8192, 5632]⟩
abbrev S8x8192x2816 : Shape := ⟨3, ![8, 8192, 2816]⟩

abbrev nBuf : Space → Nat
  | .hbm => 191
  | .vmem => 0
  | .smem => 0
  | _ => 0

abbrev hbmTy0_0 (i : Nat) : BufTy := match i % 128 with
  | 0 => ⟨S8x8192x1024, .f32⟩
  | 1 => ⟨S8x256x1024, .f32⟩
  | 2 => ⟨S8x2x6x1024, .f32⟩
  | 3 => ⟨S1024, .f32⟩
  | 4 => ⟨S8x8448x512, .bf16⟩
  | 5 => ⟨S8x8448x512, .bf16⟩
  | 6 => ⟨S8x8448x512, .f32⟩
  | 7 => ⟨S8x8448x512, .bf16⟩
  | 8 => ⟨S8x8192x512, .bf16⟩
  | 9 => ⟨S8x256x512, .bf16⟩
  | 10 => ⟨S1024x3072, .f32⟩
  | 11 => ⟨S3072, .f32⟩
  | 12 => ⟨S128, .f32⟩
  | 13 => ⟨S512x1024, .f32⟩
  | 14 => ⟨S512x1024, .f32⟩
  | 15 => ⟨S512x1024, .f32⟩
  | 16 => ⟨S1024x1024, .f32⟩
  | 17 => ⟨S1024, .f32⟩
  | 18 => ⟨S1024x5632, .f32⟩
  | 19 => ⟨S2816x1024, .f32⟩
  | 20 => ⟨S1024, .f32⟩
  | 21 => ⟨S8x1x6x1024, .f32⟩
  | 22 => ⟨S8x6x1024, .f32⟩
  | 23 => ⟨S8x8192x512, .bf16⟩
  | 24 => ⟨S8x8192x512, .bf16⟩
  | 25 => ⟨S8x8192x512, .f32⟩
  | 26 => ⟨S8x8192x512, .bf16⟩
  | 27 => ⟨S8x1x1024, .f32⟩
  | 28 => ⟨S8x1024, .f32⟩
  | 29 => ⟨S8x1x1024, .f32⟩
  | 30 => ⟨S8x1x1024, .f32⟩
  | 31 => ⟨S8x1024, .f32⟩
  | 32 => ⟨S8x1x1024, .f32⟩
  | 33 => ⟨S8x1x1024, .f32⟩
  | 34 => ⟨S8x1024, .f32⟩
  | 35 => ⟨S8x1x1024, .f32⟩
  | 36 => ⟨S8x8192x1024, .f32⟩
  | 37 => ⟨S_, .f32⟩
  | 38 => ⟨S8x8192, .f32⟩
  | 39 => ⟨S8x8192x1, .f32⟩
  | 40 => ⟨S_, .f32⟩
  | 41 => ⟨S8x8192x1, .f32⟩
  | 42 => ⟨S8x8192x1, .f32⟩
  | 43 => ⟨S_, .f32⟩
  | 44 => ⟨S8x8192x1, .f32⟩
  | 45 => ⟨S8x8192x1, .f32⟩
  | 46 => ⟨S8x8192x1, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S_, .f32⟩
  | 53 => ⟨S8x1x1024, .f32⟩
  | 54 => ⟨S8x1x1024, .f32⟩
  | 55 => ⟨S8x8192x1024, .f32⟩
  | 56 => ⟨S8x8192x1024, .f32⟩
  | 57 => ⟨S8x8192x1024, .f32⟩
  | 58 => ⟨S8x8192x1024, .f32⟩
  | 59 => ⟨S8x8192x512, .f32⟩
  | 60 => ⟨S8x8192x512, .f32⟩
  | 61 => ⟨S8x8192x512, .f32⟩
  | 62 => ⟨S8x8192x512, .f32⟩
  | 63 => ⟨S8x8192x512, .f32⟩
  | 64 => ⟨S8x8192x4x128, .f32⟩
  | 65 => ⟨S8x8192x4x128, .f32⟩
  | 66 => ⟨S8x8192x4x128, .f32⟩
  | 67 => ⟨S_, .f32⟩
  | 68 => ⟨S8x8192x4x128, .f32⟩
  | 69 => ⟨S8x8192x4x128, .f32⟩
  | 70 => ⟨S_, .f32⟩
  | 71 => ⟨S8x8192x4x128, .f32⟩
  | 72 => ⟨S8x8192x4x128, .f32⟩
  | 73 => ⟨S8x8192x4x128, .f32⟩
  | 74 => ⟨S8x8192x4x128, .f32⟩
  | 75 => ⟨S8x8192x4x128, .f32⟩
  | 76 => ⟨S_, .f32⟩
  | 77 => ⟨S8x8192x4, .f32⟩
  | 78 => ⟨S8x8192x4x1, .f32⟩
  | 79 => ⟨S_, .f32⟩
  | 80 => ⟨S8x8192x4x1, .f32⟩
  | 81 => ⟨S8x8192x4x1, .f32⟩
  | 82 => ⟨S_, .f32⟩
  | 83 => ⟨S8x8192x4x1, .f32⟩
  | 84 => ⟨S8x8192x4x1, .f32⟩
  | 85 => ⟨S8x8192x4x1, .f32⟩
  | 86 => ⟨S8x8192x4x128, .f32⟩
  | 87 => ⟨S8x8192x4x128, .f32⟩
  | 88 => ⟨S1x1x1x128, .f32⟩
  | 89 => ⟨S8x8192x4x128, .f32⟩
  | 90 => ⟨S8x8192x4x128, .f32⟩
  | 91 => ⟨S8x8192x4x128, .f32⟩
  | 92 => ⟨S8x8192x512, .f32⟩
  | 93 => ⟨S8x8192x1024, .f32⟩
  | 94 => ⟨S8x8192x1024, .f32⟩
  | 95 => ⟨S8x8192x1024, .f32⟩
  | 96 => ⟨S8x8192x3072, .f32⟩
  | 97 => ⟨S1x1x3072, .f32⟩
  | 98 => ⟨S8x8192x3072, .f32⟩
  | 99 => ⟨S8x8192x3072, .f32⟩
  | 100 => ⟨S8x8192x3072, .f32⟩
  | 101 => ⟨S8x8192x3072, .f32⟩
  | 102 => ⟨S_, .f32⟩
  | 103 => ⟨S8x8192x3072, .f32⟩
  | 104 => ⟨S8x8192x3072, .f32⟩
  | 105 => ⟨S_, .f32⟩
  | 106 => ⟨S8x8192x3072, .f32⟩
  | 107 => ⟨S8x8192x3072, .f32⟩
  | 108 => ⟨S8x8192x3x1024, .f32⟩
  | 109 => ⟨S8x8192x1x1024, .f32⟩
  | 110 => ⟨S8x8192x1024, .f32⟩
  | 111 => ⟨S8x8192x1024, .f32⟩
  | 112 => ⟨S8x8192x1x1024, .f32⟩
  | 113 => ⟨S8x8192x1024, .f32⟩
  | 114 => ⟨S8x8192x1024, .f32⟩
  | 115 => ⟨S8x8192x1024, .f32⟩
  | 116 => ⟨S8x8192x1x1024, .f32⟩
  | 117 => ⟨S8x8192x1024, .f32⟩
  | 118 => ⟨S8x8192x1024, .f32⟩
  | 119 => ⟨S8x8192x1024, .f32⟩
  | 120 => ⟨S8x8192x1024, .f32⟩
  | 121 => ⟨S8x8192x1024, .f32⟩
  | 122 => ⟨S8x8192x1024, .f32⟩
  | 123 => ⟨S8x8192x1024, .f32⟩
  | 124 => ⟨S8x1x6x1024, .f32⟩
  | 125 => ⟨S8x6x1024, .f32⟩
  | 126 => ⟨S8x1x1024, .f32⟩
  | 127 => ⟨S8x1024, .f32⟩
  | _ => ⟨S8x8192x1024, .f32⟩

abbrev hbmTy0_1 (i : Nat) : BufTy := match i % 128 with
  | 0 => ⟨S8x1x1024, .f32⟩
  | 1 => ⟨S8x1x1024, .f32⟩
  | 2 => ⟨S8x1024, .f32⟩
  | 3 => ⟨S8x1x1024, .f32⟩
  | 4 => ⟨S8x1x1024, .f32⟩
  | 5 => ⟨S8x1024, .f32⟩
  | 6 => ⟨S8x1x1024, .f32⟩
  | 7 => ⟨S8x8192x1024, .f32⟩
  | 8 => ⟨S_, .f32⟩
  | 9 => ⟨S8x8192, .f32⟩
  | 10 => ⟨S8x8192x1, .f32⟩
  | 11 => ⟨S_, .f32⟩
  | 12 => ⟨S8x8192x1, .f32⟩
  | 13 => ⟨S8x8192x1, .f32⟩
  | 14 => ⟨S_, .f32⟩
  | 15 => ⟨S8x8192x1, .f32⟩
  | 16 => ⟨S8x8192x1, .f32⟩
  | 17 => ⟨S8x8192x1, .f32⟩
  | 18 => ⟨S8x8192x1024, .f32⟩
  | 19 => ⟨S8x8192x1024, .f32⟩
  | 20 => ⟨S1x1x1024, .f32⟩
  | 21 => ⟨S8x8192x1024, .f32⟩
  | 22 => ⟨S8x8192x1024, .f32⟩
  | 23 => ⟨S_, .f32⟩
  | 24 => ⟨S8x1x1024, .f32⟩
  | 25 => ⟨S8x1x1024, .f32⟩
  | 26 => ⟨S8x8192x1024, .f32⟩
  | 27 => ⟨S8x8192x1024, .f32⟩
  | 28 => ⟨S8x8192x1024, .f32⟩
  | 29 => ⟨S8x8192x1024, .f32⟩
  | 30 => ⟨S8x8192x5632, .f32⟩
  | 31 => ⟨S8x8192x2816, .f32⟩
  | 32 => ⟨S8x8192x2816, .f32⟩
  | 33 => ⟨S8x8192x2816, .f32⟩
  | 34 => ⟨S8x8192x2816, .f32⟩
  | 35 => ⟨S_, .f32⟩
  | 36 => ⟨S8x8192x2816, .f32⟩
  | 37 => ⟨S8x8192x2816, .f32⟩
  | 38 => ⟨S_, .f32⟩
  | 39 => ⟨S8x8192x2816, .f32⟩
  | 40 => ⟨S8x8192x2816, .f32⟩
  | 41 => ⟨S8x8192x2816, .f32⟩
  | 42 => ⟨S8x8192x2816, .f32⟩
  | 43 => ⟨S8x8192x1024, .f32⟩
  | 44 => ⟨S8x8192x1024, .f32⟩
  | 45 => ⟨S8x8192x1024, .f32⟩
  | 46 => ⟨S8x8192x1024, .f32⟩
  | 47 => ⟨S8x8192x1024, .f32⟩
  | 48 => ⟨S_, .f32⟩
  | 49 => ⟨S8x8192, .f32⟩
  | 50 => ⟨S8x8192x1, .f32⟩
  | 51 => ⟨S_, .f32⟩
  | 52 => ⟨S8x8192x1, .f32⟩
  | 53 => ⟨S8x8192x1, .f32⟩
  | 54 => ⟨S_, .f32⟩
  | 55 => ⟨S8x8192x1, .f32⟩
  | 56 => ⟨S8x8192x1, .f32⟩
  | 57 => ⟨S8x8192x1, .f32⟩
  | 58 => ⟨S8x8192x1024, .f32⟩
  | 59 => ⟨S8x8192x1024, .f32⟩
  | 60 => ⟨S1x1x1024, .f32⟩
  | 61 => ⟨S8x8192x1024, .f32⟩
  | 62 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_cst_0 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_3 : Ref sig .tc := ⟨.hbm, 76, rfl⟩
abbrev main_v43 : Ref sig .tc := ⟨.hbm, 77, rfl⟩
abbrev main_v44 : Ref sig .tc := ⟨.hbm, 78, rfl⟩
abbrev main_cst_4 : Ref sig .tc := ⟨.hbm, 79, rfl⟩
abbrev main_v45 : Ref sig .tc := ⟨.hbm, 80, rfl⟩
abbrev main_v46 : Ref sig .tc := ⟨.hbm, 81, rfl⟩
abbrev main_cst_5 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_6 : Ref sig .tc := ⟨.hbm, 102, rfl⟩
abbrev main_v66 : Ref sig .tc := ⟨.hbm, 103, rfl⟩
abbrev main_v67 : Ref sig .tc := ⟨.hbm, 104, rfl⟩
abbrev main_cst_7 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_8 : Ref sig .tc := ⟨.hbm, 136, rfl⟩
abbrev main_v98 : Ref sig .tc := ⟨.hbm, 137, rfl⟩
abbrev main_v99 : Ref sig .tc := ⟨.hbm, 138, rfl⟩
abbrev main_cst_9 : Ref sig .tc := ⟨.hbm, 139, rfl⟩
abbrev main_v100 : Ref sig .tc := ⟨.hbm, 140, rfl⟩
abbrev main_v101 : Ref sig .tc := ⟨.hbm, 141, rfl⟩
abbrev main_cst_10 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_11 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call1_v0 : Ref sig .tc := ⟨.hbm, 161, rfl⟩
abbrev main_call1_v1 : Ref sig .tc := ⟨.hbm, 162, rfl⟩
abbrev main_call1_cst : Ref sig .tc := ⟨.hbm, 163, rfl⟩
abbrev main_call1_v2 : Ref sig .tc := ⟨.hbm, 164, rfl⟩
abbrev main_call1_v3 : Ref sig .tc := ⟨.hbm, 165, rfl⟩
abbrev main_call1_cst_0 : Ref sig .tc := ⟨.hbm, 166, rfl⟩
abbrev main_call1_v4 : Ref sig .tc := ⟨.hbm, 167, rfl⟩
abbrev main_call1_v5 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_12 : Ref sig .tc := ⟨.hbm, 176, rfl⟩
abbrev main_v126 : Ref sig .tc := ⟨.hbm, 177, rfl⟩
abbrev main_v127 : Ref sig .tc := ⟨.hbm, 178, rfl⟩
abbrev main_cst_13 : Ref sig .tc := ⟨.hbm, 179, rfl⟩
abbrev main_v128 : Ref sig .tc := ⟨.hbm, 180, rfl⟩
abbrev main_v129 : Ref sig .tc := ⟨.hbm, 181, rfl⟩
abbrev main_cst_14 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]
-- ==== Proof.Ffn.Spec.lean ====
module

public import Idealize.ShloMosaic.Lib.Pointwise
public import Idealize.ShloMosaic.Lib.Pipeline.ValueKit

@[expose] public section
set_option maxRecDepth 16384
noncomputable section
open Idealize.ShloMosaic
open scoped BigOperators

/-! The arithmetic of one token's row, over extended reals: what both the kernels and the references compute. -/
namespace Cert.Row

/-- The root-mean-square factor of a row: `1 / sqrt (mean of squares + 1e-6)`. -/
def rmsFactor (x : Fin 1024 → EReal) : EReal :=
  Ideal.rsqrt ((∑ k, x k * x k) * Ideal.ofBits .f32 981467136#32 + Ideal.ofBits .f32 897988541#32)

/-- A row normalised, scaled by a gain, then modulated by a scale and a shift. -/
def modulated (x g sh sc : Fin 1024 → EReal) (d : Fin 1024) : EReal :=
  x d * rmsFactor x * (g d * (1 + sc d)) + sh d

/-- The gated hidden unit `n` of a row `h`: `silu (h W)_n * (h W)_(2816 + n)`. -/
def hidden (h : Fin 1024 → EReal) (W : Fin 1024 → Fin 5632 → EReal) (n : Fin 2816) : EReal :=
  (∑ k, h k * W k ⟨n, by omega⟩) * Ideal.logistic (∑ k, h k * W k ⟨n, by omega⟩) * ∑ k, h k * W k ⟨2816 + n, by omega⟩

/-- The feed-forward part of the layer on one row: the row plus a gate times the projected hidden units of its modulated form. -/
def ffn (x g sh sc gate : Fin 1024 → EReal) (W : Fin 1024 → Fin 5632 → EReal) (Wo : Fin 2816 → Fin 1024 → EReal) (d : Fin 1024) : EReal :=
  x d + gate d * ∑ n, hidden (modulated x g sh sc) W n * Wo n d

/-- A row normalised and scaled by a gain. -/
def normed (y g : Fin 1024 → EReal) (d : Fin 1024) : EReal := y d * rmsFactor y * g d

/-- Rows that agree entry by entry have the same feed-forward part. -/
theorem ffn_congr {x x' g g' sh sh' sc sc' e e' : Fin 1024 → EReal} {W W' : Fin 1024 → Fin 5632 → EReal}
    {Wo Wo' : Fin 2816 → Fin 1024 → EReal} {d d' : Fin 1024} (hx : ∀ k, x k = x' k) (hg : ∀ k, g k = g' k) (hsh : ∀ k, sh k = sh' k)
    (hsc : ∀ k, sc k = sc' k) (he : ∀ k, e k = e' k) (hW : ∀ k n, W k n = W' k n) (hWo : ∀ n d, Wo n d = Wo' n d) (hd : d = d') :
    ffn x g sh sc e W Wo d = ffn x' g' sh' sc' e' W' Wo' d' := by
  obtain rfl := funext hx
  obtain rfl := funext hg
  obtain rfl := funext hsh
  obtain rfl := funext hsc
  obtain rfl := funext he
  obtain rfl := funext fun k => funext (hW k)
  obtain rfl := funext fun k => funext (hWo k)
  rw [hd]

/-- The same after the closing normalisation. -/
theorem normed_ffn_congr {x x' g g' sh sh' sc sc' e e' : Fin 1024 → EReal} {W W' : Fin 1024 → Fin 5632 → EReal}
    {Wo Wo' : Fin 2816 → Fin 1024 → EReal} {fg fg' : Fin 1024 → EReal} {d d' : Fin 1024} (hx : ∀ k, x k = x' k) (hg : ∀ k, g k = g' k)
    (hsh : ∀ k, sh k = sh' k) (hsc : ∀ k, sc k = sc' k) (he : ∀ k, e k = e' k) (hW : ∀ k n, W k n = W' k n)
    (hWo : ∀ n d, Wo n d = Wo' n d) (hf : ∀ k, fg k = fg' k) (hd : d = d') :
    normed (ffn x g sh sc e W Wo) fg d = normed (ffn x' g' sh' sc' e' W' Wo') fg' d' := by
  have h : ffn x g sh sc e W Wo = ffn x' g' sh' sc' e' W' Wo' := funext fun k => ffn_congr hx hg hsh hsc he hW hWo rfl
  rw [h, funext hf, hd]

/-- The word of `1024`. -/
theorem ofBits_1024 : Ideal.ofBits .f32 1149239296#32 = ((1024 : ℝ) : EReal) := by
  simp [Ideal.ofBits, Ideal.ieee, -EReal.coe_mul]
  norm_num

/-- The word of `1 / 1024`. -/
theorem ofBits_inv_1024 : Ideal.ofBits .f32 981467136#32 = ((1 / 1024 : ℝ) : EReal) := by
  simp [Ideal.ofBits, Ideal.ieee, -EReal.coe_mul]
  norm_num

/-- Dividing by 1024 is multiplying by the word of `1 / 1024`. -/
theorem div_1024 (x : EReal) : Ideal.div x (Ideal.ofBits .f32 1149239296#32) = x * Ideal.ofBits .f32 981467136#32 := by
  rw [ofBits_1024, ofBits_inv_1024, Ideal.div_coe (by norm_num)]

end Cert.Row
end
-- ==== Proof.Ffn.RefLast.lean ====
module

public import proofs.«01_k».proof.Proof.Gen.FfnLastRefIdeal.Read
public import proofs.«01_k».proof.Proof.Ffn.Spec
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The reference of the last feed-forward call, read at an index. -/
namespace Cert.FfnLastRefIdeal.Ref
open Cert.FfnLastRefIdeal Cert.FfnLastRefIdeal.Read

variable (x0 : FVec Ideal S8x8448x1024 .f32) (x1 : FVec Ideal S8x2x6x1024 .f32) (x2 : FVec Ideal S1024 .f32)
  (x3 : FVec Ideal S1024x5632 .f32) (x4 : FVec Ideal S2816x1024 .f32) (x5 : FVec Ideal S1024 .f32)

/-- Token `t` of batch `b` of the latent rows. -/
abbrev row (b : Fin 8) (t : Fin 8192) (k : Fin 1024) : EReal := x0 (ix3 b ⟨t, by omega⟩ k)
/-- Modulation vector `q` of batch `b` for the latent rows. -/
abbrev mod (q : Fin 6) (b : Fin 8) (k : Fin 1024) : EReal := x1 (ix4 b 0 q k)

/-- The reference's modulated rows. -/
theorem mod_at (j : S8x8192x1024.Idx) :
    val_main_v30 (F := Ideal) x0 x1 x2 j = Row.modulated (row x0 (j 0) (j 1)) (fun k => x2 (ix1 k)) (mod x1 3 (j 0)) (mod x1 4 (j 0)) (j 2) := by
  pointwise [val_main_v0, val_main_v1, val_main_v2, val_main_v3, val_main_v4, val_main_v5, val_main_v6, val_main_v7, val_main_v8, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2]
  rw [Row.div_1024]
  exact congrArg (· + _) (mul_assoc _ _ _)

/-- The reference's hidden units. -/
theorem hidden_at (j : S8x8192x2816.Idx) :
    val_main_v35 (F := Ideal) x0 x1 x2 x3 j
      = Row.hidden (Row.modulated (row x0 (j 0) (j 1)) (fun k => x2 (ix1 k)) (mod x1 3 (j 0)) (mod x1 4 (j 0))) (fun k n => x3 (ix2 k n)) (j 2) := by
  pointwise [val_main_v31, val_main_v32, val_main_v33, val_main_v34, val_main_v35, val_main_call0_v0, val_main_call0_v1, val_main_call0_v2, val_main_call0_v3, val_main_call0_v4, val_main_call0_v5,
    val_main_call0_cst, val_main_call0_cst_0, mod_at]
  rfl

/-- The reference's rows after the residual sum. -/
theorem ffn_at (j : S8x8192x1024.Idx) :
    val_main_v39 (F := Ideal) x0 x1 x2 x3 x4 j
      = Row.ffn (row x0 (j 0) (j 1)) (fun k => x2 (ix1 k)) (mod x1 3 (j 0)) (mod x1 4 (j 0)) (mod x1 5 (j 0)) (fun k n => x3 (ix2 k n))
          (fun n d => x4 (ix2 n d)) (j 2) := by
  pointwise [val_main_v0, val_main_v1, val_main_v2, val_main_v9, val_main_v10, val_main_v11, val_main_v36, val_main_v37, val_main_v38, val_main_v39, hidden_at]
  rfl

/-- The reference's result. -/
theorem out_at (j : S8x8192x1024.Idx) :
    val_main_v52 (F := Ideal) x0 x1 x2 x3 x4 x5 j
      = Row.normed (Row.ffn (row x0 (j 0) (j 1)) (fun k => x2 (ix1 k)) (mod x1 3 (j 0)) (mod x1 4 (j 0)) (mod x1 5 (j 0)) (fun k n => x3 (ix2 k n))
          (fun n d => x4 (ix2 n d))) (fun k => x5 (ix1 k)) (j 2) := by
  pointwise [val_main_v40, val_main_v41, val_main_v42, val_main_v43, val_main_v44, val_main_v45, val_main_v46, val_main_v47, val_main_v48, val_main_v49, val_main_v50, val_main_v51, val_main_v52, val_main_cst_3, val_main_cst_4, val_main_cst_5, ffn_at]
  rw [Row.div_1024]
  rfl

end Cert.FfnLastRefIdeal.Ref
end
-- ==== Proof.Ffn.RefFirst.lean ====
module

public import proofs.«01_k».proof.Proof.Gen.FfnRefIdeal.Read
public import proofs.«01_k».proof.Proof.Ffn.RefLast
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The reference of the first layer's feed-forward call, read at an index. -/
namespace Cert.FfnRefIdeal.Ref
open Cert.FfnRefIdeal Cert.FfnRefIdeal.Read

variable (x0 : FVec Ideal S8x8448x1024 .f32) (x1 : FVec Ideal S8x2x6x1024 .f32) (x2 : FVec Ideal S1024 .f32)
  (x3 : FVec Ideal S1024x5632 .f32) (x4 : FVec Ideal S2816x1024 .f32)

/-- Which modulation vectors token `t` takes: 0 the latents', 1 the context's. -/
abbrev sel (t : Fin 8448) : Fin 2 := ⟨t.val / 8192, by omega⟩
/-- Token `t` of batch `b`. -/
abbrev row (b : Fin 8) (t : Fin 8448) (k : Fin 1024) : EReal := x0 (ix3 b t k)
/-- Modulation vector `q` of batch `b` for token `t`. -/
abbrev mod (q : Fin 6) (b : Fin 8) (t : Fin 8448) (k : Fin 1024) : EReal := x1 (ix4 b (sel t) q k)
/-- Token `t` of the context rows. -/
abbrev crow (b : Fin 8) (t : Fin 256) (k : Fin 1024) : EReal := x0 (ix3 b ⟨8192 + t, by omega⟩ k)
/-- Modulation vector `q` for the context rows. -/
abbrev cmod (q : Fin 6) (b : Fin 8) (k : Fin 1024) : EReal := x1 (ix4 b 1 q k)

/-- The reference's modulated context rows. -/
theorem mod_at (j : S8x256x1024.Idx) :
    val_main_v70 (F := Ideal) x0 x1 x2 j = Row.modulated (crow x0 (j 0) (j 1)) (fun k => x2 (ix1 k)) (cmod x1 3 (j 0)) (cmod x1 4 (j 0)) (j 2) := by
  pointwise [val_main_v40, val_main_v41, val_main_v42, val_main_v43, val_main_v44, val_main_v45, val_main_v46, val_main_v47, val_main_v48, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_cst_3, val_main_cst_4, val_main_cst_5, val_main_cst_6]
  rw [Row.div_1024]
  exact congrArg (· + _) (mul_assoc _ _ _)

/-- The reference's hidden units of the context rows. -/
theorem hidden_at (j : S8x256x2816.Idx) :
    val_main_v75 (F := Ideal) x0 x1 x2 x3 j
      = Row.hidden (Row.modulated (crow x0 (j 0) (j 1)) (fun k => x2 (ix1 k)) (cmod x1 3 (j 0)) (cmod x1 4 (j 0))) (fun k n => x3 (ix2 k n)) (j 2) := by
  pointwise [val_main_v71, val_main_v72, val_main_v73, val_main_v74, val_main_v75, val_main_call1_v0, val_main_call1_v1, val_main_call1_v2, val_main_call1_v3, val_main_call1_v4, val_main_call1_v5,
    val_main_call1_cst, val_main_call1_cst_0, mod_at]
  rfl

/-- The reference's context rows after the residual sum. -/
theorem ffn_at (j : S8x256x1024.Idx) :
    val_main_v79 (F := Ideal) x0 x1 x2 x3 x4 j
      = Row.ffn (crow x0 (j 0) (j 1)) (fun k => x2 (ix1 k)) (cmod x1 3 (j 0)) (cmod x1 4 (j 0)) (cmod x1 5 (j 0)) (fun k n => x3 (ix2 k n))
          (fun n d => x4 (ix2 n d)) (j 2) := by
  pointwise [val_main_v40, val_main_v41, val_main_v42, val_main_v49, val_main_v50, val_main_v51, val_main_v76, val_main_v77, val_main_v78, val_main_v79, hidden_at]
  rfl

/-- The latent rows are computed as in the last layer. -/
theorem latent_eq : val_main_v39 (F := Ideal) x0 x1 x2 x3 x4 = FfnLastRefIdeal.Read.val_main_v39 (F := Ideal) x0 x1 x2 x3 x4 := rfl

/-- The reference's result. -/
theorem out_at (j : S8x8448x1024.Idx) :
    val_main_v80 (F := Ideal) x0 x1 x2 x3 x4 j
      = Row.ffn (row x0 (j 0) (j 1)) (fun k => x2 (ix1 k)) (mod x1 3 (j 0) (j 1)) (mod x1 4 (j 0) (j 1)) (mod x1 5 (j 0) (j 1))
          (fun k n => x3 (ix2 k n)) (fun n d => x4 (ix2 n d)) (j 2) := by
  have hl : (j 1).val < 8448 := (j 1).isLt
  pointwise [val_main_v80, latent_eq, FfnLastRefIdeal.Ref.ffn_at, ffn_at]
  split
  · rename_i h
    have hs : sel (j 1) = 0 := Fin.ext (Nat.div_eq_of_lt h)
    exact Row.ffn_congr (fun k => rfl) (fun k => rfl) (fun k => congrArg (fun q => x1 (ix4 (j 0) q 3 k)) hs.symm)
      (fun k => congrArg (fun q => x1 (ix4 (j 0) q 4 k)) hs.symm) (fun k => congrArg (fun q => x1 (ix4 (j 0) q 5 k)) hs.symm)
      (fun k n => rfl) (fun n d => rfl) rfl
  · rename_i h
    have hs : sel (j 1) = 1 := Fin.ext (by show (j 1).val / 8192 = 1; omega)
    have hr : (⟨8192 + ((j 1).val - 8192), by omega⟩ : Fin 8448) = j 1 := Fin.ext (by show 8192 + ((j 1).val - 8192) = _; omega)
    exact Row.ffn_congr (fun k => congrArg (fun t => x0 (ix3 (j 0) t k)) hr) (fun k => rfl)
      (fun k => congrArg (fun q => x1 (ix4 (j 0) q 3 k)) hs.symm) (fun k => congrArg (fun q => x1 (ix4 (j 0) q 4 k)) hs.symm)
      (fun k => congrArg (fun q => x1 (ix4 (j 0) q 5 k)) hs.symm) (fun k n => rfl) (fun n d => rfl) rfl

end Cert.FfnRefIdeal.Ref
end
-- ==== Proof.Ffn.First.lean ====
module

public import proofs.«01_k».proof.Proof.Gen.FfnIdeal.Frame
public import proofs.«01_k».proof.Proof.Gen.FfnIdeal.Value
public import proofs.«01_k».proof.Proof.Ffn.RefFirst
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The first layer's feed-forward call's result array. -/
namespace Cert.FfnIdeal.Value
open Cert.FfnIdeal Cert.FfnIdeal.Gen

/-- The modulated row of the first stored batch entry, as the kernel computes it. -/
theorem pay3_at (v0 : Vec Ideal S1x256x1024 .f32) (v2 v4 : Vec Ideal S1x1x1x1024 .f32) (v16 : Vec Ideal S1x1024 .f32) (j) :
    k0_pay3 (F := Ideal) v0 v2 v4 v16 j = Row.modulated (fun k => v0 (ix3 0 (j 0) k)) (fun k => v16 (ix2 0 k)) (fun k => v2 (ix4 0 0 0 k))
      (fun k => v4 (ix4 0 0 0 k)) (j 1) := by
  pointwise [k0_pay3]
  rfl

/-- The down projection of the first batch entry. -/
theorem pay7_at (v25 : FVec Ideal S256x1024 .bf16) (v52 : Vec Ideal S1024x5632 .bf16) (v70 : Vec Ideal S2816x1024 .bf16) (j) :
    k0_pay7 (F := Ideal) v25 v52 v70 j
      = ∑ n, Row.hidden (fun k => v25 (ix2 (j 0) k)) (fun k n => v52 (ix2 k n)) n * v70 (ix2 n (j 1)) := by
  pointwise [k0_pay7]
  rfl

/-- The hidden units of the second batch entry. -/
theorem pay6_at (v26 : Vec Ideal S1x256x1024 .f32) (v28 v30 : Vec Ideal S1x1x1x1024 .f32) (v42 : Vec Ideal S1x1024 .f32)
    (v55 : Vec Ideal S1024x5632 .bf16) (j) :
    k0_pay6 (F := Ideal) (k0_pay4 v26) (k0_pay5 v28) v30 v42 v55 j
      = Row.hidden (Row.modulated (fun k => v26 (ix3 0 (j 0) k)) (fun k => v42 (ix2 0 k)) (fun k => v28 (ix4 0 0 0 k))
          (fun k => v30 (ix4 0 0 0 k))) (fun k n => v55 (ix2 k n)) (j 1) := by
  pointwise [k0_pay6, k0_pay4, k0_pay5]
  rfl

/-- The stored rows of the first batch entry. -/
theorem pay1_at (v0 : Vec Ideal S1x256x1024 .f32) (v2 v4 v78 : Vec Ideal S1x1x1x1024 .f32) (v16 : Vec Ideal S1x1024 .f32)
    (v52 : Vec Ideal S1024x5632 .bf16) (v70 : Vec Ideal S2816x1024 .bf16) (j) :
    k0_pay1 (F := Ideal) (k0_pay7 (k0_pay3 v0 v2 v4 v16) v52 v70) v0 v78 j
      = Row.ffn (fun k => v0 (ix3 0 (j 1) k)) (fun k => v16 (ix2 0 k)) (fun k => v2 (ix4 0 0 0 k)) (fun k => v4 (ix4 0 0 0 k))
          (fun k => v78 (ix4 0 0 0 k)) (fun k n => v52 (ix2 k n)) (fun n d => v70 (ix2 n d)) (j 2) := by
  pointwise [k0_pay1, pay7_at, pay3_at]
  have hj : v0 j = v0 (ix3 0 (j 1) (j 2)) := by blk_ext
  rw [hj]
  rfl

/-- The stored rows of the second batch entry. -/
theorem pay2_at (v0 : Vec Ideal S1x256x1024 .f32) (v2 v4 v78 : Vec Ideal S1x1x1x1024 .f32) (v16 : Vec Ideal S1x1024 .f32)
    (v52 : Vec Ideal S1024x5632 .bf16) (v70 : Vec Ideal S2816x1024 .bf16) (j) :
    k0_pay2 (F := Ideal) (k0_pay6 (k0_pay4 v0) (k0_pay5 v2) v4 v16 v52) v70 v0 v78 j
      = Row.ffn (fun k => v0 (ix3 0 (j 1) k)) (fun k => v16 (ix2 0 k)) (fun k => v2 (ix4 0 0 0 k)) (fun k => v4 (ix4 0 0 0 k))
          (fun k => v78 (ix4 0 0 0 k)) (fun k n => v52 (ix2 k n)) (fun n d => v70 (ix2 n d)) (j 2) := by
  pointwise [k0_pay2, pay6_at]
  have hj : v0 j = v0 (ix3 0 (j 1) (j 2)) := by blk_ext
  rw [hj]
  rfl

variable (m : (ℓ : Loc nD τ sig) → Buf (Elt Ideal) ℓ)

/-- Where each window's block lies at a grid point. -/
theorem idx_val : ∀ t : Fin cfg0.N, win0_0.index t = ![t.val / 33, t.val % 33, 0]
    ∧ win0_1.index t = ![t.val / 33, t.val % 33 / 32, 0, 0]
    ∧ win0_2.index t = ![0, 0]
    ∧ win0_3.index t = ![0, 0]
    ∧ win0_4.index t = ![0, 0]
    ∧ win0_5.index t = ![0, 0]
    ∧ win0_6.index t = ![t.val / 33, t.val % 33, 0] :=
  (by decide +kernel : ∀ t : Fin grid0.N, _)

/-- The arguments' reference value. -/
abbrev REF (c : Dev nD) : FVec Ideal Cert.FfnRefIdeal.S8x8448x1024 .f32 :=
  FfnRefIdeal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Window 2's block is the whole gain row. -/
theorem gain_at (c : Dev nD) (t : Fin cfg0.N) (k : Fin 1024) :
    View.ld (iblk m c 2 t) r0_3 (ix2 0 k) = m ((c : Thread nD τ).loc main_arg2) (ix1 k) := by
  have h : iblk m c 2 t = V m c main_v0 := by blk_ext! [iblk, idx_val t]
  rw [h]
  entry_read
  pointwise

/-- Window 3's block is the whole first weight matrix. -/
theorem win_at (c : Dev nD) (t : Fin cfg0.N) (k : Fin 1024) (n : Fin 5632) :
    View.ld (iblk m c 3 t) r0_7 (ix2 k n) = m ((c : Thread nD τ).loc main_arg3) (ix2 k n) := by
  have h : iblk m c 3 t = V m c main_v1 := by blk_ext! [iblk, idx_val t]
  rw [h]
  entry_read
  pointwise

/-- Window 4's block is the whole second weight matrix. -/
theorem wout_at (c : Dev nD) (t : Fin cfg0.N) (n : Fin 2816) (d : Fin 1024) :
    View.ld (iblk m c 4 t) r0_8 (ix2 n d) = m ((c : Thread nD τ).loc main_arg4) (ix2 n d) := by
  have h : iblk m c 4 t = V m c main_v2 := by blk_ext! [iblk, idx_val t]
  rw [h]
  entry_read
  pointwise

/-- What the body stores at grid point `t` is the reference's block there. -/
theorem point (c : Dev nD) (t : Fin cfg0.N) (y) :
    out0_6 (iblk m c 0 t) (iblk m c 1 t) (iblk m c 2 t) (iblk m c 3 t) (iblk m c 4 t) (iblk m c 5 t) y
      = REF m c (((cfg0.win 6).blk t).view.emb y) := by
  refine Eq.trans ?_ (FfnRefIdeal.Ref.out_at _ _ _ _ _ _).symm
  unfold out0_6
  canon_tiles x h
  case piece0 =>
    refine (pay2_at _ _ _ _ _ _ _ _).trans (Row.ffn_congr (fun k => ?_) (gain_at m c t) (fun k => ?_) (fun k => ?_) (fun k => ?_)
      (win_at m c t) (wout_at m c t) ?_)
    · dsimp only [FfnRefIdeal.Ref.row]; blk_point [iblk, V, idx_val t]
    · dsimp only [FfnRefIdeal.Ref.mod]; blk_point [iblk, V, idx_val t]; blk_simp [idx_val t]; omega
    · dsimp only [FfnRefIdeal.Ref.mod]; blk_point [iblk, V, idx_val t]; blk_simp [idx_val t]; omega
    · dsimp only [FfnRefIdeal.Ref.mod]; blk_point [iblk, V, idx_val t]; blk_simp [idx_val t]; omega
    · apply Fin.ext; blk_simp [idx_val t]; first | done | omega
  case piece1 =>
    refine (pay1_at _ _ _ _ _ _ _ _).trans (Row.ffn_congr (fun k => ?_) (gain_at m c t) (fun k => ?_) (fun k => ?_) (fun k => ?_)
      (win_at m c t) (wout_at m c t) ?_)
    · dsimp only [FfnRefIdeal.Ref.row]; blk_point [iblk, V, idx_val t]
    · dsimp only [FfnRefIdeal.Ref.mod]; blk_point [iblk, V, idx_val t]; blk_simp [idx_val t]; omega
    · dsimp only [FfnRefIdeal.Ref.mod]; blk_point [iblk, V, idx_val t]; blk_simp [idx_val t]; omega
    · dsimp only [FfnRefIdeal.Ref.mod]; blk_point [iblk, V, idx_val t]; blk_simp [idx_val t]; omega
    · apply Fin.ext; blk_simp [idx_val t]; first | done | omega

/-- The whole result array. -/
theorem final (c : Dev nD) : (dats m 0 c).arrAt 6 (cfgs 0).N = REF m c := by
  refine (dats m 0 c).arrAt_eq_of_covers 6 _ (by decide +kernel) fun t hf y => ?_
  blk_simp; rw [after0_6]
  exact point m c t y

end Cert.FfnIdeal.Value
end
-- ==== Proof.Ffn.Last.lean ====
module

public import proofs.«01_k».proof.Proof.Gen.FfnLastIdeal.Frame
public import proofs.«01_k».proof.Proof.Gen.FfnLastIdeal.Value
public import proofs.«01_k».proof.Proof.Ffn.RefLast
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The last feed-forward call's result array. -/
namespace Cert.FfnLastIdeal.Value
open Cert.FfnLastIdeal Cert.FfnLastIdeal.Gen

/-- The modulated row of the first stored batch entry, as the kernel computes it. -/
theorem pay2_at (v0 : Vec Ideal S1x256x1024 .f32) (v2 v4 : Vec Ideal S1x1x1x1024 .f32) (v16 : Vec Ideal S1x1024 .f32) (j) :
    k0_pay2 (F := Ideal) v0 v2 v4 v16 j = Row.modulated (fun k => v0 (ix3 0 (j 0) k)) (fun k => v16 (ix2 0 k)) (fun k => v2 (ix4 0 0 0 k))
      (fun k => v4 (ix4 0 0 0 k)) (j 1) := by
  pointwise [k0_pay2]
  rfl

/-- The down projection of the first batch entry. -/
theorem pay6_at (v25 : FVec Ideal S256x1024 .bf16) (v52 : Vec Ideal S1024x5632 .bf16) (v70 : Vec Ideal S2816x1024 .bf16) (j) :
    k0_pay6 (F := Ideal) v25 v52 v70 j
      = ∑ n, Row.hidden (fun k => v25 (ix2 (j 0) k)) (fun k n => v52 (ix2 k n)) n * v70 (ix2 n (j 1)) := by
  pointwise [k0_pay6]
  rfl

/-- The hidden units of the second batch entry. -/
theorem pay5_at (v26 : Vec Ideal S1x256x1024 .f32) (v28 v30 : Vec Ideal S1x1x1x1024 .f32) (v42 : Vec Ideal S1x1024 .f32)
    (v55 : Vec Ideal S1024x5632 .bf16) (j) :
    k0_pay5 (F := Ideal) (k0_pay3 v26) (k0_pay4 v28) v30 v42 v55 j
      = Row.hidden (Row.modulated (fun k => v26 (ix3 0 (j 0) k)) (fun k => v42 (ix2 0 k)) (fun k => v28 (ix4 0 0 0 k))
          (fun k => v30 (ix4 0 0 0 k))) (fun k n => v55 (ix2 k n)) (j 1) := by
  pointwise [k0_pay5, k0_pay3, k0_pay4]
  rfl

/-- The stored rows of the first batch entry. -/
theorem pay7_at (v0 : Vec Ideal S1x256x1024 .f32) (v2 v4 v78 : Vec Ideal S1x1x1x1024 .f32) (v16 v93 : Vec Ideal S1x1024 .f32)
    (v52 : Vec Ideal S1024x5632 .bf16) (v70 : Vec Ideal S2816x1024 .bf16) (j) :
    k0_pay7 (F := Ideal) (k0_pay6 (k0_pay2 v0 v2 v4 v16) v52 v70) v0 v78 v93 j
      = Row.normed (Row.ffn (fun k => v0 (ix3 0 (j 1) k)) (fun k => v16 (ix2 0 k)) (fun k => v2 (ix4 0 0 0 k)) (fun k => v4 (ix4 0 0 0 k))
          (fun k => v78 (ix4 0 0 0 k)) (fun k n => v52 (ix2 k n)) (fun n d => v70 (ix2 n d))) (fun k => v93 (ix2 0 k)) (j 2) := by
  pointwise [k0_pay7, pay6_at, pay2_at]
  have hj : v0 j = v0 (ix3 0 (j 1) (j 2)) := by blk_ext
  rw [hj]
  rfl

/-- The stored rows of the second batch entry. -/
theorem pay1_at (v0 : Vec Ideal S1x256x1024 .f32) (v2 v4 v78 : Vec Ideal S1x1x1x1024 .f32) (v16 v93 : Vec Ideal S1x1024 .f32)
    (v52 : Vec Ideal S1024x5632 .bf16) (v70 : Vec Ideal S2816x1024 .bf16) (j) :
    k0_pay1 (F := Ideal) (k0_pay8 (k0_pay5 (k0_pay3 v0) (k0_pay4 v2) v4 v16 v52) v70 v0 v78)
        (k0_pay9 (k0_pay5 (k0_pay3 v0) (k0_pay4 v2) v4 v16 v52) v70 v0 v78) v93 j
      = Row.normed (Row.ffn (fun k => v0 (ix3 0 (j 1) k)) (fun k => v16 (ix2 0 k)) (fun k => v2 (ix4 0 0 0 k)) (fun k => v4 (ix4 0 0 0 k))
          (fun k => v78 (ix4 0 0 0 k)) (fun k n => v52 (ix2 k n)) (fun n d => v70 (ix2 n d))) (fun k => v93 (ix2 0 k)) (j 2) := by
  pointwise [k0_pay1, k0_pay8, k0_pay9, pay5_at]
  have hj : v0 j = v0 (ix3 0 (j 1) (j 2)) := by blk_ext
  rw [hj]
  rfl

variable (m : (ℓ : Loc nD τ sig) → Buf (Elt Ideal) ℓ)

/-- Where each window's block lies at a grid point. -/
theorem idx_val : ∀ t : Fin cfg0.N, win0_0.index t = ![t.val / 32, t.val % 32, 0]
    ∧ win0_1.index t = ![t.val / 32, 0, 0, 0]
    ∧ win0_2.index t = ![0, 0]
    ∧ win0_3.index t = ![0, 0]
    ∧ win0_4.index t = ![0, 0]
    ∧ win0_5.index t = ![0, 0]
    ∧ win0_6.index t = ![t.val / 32, t.val % 32, 0] :=
  (by decide +kernel : ∀ t : Fin grid0.N, _)

/-- The arguments' reference value. -/
abbrev REF (c : Dev nD) : FVec Ideal Cert.FfnLastRefIdeal.S8x8192x1024 .f32 :=
  FfnLastRefIdeal.Read.val_main_v52 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Window 2's block is the whole gain row. -/
theorem gain_at (c : Dev nD) (t : Fin cfg0.N) (k : Fin 1024) :
    View.ld (iblk m c 2 t) r0_3 (ix2 0 k) = m ((c : Thread nD τ).loc main_arg2) (ix1 k) := by
  have h : iblk m c 2 t = V m c main_v0 := by blk_ext! [iblk, idx_val t]
  rw [h]
  entry_read
  pointwise

/-- Window 3's block is the whole first weight matrix. -/
theorem win_at (c : Dev nD) (t : Fin cfg0.N) (k : Fin 1024) (n : Fin 5632) :
    View.ld (iblk m c 3 t) r0_7 (ix2 k n) = m ((c : Thread nD τ).loc main_arg3) (ix2 k n) := by
  have h : iblk m c 3 t = V m c main_v1 := by blk_ext! [iblk, idx_val t]
  rw [h]
  entry_read
  pointwise

/-- Window 4's block is the whole second weight matrix. -/
theorem wout_at (c : Dev nD) (t : Fin cfg0.N) (n : Fin 2816) (d : Fin 1024) :
    View.ld (iblk m c 4 t) r0_8 (ix2 n d) = m ((c : Thread nD τ).loc main_arg4) (ix2 n d) := by
  have h : iblk m c 4 t = V m c main_v2 := by blk_ext! [iblk, idx_val t]
  rw [h]
  entry_read
  pointwise

/-- Window 5's block is the whole closing gain row. -/
theorem fgain_at (c : Dev nD) (t : Fin cfg0.N) (k : Fin 1024) :
    View.ld (iblk m c 5 t) r0_3 (ix2 0 k) = m ((c : Thread nD τ).loc main_arg5) (ix1 k) := by
  have h : iblk m c 5 t = V m c main_v3 := by blk_ext! [iblk, idx_val t]
  rw [h]
  entry_read
  pointwise

/-- What the body stores at grid point `t` is the reference's block there. -/
theorem point (c : Dev nD) (t : Fin cfg0.N) (y) :
    out0_6 (iblk m c 0 t) (iblk m c 1 t) (iblk m c 2 t) (iblk m c 3 t) (iblk m c 4 t) (iblk m c 5 t) y
      = REF m c (((cfg0.win 6).blk t).view.emb y) := by
  refine Eq.trans ?_ (FfnLastRefIdeal.Ref.out_at _ _ _ _ _ _ _).symm
  unfold_out out0_6
  canon_tiles x h
  case piece0 =>
    refine (pay1_at _ _ _ _ _ _ _ _ _).trans (Row.normed_ffn_congr (fun k => ?_) (gain_at m c t) (fun k => ?_) (fun k => ?_) (fun k => ?_)
      (win_at m c t) (wout_at m c t) (fgain_at m c t) ?_)
    · dsimp only [FfnLastRefIdeal.Ref.row]; blk_point [iblk, V, idx_val t]
    · dsimp only [FfnLastRefIdeal.Ref.mod]; blk_point [iblk, V, idx_val t]
    · dsimp only [FfnLastRefIdeal.Ref.mod]; blk_point [iblk, V, idx_val t]
    · dsimp only [FfnLastRefIdeal.Ref.mod]; blk_point [iblk, V, idx_val t]
    · apply Fin.ext; blk_simp [idx_val t]; first | done | omega
  case piece1 =>
    refine (pay7_at _ _ _ _ _ _ _ _ _).trans (Row.normed_ffn_congr (fun k => ?_) (gain_at m c t) (fun k => ?_) (fun k => ?_) (fun k => ?_)
      (win_at m c t) (wout_at m c t) (fgain_at m c t) ?_)
    · dsimp only [FfnLastRefIdeal.Ref.row]; blk_point [iblk, V, idx_val t]
    · dsimp only [FfnLastRefIdeal.Ref.mod]; blk_point [iblk, V, idx_val t]
    · dsimp only [FfnLastRefIdeal.Ref.mod]; blk_point [iblk, V, idx_val t]
    · dsimp only [FfnLastRefIdeal.Ref.mod]; blk_point [iblk, V, idx_val t]
    · apply Fin.ext; blk_simp [idx_val t]; first | done | omega

/-- The whole result array. -/
theorem final (c : Dev nD) : (dats m 0 c).arrAt 6 (cfgs 0).N = REF m c := by
  refine (dats m 0 c).arrAt_eq_of_covers 6 _ (by decide +kernel) fun t hf y => ?_
  blk_simp; rw [after0_6]
  exact point m c t y

end Cert.FfnLastIdeal.Value
end
-- ==== Proof.Ffn.Claims.lean ====
module

public import proofs.«01_k».proof.Defs
public import proofs.«01_k».proof.Proof.Ffn.First
public import proofs.«01_k».proof.Proof.Ffn.Last
public import proofs.«01_k».proof.Proof.Gen.FfnRefIdeal.Run
public import proofs.«01_k».proof.Proof.Gen.FfnRefIdeal.Read
public import proofs.«01_k».proof.Proof.Gen.FfnLastRefIdeal.Run
public import proofs.«01_k».proof.Proof.Gen.FfnLastRefIdeal.Read
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the two feed-forward calls. -/
namespace Cert.Proof

/-- The first layer's feed-forward call at ideal numbers ends with its reference's result. -/
theorem value_Ffn : Cert.algebraic_FfnIdeal_FfnRefIdeal := by
  intro m g m' g' hp hagree
  refine ⟨fun c => Cert.FfnIdeal.Value.REF m c, ?_, ?_⟩
  · run_from Cert.FfnIdeal.Gen.run_main m g
    exact Cert.FfnIdeal.Value.final m c
  · refine (θ_run _ _ _).mono (fun r h c => ⟨(h c).1.trans ?_, (h c).2⟩) (Cert.FfnRefIdeal.Value.run m' g')
    obtain ⟨h0, h1, h2, h3, h4, h5⟩ := hagree c
    rw [Cert.FfnRefIdeal.Read.val_main_v80_eq]
    unfold Cert.FfnIdeal.Value.REF
    rw [h0, h1, h2, h3, h4]

/-- The first layer's reference terminates, leaves its arguments alone and its counters at zero. -/
theorem frame_FfnRef : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The last layer's feed-forward call at ideal numbers ends with its reference's result. -/
theorem value_FfnLast : Cert.algebraic_FfnLastIdeal_FfnLastRefIdeal := by
  intro m g m' g' hp hagree
  refine ⟨fun c => Cert.FfnLastIdeal.Value.REF m c, ?_, ?_⟩
  · run_from Cert.FfnLastIdeal.Gen.run_main m g
    exact Cert.FfnLastIdeal.Value.final m c
  · refine (θ_run _ _ _).mono (fun r h c => ⟨(h c).1.trans ?_, (h c).2⟩) (Cert.FfnLastRefIdeal.Value.run m' g')
    obtain ⟨h0, h1, h2, h3, h4, h5⟩ := hagree c
    rw [Cert.FfnLastRefIdeal.Read.val_main_v52_eq]
    unfold Cert.FfnLastIdeal.Value.REF
    rw [h0, h1, h2, h3, h4, h5]

/-- The last layer's reference terminates, leaves its arguments alone and its counters at zero. -/
theorem frame_FfnLastRef : Cert.quiescent_FfnLastRefIdeal := fun m ρ _ =>
  (θ_run Cert.FfnLastRefIdeal.defs _ _).mono (fun r h => ⟨fun c => (h c).2, Idealize.ShloMosaic.sem_eq_zero_of_no_sems (by decide) r.2⟩)
    (Cert.FfnLastRefIdeal.Value.run (F := Ideal) m ρ)

end Cert.Proof
end
-- ==== Proof.Merge.Spec.lean ====
module

public import proofs.«01_k».proof.Proof.Ffn.Spec

@[expose] public section
set_option maxRecDepth 16384
noncomputable section
open Idealize.ShloMosaic
open scoped BigOperators

/-! The merge of the branches on one token's row, over extended reals. -/
namespace Cert.Row

/-- Column `d` of head `h` in a row of four heads side by side. -/
abbrev col (h : Fin 4) (d : Fin 128) : Fin 512 := ⟨h.val * 128 + d.val, by omega⟩

/-- The root-mean-square factor of a head. -/
def headFactor (x : Fin 128 → EReal) : EReal :=
  Ideal.rsqrt ((∑ k, x k * x k) * Ideal.ofBits .f32 1006632960#32 + Ideal.ofBits .f32 897988541#32)

/-- Entry `n` of the recurrent branch, four heads side by side: normalised within its head, scaled by a gain, gated by `silu z`. -/
def branch (o z : Fin 512 → EReal) (g : Fin 128 → EReal) (n : Fin 512) : EReal :=
  o n * headFactor (fun k => o (col ⟨n.val / 128, by omega⟩ k)) * g ⟨n.val % 128, Nat.mod_lt _ (by decide)⟩ * (z n * Ideal.logistic (z n))

/-- Entry `d` of a head of the recurrent branch whose columns are `q`. -/
def headUnit (o z : Fin 512 → EReal) (g : Fin 128 → EReal) (q : Fin 128 → Fin 512) (d : Fin 128) : EReal :=
  o (q d) * headFactor (fun k => o (q k)) * g d * (z (q d) * Ideal.logistic (z (q d)))

/-- The branch read by head: an entry in head `h`, whose columns are `q`. -/
theorem branch_eq (o z : Fin 512 → EReal) (g : Fin 128 → EReal) (q : Fin 128 → Fin 512) (d : Fin 128) (n : Fin 512) (h : Fin 4)
    (hq : ∀ k, (q k).val = h.val * 128 + k.val) (hn : n.val = h.val * 128 + d.val) : headUnit o z g q d = branch o z g n := by
  have eq : q = col h := funext fun k => Fin.ext (hq k)
  have e : n = col h d := Fin.ext hn
  have e1 : (⟨n.val / 128, by omega⟩ : Fin 4) = h := Fin.ext (by show n.val / 128 = h.val; omega)
  have e2 : (⟨n.val % 128, Nat.mod_lt _ (by decide)⟩ : Fin 128) = d := Fin.ext (by show n.val % 128 = d.val; omega)
  unfold branch headUnit
  rw [e1, e2, e, eq]

/-- Gate `n` of a row. -/
def gate (h : Fin 1024 → EReal) (W : Fin 1024 → Fin 3072 → EReal) (b : Fin 3072 → EReal) (n : Fin 3072) : EReal :=
  Ideal.logistic (∑ k, h k * W k n + b n)

/-- A branch projected to the model's width. -/
def proj (v : Fin 512 → EReal) (W : Fin 512 → Fin 1024 → EReal) (d : Fin 1024) : EReal := ∑ k, v k * W k d

/-- The three projected branches, each times its gate, summed. -/
def merged (g : Fin 3072 → EReal) (a b c : Fin 1024 → EReal) (d : Fin 1024) : EReal :=
  g ⟨d.val, by omega⟩ * a d + g ⟨1024 + d.val, by omega⟩ * b d + g ⟨2048 + d.val, by omega⟩ * c d

/-- The row after the merge: the row plus a gate times the projected sum of the branches. -/
def mix (x ng sh sc e : Fin 1024 → EReal) (o z sv fv : Fin 512 → EReal) (W : Fin 1024 → Fin 3072 → EReal) (bias : Fin 3072 → EReal)
    (g : Fin 128 → EReal) (Wd Ws Wf : Fin 512 → Fin 1024 → EReal) (Wo : Fin 1024 → Fin 1024 → EReal) (d : Fin 1024) : EReal :=
  x d + e d * ∑ k, merged (gate (modulated x ng sh sc) W bias) (proj (branch o z g) Wd) (proj sv Ws) (proj fv Wf) k * Wo k d

/-- Rows that agree entry by entry have the same merge. -/
theorem mix_congr {x x' ng ng' sh sh' sc sc' e e' : Fin 1024 → EReal} {o o' z z' sv sv' fv fv' : Fin 512 → EReal}
    {W W' : Fin 1024 → Fin 3072 → EReal} {bias bias' : Fin 3072 → EReal} {g g' : Fin 128 → EReal}
    {Wd Wd' Ws Ws' Wf Wf' : Fin 512 → Fin 1024 → EReal} {Wo Wo' : Fin 1024 → Fin 1024 → EReal} {d d' : Fin 1024}
    (hx : ∀ k, x k = x' k) (hng : ∀ k, ng k = ng' k) (hsh : ∀ k, sh k = sh' k) (hsc : ∀ k, sc k = sc' k) (he : ∀ k, e k = e' k)
    (ho : ∀ k, o k = o' k) (hz : ∀ k, z k = z' k) (hs : ∀ k, sv k = sv' k) (hf : ∀ k, fv k = fv' k)
    (hW : ∀ k n, W k n = W' k n) (hb : ∀ n, bias n = bias' n) (hg : ∀ k, g k = g' k) (hWd : ∀ n d, Wd n d = Wd' n d)
    (hWs : ∀ n d, Ws n d = Ws' n d) (hWf : ∀ n d, Wf n d = Wf' n d) (hWo : ∀ n d, Wo n d = Wo' n d) (hd : d = d') :
    mix x ng sh sc e o z sv fv W bias g Wd Ws Wf Wo d = mix x' ng' sh' sc' e' o' z' sv' fv' W' bias' g' Wd' Ws' Wf' Wo' d' := by
  obtain rfl := funext hx
  obtain rfl := funext hng
  obtain rfl := funext hsh
  obtain rfl := funext hsc
  obtain rfl := funext he
  obtain rfl := funext ho
  obtain rfl := funext hz
  obtain rfl := funext hs
  obtain rfl := funext hf
  obtain rfl := funext fun k => funext (hW k)
  obtain rfl := funext hb
  obtain rfl := funext hg
  obtain rfl := funext fun k => funext (hWd k)
  obtain rfl := funext fun k => funext (hWs k)
  obtain rfl := funext fun k => funext (hWf k)
  obtain rfl := funext fun k => funext (hWo k)
  rw [hd]

/-- The word of `128`. -/
theorem ofBits_128 : Ideal.ofBits .f32 1124073472#32 = ((128 : ℝ) : EReal) := by
  simp [Ideal.ofBits, Ideal.ieee, -EReal.coe_mul]
  norm_num

/-- The word of `1 / 128`. -/
theorem ofBits_inv_128 : Ideal.ofBits .f32 1006632960#32 = ((1 / 128 : ℝ) : EReal) := by
  simp [Ideal.ofBits, Ideal.ieee, -EReal.coe_mul]
  norm_num

/-- Dividing by 128 is multiplying by the word of `1 / 128`. -/
theorem div_128 (x : EReal) : Ideal.div x (Ideal.ofBits .f32 1124073472#32) = x * Ideal.ofBits .f32 1006632960#32 := by
  rw [ofBits_128, ofBits_inv_128, Ideal.div_coe (by norm_num)]

end Cert.Row
end
-- ==== Proof.Merge.Pays.lean ====
module

public import proofs.«01_k».proof.Proof.Gen.MergeIdeal.Frame
public import proofs.«01_k».proof.Proof.Gen.MergeIdeal.Value
public import proofs.«01_k».proof.Proof.Merge.Spec
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The merge kernel's values at an index. -/
namespace Cert.MergeIdeal.Value
open Cert.MergeIdeal Cert.MergeIdeal.Gen

variable (i : grid0.Coords) (a b : Vec Ideal S1x256x1024 .f32) (sh sc e : Vec Ideal S1x1x1x1024 .f32) (ng : Vec Ideal S1x1024 .f32)
  (of ob : Vec Ideal S1x256x512 .bf16) (z : Vec Ideal S1x256x512 .f32) (og : Vec Ideal S1x128 .f32) (s fl fc : Vec Ideal S1x256x512 .bf16)
  (W : Vec Ideal S1024x3072 .bf16) (bias : Vec Ideal S1x3072 .f32) (Wd Ws Wf : Vec Ideal S512x1024 .bf16) (Wo : Vec Ideal S1024x1024 .bf16)

/-- Whether a grid point's tile holds latent rows. -/
abbrev lat : BitVec 1 := Scalar.cmpi .slt (BitVec.ofNat 32 (i 1).val) 32#32

/-- A row of the tile: a latent row or a context row. -/
abbrev rows (r : Fin 256) (k : Fin 1024) : EReal := Scalar.select (lat i) (a (ix3 0 r k)) (b (ix3 0 r k))

/-- A row of the tile's Fourier branch. -/
abbrev fours (r : Fin 256) (n : Fin 512) : EReal := Scalar.select (lat i) (fl (ix3 0 r n)) (fc (ix3 0 r n))

/-- A row of the two scans' sum. -/
abbrev scans (r : Fin 256) (n : Fin 512) : EReal := of (ix3 0 r n) + ob (ix3 0 r n)

/-- The columns of the head that starts at column `p`. -/
abbrev cols (p : ℕ) (hp : p + 128 ≤ 512) (d : Fin 128) : Fin 512 := ⟨p + d.val, by omega⟩

/-- The columns of the first head. -/
abbrev cols0 (d : Fin 128) : Fin 512 := ⟨d.val, by omega⟩

/-- An entry of the recurrent branch of row `r`. -/
abbrev unit (q : Fin 128 → Fin 512) (r : Fin 256) (d : Fin 128) : EReal :=
  Row.headUnit (scans of ob r) (fun n => z (ix3 0 r n)) (fun d => og (ix2 0 d)) q d

/-- The recurrent branch of row `r`. -/
abbrev heads (r : Fin 256) (n : Fin 512) : EReal := Row.branch (scans of ob r) (fun n => z (ix3 0 r n)) (fun d => og (ix2 0 d)) n

/-- Four heads laid side by side are the branch. -/
theorem heads_eq (r : Fin 256) (n : Fin 512) (u0 u1 u2 u3 : Fin 128 → EReal) (h0 : ∀ d, u0 d = unit of ob z og cols0 r d)
    (h1 : ∀ d, u1 d = unit of ob z og (cols 128 (by decide)) r d) (h2 : ∀ d, u2 d = unit of ob z og (cols 256 (by decide)) r d)
    (h3 : ∀ d, u3 d = unit of ob z og (cols 384 (by decide)) r d) :
    (if h : n.val < 128 then u0 ⟨n.val, h⟩ else if h : n.val - 128 < 128 then u1 ⟨n.val - 128, h⟩
      else if h : n.val - 128 - 128 < 128 then u2 ⟨n.val - 128 - 128, h⟩ else u3 ⟨n.val - 128 - 128 - 128, by omega⟩)
      = heads of ob z og r n := by
  split
  · exact (h0 _).trans (Row.branch_eq _ _ _ _ _ _ 0 (fun k => by simp) (by simp))
  split
  · exact (h1 _).trans (Row.branch_eq _ _ _ _ _ _ 1 (fun k => by simp) (by simp; omega))
  split
  · exact (h2 _).trans (Row.branch_eq _ _ _ _ _ _ 2 (fun k => by simp) (by simp; omega))
  · exact (h3 _).trans (Row.branch_eq _ _ _ _ _ _ 3 (fun k => by simp) (by simp; omega))

/-- The first head of the first batch entry. -/
theorem pay12_at (j) : k0_pay12 (F := Ideal) (k0_pay9 of) ob z og j = unit of ob z og cols0 (j 0) (j 1) := by
  pointwise [k0_pay12, k0_pay10, k0_pay11, k0_pay9]
  rfl

/-- The second head of the first batch entry. -/
theorem pay13_at (j) : k0_pay13 (F := Ideal) (k0_pay9 of) ob z og j = unit of ob z og (cols 128 (by decide)) (j 0) (j 1) := by
  pointwise [k0_pay13, k0_pay10, k0_pay11, k0_pay9]
  rfl

/-- The recurrent branch of the first batch entry. -/
theorem pay15_at (j) : k0_pay15 (F := Ideal) (k0_pay10 (k0_pay9 of) ob) (k0_pay11 z) (k0_pay12 (k0_pay9 of) ob z og)
    (k0_pay13 (k0_pay9 of) ob z og) og og j = heads of ob z og (j 0) (j 1) := by
  refine Eq.trans ?_ (heads_eq of ob z og (j 0) (j 1) (fun d => k0_pay12 (F := Ideal) (k0_pay9 of) ob z og (ix2 (j 0) d))
    (fun d => k0_pay13 (F := Ideal) (k0_pay9 of) ob z og (ix2 (j 0) d)) (fun d => unit of ob z og (cols 256 (by decide)) (j 0) d)
    (fun d => unit of ob z og (cols 384 (by decide)) (j 0) d) (fun d => pay12_at _ _ _ _ _) (fun d => pay13_at _ _ _ _ _) (fun d => rfl) (fun d => rfl))
  generalize h12 : k0_pay12 (F := Ideal) (k0_pay9 of) ob z og = p12
  generalize h13 : k0_pay13 (F := Ideal) (k0_pay9 of) ob z og = p13
  pointwise [k0_pay15, k0_pay10, k0_pay11, k0_pay9]
  rfl

/-- The first head of the second batch entry. -/
theorem pay20_at (j) : k0_pay20 (F := Ideal) of ob z og j = unit of ob z og cols0 (j 0) (j 1) := by
  pointwise [k0_pay20, k0_pay18, k0_pay19]
  rfl

/-- The second head of the second batch entry. -/
theorem pay23_at (j) : k0_pay23 (F := Ideal) (k0_pay19 z) (k0_pay21 of ob) (k0_pay22 of ob) og j
    = unit of ob z og (cols 128 (by decide)) (j 0) (j 1) := by
  pointwise [k0_pay23, k0_pay21, k0_pay22, k0_pay18, k0_pay19]
  rfl

/-- The third head of the second batch entry. -/
theorem pay24_at (j) : k0_pay24 (F := Ideal) (k0_pay18 of ob) (k0_pay19 z) og j
    = unit of ob z og (cols 256 (by decide)) (j 0) (j 1) := by
  pointwise [k0_pay24, k0_pay18, k0_pay19]
  rfl

/-- The fourth head of the second batch entry. -/
theorem pay25_at (j) : k0_pay25 (F := Ideal) (k0_pay18 of ob) (k0_pay19 z) og j
    = unit of ob z og (cols 384 (by decide)) (j 0) (j 1) := by
  pointwise [k0_pay25, k0_pay18, k0_pay19]
  rfl

/-- The projected recurrent branch of the second batch entry. -/
theorem pay29_at (j) : k0_pay29 (F := Ideal) (k0_pay20 of ob z og) (k0_pay23 (k0_pay19 z) (k0_pay21 of ob) (k0_pay22 of ob) og)
    (k0_pay24 (k0_pay18 of ob) (k0_pay19 z) og) (k0_pay25 (k0_pay18 of ob) (k0_pay19 z) og) Wd j
      = Row.proj (heads of ob z og (j 0)) (fun n d => Wd (ix2 n d)) (j 1) := by
  have key : ∀ n : Fin 512, _ = heads of ob z og (j 0) n := fun n =>
    heads_eq of ob z og (j 0) n (fun d => k0_pay20 (F := Ideal) of ob z og (ix2 (j 0) d))
      (fun d => k0_pay23 (F := Ideal) (k0_pay19 z) (k0_pay21 of ob) (k0_pay22 of ob) og (ix2 (j 0) d))
      (fun d => k0_pay24 (F := Ideal) (k0_pay18 of ob) (k0_pay19 z) og (ix2 (j 0) d))
      (fun d => k0_pay25 (F := Ideal) (k0_pay18 of ob) (k0_pay19 z) og (ix2 (j 0) d))
      (fun d => pay20_at _ _ _ _ _) (fun d => pay23_at _ _ _ _ _) (fun d => pay24_at _ _ _ _ _) (fun d => pay25_at _ _ _ _ _)
  generalize k0_pay20 (F := Ideal) of ob z og = p0 at *
  generalize k0_pay23 (F := Ideal) (k0_pay19 z) (k0_pay21 of ob) (k0_pay22 of ob) og = p1 at *
  generalize k0_pay24 (F := Ideal) (k0_pay18 of ob) (k0_pay19 z) og = p2 at *
  generalize k0_pay25 (F := Ideal) (k0_pay18 of ob) (k0_pay19 z) og = p3 at *
  pointwise [k0_pay29]
  exact Finset.sum_congr rfl fun n _ => congrArg (· * Wd (ix2 n (j 1))) (key n)

/-- The gates of the first batch entry before the logistic. -/
theorem pay32_at (j) : Ideal.logistic (k0_pay32 (F := Ideal) (k0_pay7 (k0_pay4 sh) (k0_pay5 i a b) (k0_pay6 sc ng) W) bias j)
    = Row.gate (Row.modulated (rows i a b (j 0)) (fun k => ng (ix2 0 k)) (fun k => sh (ix4 0 0 0 k)) (fun k => sc (ix4 0 0 0 k)))
        (fun k n => W (ix2 k n)) (fun n => bias (ix2 0 n)) (j 1) := by
  pointwise [k0_pay32, k0_pay7, k0_pay4, k0_pay5, k0_pay6, k0_pay2]
  rfl

/-- The gates of the second batch entry before the bias and the logistic. -/
theorem pay8_at (j) : Ideal.logistic (k0_pay8 (F := Ideal) (k0_pay3 i a b) sh sc ng W j + bias (ix2 0 (j 1)))
    = Row.gate (Row.modulated (rows i a b (j 0)) (fun k => ng (ix2 0 k)) (fun k => sh (ix4 0 0 0 k)) (fun k => sc (ix4 0 0 0 k)))
        (fun k n => W (ix2 k n)) (fun n => bias (ix2 0 n)) (j 1) := by
  pointwise [k0_pay8, k0_pay3]
  rfl

/-- The projected recurrent branch of the first batch entry. -/
theorem pay26_at (v : FVec Ideal S256x512 .f32) (j) : k0_pay26 (F := Ideal) (k0_pay16 v) Wd j
    = Row.proj (fun n => v (ix2 (j 0) n)) (fun n d => Wd (ix2 n d)) (j 1) := by
  pointwise [k0_pay26, k0_pay16]
  rfl

/-- The projected short convolution of the first batch entry. -/
theorem pay27_at (j) : k0_pay27 (F := Ideal) (k0_pay17 s) Ws j
    = Row.proj (fun n => s (ix3 0 (j 0) n)) (fun n d => Ws (ix2 n d)) (j 1) := by
  pointwise [k0_pay27, k0_pay17]
  rfl

/-- The projected Fourier branch of the first batch entry. -/
theorem pay28_at (j) : k0_pay28 (F := Ideal) (k0_pay14 (lat i) fl fc) Wf j
    = Row.proj (fours i fl fc (j 0)) (fun n d => Wf (ix2 n d)) (j 1) := by
  pointwise [k0_pay28, k0_pay14]
  rfl

/-- The projected short convolution of the second batch entry. -/
theorem pay30_at (j) : k0_pay30 (F := Ideal) s Ws j = Row.proj (fun n => s (ix3 0 (j 0) n)) (fun n d => Ws (ix2 n d)) (j 1) := by
  pointwise [k0_pay30]
  rfl

/-- The projected Fourier branch of the second batch entry. -/
theorem pay31_at (j) : k0_pay31 (F := Ideal) (lat i) fl fc Wf j
    = Row.proj (fours i fl fc (j 0)) (fun n d => Wf (ix2 n d)) (j 1) := by
  pointwise [k0_pay31]
  rfl

/-- A row of the tile after the merge. -/
abbrev mixed (r : Fin 256) (d : Fin 1024) : EReal :=
  Row.mix (rows i a b r) (fun k => ng (ix2 0 k)) (fun k => sh (ix4 0 0 0 k)) (fun k => sc (ix4 0 0 0 k)) (fun k => e (ix4 0 0 0 k))
    (scans of ob r) (fun n => z (ix3 0 r n)) (fun n => s (ix3 0 r n)) (fours i fl fc r) (fun k n => W (ix2 k n)) (fun n => bias (ix2 0 n))
    (fun d => og (ix2 0 d)) (fun n d => Wd (ix2 n d)) (fun n d => Ws (ix2 n d)) (fun n d => Wf (ix2 n d)) (fun n d => Wo (ix2 n d)) d

/-- The stored rows of the first batch entry, from the gates and the projected branches. -/
theorem pay34_mix (p q u : FVec Ideal S256x1024 .f32) (g : FVec Ideal S256x3072 .f32)
    (hg : ∀ j, Ideal.logistic (g j) = Row.gate (Row.modulated (rows i a b (j 0)) (fun k => ng (ix2 0 k)) (fun k => sh (ix4 0 0 0 k))
      (fun k => sc (ix4 0 0 0 k))) (fun k n => W (ix2 k n)) (fun n => bias (ix2 0 n)) (j 1))
    (hp : ∀ j, p j = Row.proj (heads of ob z og (j 0)) (fun n d => Wd (ix2 n d)) (j 1))
    (hq : ∀ j, q j = Row.proj (fun n => s (ix3 0 (j 0) n)) (fun n d => Ws (ix2 n d)) (j 1))
    (hu : ∀ j, u j = Row.proj (fours i fl fc (j 0)) (fun n d => Wf (ix2 n d)) (j 1)) (j) :
    k0_pay34 (F := Ideal) (k0_pay2 i a b) p q u g Wo e j
      = mixed i a b sh sc e ng of ob z og s fl fc W bias Wd Ws Wf Wo (j 1) (j 2) := by
  pointwise [k0_pay34, k0_pay2, hp, hq, hu, hg]
  have ha : a j = a (ix3 0 (j 1) (j 2)) := by blk_ext
  have hb : b j = b (ix3 0 (j 1) (j 2)) := by blk_ext
  rw [ha, hb]
  rfl

/-- The stored rows of the first batch entry. -/
theorem row0_at (j) : k0_pay34 (F := Ideal) (k0_pay2 i a b)
    (k0_pay26 (k0_pay16 (k0_pay15 (k0_pay10 (k0_pay9 of) ob) (k0_pay11 z) (k0_pay12 (k0_pay9 of) ob z og) (k0_pay13 (k0_pay9 of) ob z og) og og)) Wd)
    (k0_pay27 (k0_pay17 s) Ws) (k0_pay28 (k0_pay14 (lat i) fl fc) Wf)
    (k0_pay32 (k0_pay7 (k0_pay4 sh) (k0_pay5 i a b) (k0_pay6 sc ng) W) bias) Wo e j
      = mixed i a b sh sc e ng of ob z og s fl fc W bias Wd Ws Wf Wo (j 1) (j 2) := by
  refine pay34_mix i a b sh sc e ng of ob z og s fl fc W bias Wd Ws Wf Wo _ _ _ _ (fun j => pay32_at _ _ _ _ _ _ _ _ _)
    (fun j => (pay26_at _ _ _).trans ?_) (fun j => pay27_at _ _ _) (fun j => pay28_at _ _ _ _ _) j
  exact congrArg (fun v => Row.proj v (fun n d => Wd (ix2 n d)) (j 1)) (funext fun n => pay15_at _ _ _ _ _)

/-- The stored rows of the second batch entry, from the gates and the projected branches. -/
theorem pay1_mix (p q u : FVec Ideal S256x1024 .f32) (g : FVec Ideal S256x3072 .f32)
    (hg : ∀ j, Ideal.logistic (g j + bias (ix2 0 (j 1))) = Row.gate (Row.modulated (rows i a b (j 0)) (fun k => ng (ix2 0 k))
      (fun k => sh (ix4 0 0 0 k)) (fun k => sc (ix4 0 0 0 k))) (fun k n => W (ix2 k n)) (fun n => bias (ix2 0 n)) (j 1))
    (hp : ∀ j, p j = Row.proj (heads of ob z og (j 0)) (fun n d => Wd (ix2 n d)) (j 1))
    (hq : ∀ j, q j = Row.proj (fun n => s (ix3 0 (j 0) n)) (fun n d => Ws (ix2 n d)) (j 1))
    (hu : ∀ j, u j = Row.proj (fours i fl fc (j 0)) (fun n d => Wf (ix2 n d)) (j 1)) (j) :
    k0_pay1 (F := Ideal) (k0_pay3 i a b) (k0_pay33 g p q u bias Wo) (k0_pay35 e) j
      = mixed i a b sh sc e ng of ob z og s fl fc W bias Wd Ws Wf Wo (j 1) (j 2) := by
  have hg' : ∀ r (n : Fin 3072), Ideal.logistic (g (ix2 r n) + bias (ix2 0 n)) = _ := fun r n => hg (ix2 r n)
  pointwise [k0_pay1, k0_pay3, k0_pay33, k0_pay35, hp, hq, hu, hg']
  have ha : a j = a (ix3 0 (j 1) (j 2)) := by blk_ext
  have hb : b j = b (ix3 0 (j 1) (j 2)) := by blk_ext
  rw [ha, hb]
  rfl

/-- The stored rows of the second batch entry. -/
theorem row1_at (j) : k0_pay1 (F := Ideal) (k0_pay3 i a b)
    (k0_pay33 (k0_pay8 (k0_pay3 i a b) sh sc ng W)
      (k0_pay29 (k0_pay20 of ob z og) (k0_pay23 (k0_pay19 z) (k0_pay21 of ob) (k0_pay22 of ob) og)
        (k0_pay24 (k0_pay18 of ob) (k0_pay19 z) og) (k0_pay25 (k0_pay18 of ob) (k0_pay19 z) og) Wd)
      (k0_pay30 s Ws) (k0_pay31 (lat i) fl fc Wf) bias Wo) (k0_pay35 e) j
      = mixed i a b sh sc e ng of ob z og s fl fc W bias Wd Ws Wf Wo (j 1) (j 2) :=
  pay1_mix i a b sh sc e ng of ob z og s fl fc W bias Wd Ws Wf Wo _ _ _ _ (fun j => pay8_at _ _ _ _ _ _ _ _ _)
    (fun j => pay29_at _ _ _ _ _ _) (fun j => pay30_at _ _ _) (fun j => pay31_at _ _ _ _ _) j

end Cert.MergeIdeal.Value
end
-- ==== Proof.Merge.RefLat.lean ====
module

public import proofs.«01_k».proof.Proof.Gen.MergeRefIdeal.Read
public import proofs.«01_k».proof.Proof.Merge.Spec
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The reference of the merge, read at an index. -/
namespace Cert.MergeRefIdeal.Ref
open Cert.MergeRefIdeal Cert.MergeRefIdeal.Read

variable (x0 : FVec Ideal S8x8192x1024 .f32) (x1 : FVec Ideal S8x256x1024 .f32) (x2 : FVec Ideal S8x2x6x1024 .f32) (x3 : FVec Ideal S1024 .f32)
  (x4 x5 : FVec Ideal S8x8448x512 .bf16) (x6 : FVec Ideal S8x8448x512 .f32) (x7 : FVec Ideal S8x8448x512 .bf16)
  (x8 : FVec Ideal S8x8192x512 .bf16) (x9 : FVec Ideal S8x256x512 .bf16) (x10 : FVec Ideal S1024x3072 .f32) (x11 : FVec Ideal S3072 .f32)
  (x12 : FVec Ideal S128 .f32) (x13 x14 x15 : FVec Ideal S512x1024 .f32) (x16 : FVec Ideal S1024x1024 .f32)

/-- A latent token among all tokens. -/
abbrev ltok (t : Fin 8192) : Fin 8448 := ⟨t.val, by omega⟩
/-- A context token among all tokens. -/
abbrev ctok (t : Fin 256) : Fin 8448 := ⟨8192 + t.val, by omega⟩

/-- The modulated latent rows. -/
theorem modL_at (j : S8x8192x1024.Idx) :
    val_main_v33 (F := Ideal) x0 x2 x3 j = Row.modulated (fun k => x0 (ix3 (j 0) (j 1) k)) (fun k => x3 (ix1 k)) (fun k => x2 (ix4 (j 0) 0 0 k))
      (fun k => x2 (ix4 (j 0) 0 1 k)) (j 2) := by
  pointwise [val_main_v0, val_main_v1, val_main_v6, val_main_v7, val_main_v8, val_main_v9, val_main_v10, val_main_v11, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2]
  have hj : x0 j = x0 (ix3 (j 0) (j 1) (j 2)) := congrArg x0 (ix3_eta j).symm
  rw [Row.div_1024, hj]
  exact congrArg (· + _) (mul_assoc _ _ _)

/-- The gates of the latent rows. -/
theorem gateL_at (j : S8x8192x3072.Idx) :
    val_main_v69 (F := Ideal) x0 x2 x3 x10 x11 j = Row.gate (Row.modulated (fun k => x0 (ix3 (j 0) (j 1) k)) (fun k => x3 (ix1 k))
      (fun k => x2 (ix4 (j 0) 0 0 k)) (fun k => x2 (ix4 (j 0) 0 1 k))) (fun k n => x10 (ix2 k n)) (fun n => x11 (ix1 n)) (j 2) := by
  pointwise [val_main_v60, val_main_v61, val_main_v62, val_main_v63, val_main_v64, val_main_v65, val_main_v66, val_main_v67, val_main_v68, val_main_v69, val_main_cst_6, val_main_cst_7, modL_at]
  rfl

/-- The recurrent branch of the latent rows. -/
theorem dnL_at (j : S8x8192x512.Idx) :
    val_main_v56 (F := Ideal) x4 x5 x6 x12 j = Row.branch (fun n => x4 (ix3 (j 0) (ltok (j 1)) n) + x5 (ix3 (j 0) (ltok (j 1)) n))
      (fun n => x6 (ix3 (j 0) (ltok (j 1)) n)) (fun d => x12 (ix1 d)) (j 2) := by
  pointwise [val_main_v2, val_main_v3, val_main_v4, val_main_v34, val_main_v35, val_main_v36, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_call0_v0, val_main_call0_v1, val_main_call0_v2, val_main_call0_v3, val_main_call0_v4, val_main_call0_v5,
    val_main_call0_cst, val_main_call0_cst_0, val_main_cst_3, val_main_cst_4, val_main_cst_5]
  rw [Row.div_128]
  rfl

/-- The latent rows after the merge. -/
theorem outL_at (j : S8x8192x1024.Idx) :
    val_main_v85 (F := Ideal) x0 x2 x3 x4 x5 x6 x7 x8 x10 x11 x12 x13 x14 x15 x16 j
      = Row.mix (fun k => x0 (ix3 (j 0) (j 1) k)) (fun k => x3 (ix1 k)) (fun k => x2 (ix4 (j 0) 0 0 k)) (fun k => x2 (ix4 (j 0) 0 1 k))
          (fun k => x2 (ix4 (j 0) 0 2 k)) (fun n => x4 (ix3 (j 0) (ltok (j 1)) n) + x5 (ix3 (j 0) (ltok (j 1)) n)) (fun n => x6 (ix3 (j 0) (ltok (j 1)) n))
          (fun n => x7 (ix3 (j 0) (ltok (j 1)) n)) (fun n => x8 (ix3 (j 0) (j 1) n)) (fun k n => x10 (ix2 k n)) (fun n => x11 (ix1 n)) (fun d => x12 (ix1 d))
          (fun n d => x13 (ix2 n d)) (fun n d => x14 (ix2 n d)) (fun n d => x15 (ix2 n d)) (fun n d => x16 (ix2 n d)) (j 2) := by
  pointwise [val_main_v0, val_main_v1, val_main_v5, val_main_v12, val_main_v13, val_main_v14, val_main_v37, val_main_v38, val_main_v57, val_main_v58, val_main_v59, val_main_v70, val_main_v71, val_main_v72, val_main_v73, val_main_v74, val_main_v75, val_main_v76, val_main_v77, val_main_v78, val_main_v79, val_main_v80, val_main_v81, val_main_v82, val_main_v83, val_main_v84, val_main_v85, gateL_at, dnL_at]
  have hj : x0 j = x0 (ix3 (j 0) (j 1) (j 2)) := congrArg x0 (ix3_eta j).symm
  rw [hj]
  rfl

end Cert.MergeRefIdeal.Ref
end
-- ==== Proof.Merge.RefCtx.lean ====
module

public import proofs.«01_k».proof.Proof.Gen.MergeRefIdeal.Read
public import proofs.«01_k».proof.Proof.Merge.RefLat
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The reference of the merge, read at an index. -/
namespace Cert.MergeRefIdeal.Ref
open Cert.MergeRefIdeal Cert.MergeRefIdeal.Read

variable (x0 : FVec Ideal S8x8192x1024 .f32) (x1 : FVec Ideal S8x256x1024 .f32) (x2 : FVec Ideal S8x2x6x1024 .f32) (x3 : FVec Ideal S1024 .f32)
  (x4 x5 : FVec Ideal S8x8448x512 .bf16) (x6 : FVec Ideal S8x8448x512 .f32) (x7 : FVec Ideal S8x8448x512 .bf16)
  (x8 : FVec Ideal S8x8192x512 .bf16) (x9 : FVec Ideal S8x256x512 .bf16) (x10 : FVec Ideal S1024x3072 .f32) (x11 : FVec Ideal S3072 .f32)
  (x12 : FVec Ideal S128 .f32) (x13 x14 x15 : FVec Ideal S512x1024 .f32) (x16 : FVec Ideal S1024x1024 .f32)

/-- The modulated context rows. -/
theorem modC_at (j : S8x256x1024.Idx) :
    val_main_v119 (F := Ideal) x1 x2 x3 j = Row.modulated (fun k => x1 (ix3 (j 0) (j 1) k)) (fun k => x3 (ix1 k)) (fun k => x2 (ix4 (j 0) 1 0 k))
      (fun k => x2 (ix4 (j 0) 1 1 k)) (j 2) := by
  pointwise [val_main_v86, val_main_v87, val_main_v92, val_main_v93, val_main_v94, val_main_v95, val_main_v96, val_main_v97, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_cst_8, val_main_cst_9, val_main_cst_10, val_main_cst_11]
  have hj : x1 j = x1 (ix3 (j 0) (j 1) (j 2)) := congrArg x1 (ix3_eta j).symm
  rw [Row.div_1024, hj]
  exact congrArg (· + _) (mul_assoc _ _ _)

/-- The gates of the context rows. -/
theorem gateC_at (j : S8x256x3072.Idx) :
    val_main_v155 (F := Ideal) x1 x2 x3 x10 x11 j = Row.gate (Row.modulated (fun k => x1 (ix3 (j 0) (j 1) k)) (fun k => x3 (ix1 k))
      (fun k => x2 (ix4 (j 0) 1 0 k)) (fun k => x2 (ix4 (j 0) 1 1 k))) (fun k n => x10 (ix2 k n)) (fun n => x11 (ix1 n)) (j 2) := by
  pointwise [val_main_v146, val_main_v147, val_main_v148, val_main_v149, val_main_v150, val_main_v151, val_main_v152, val_main_v153, val_main_v154, val_main_v155, val_main_cst_15, val_main_cst_16, modC_at]
  rfl

/-- The recurrent branch of the context rows. -/
theorem dnC_at (j : S8x256x512.Idx) :
    val_main_v142 (F := Ideal) x4 x5 x6 x12 j = Row.branch (fun n => x4 (ix3 (j 0) (ctok (j 1)) n) + x5 (ix3 (j 0) (ctok (j 1)) n))
      (fun n => x6 (ix3 (j 0) (ctok (j 1)) n)) (fun d => x12 (ix1 d)) (j 2) := by
  pointwise [val_main_v88, val_main_v89, val_main_v90, val_main_v120, val_main_v121, val_main_v122, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_call1_v0, val_main_call1_v1, val_main_call1_v2, val_main_call1_v3, val_main_call1_v4, val_main_call1_v5,
    val_main_call1_cst, val_main_call1_cst_0, val_main_cst_12, val_main_cst_13, val_main_cst_14]
  rw [Row.div_128]
  rfl

/-- The context rows after the merge. -/
theorem outC_at (j : S8x256x1024.Idx) :
    val_main_v171 (F := Ideal) x1 x2 x3 x4 x5 x6 x7 x9 x10 x11 x12 x13 x14 x15 x16 j
      = Row.mix (fun k => x1 (ix3 (j 0) (j 1) k)) (fun k => x3 (ix1 k)) (fun k => x2 (ix4 (j 0) 1 0 k)) (fun k => x2 (ix4 (j 0) 1 1 k))
          (fun k => x2 (ix4 (j 0) 1 2 k)) (fun n => x4 (ix3 (j 0) (ctok (j 1)) n) + x5 (ix3 (j 0) (ctok (j 1)) n)) (fun n => x6 (ix3 (j 0) (ctok (j 1)) n))
          (fun n => x7 (ix3 (j 0) (ctok (j 1)) n)) (fun n => x9 (ix3 (j 0) (j 1) n)) (fun k n => x10 (ix2 k n)) (fun n => x11 (ix1 n)) (fun d => x12 (ix1 d))
          (fun n d => x13 (ix2 n d)) (fun n d => x14 (ix2 n d)) (fun n d => x15 (ix2 n d)) (fun n d => x16 (ix2 n d)) (j 2) := by
  pointwise [val_main_v86, val_main_v87, val_main_v91, val_main_v98, val_main_v99, val_main_v100, val_main_v123, val_main_v124, val_main_v143, val_main_v144, val_main_v145, val_main_v156, val_main_v157, val_main_v158, val_main_v159, val_main_v160, val_main_v161, val_main_v162, val_main_v163, val_main_v164, val_main_v165, val_main_v166, val_main_v167, val_main_v168, val_main_v169, val_main_v170, val_main_v171, gateC_at, dnC_at]
  have hj : x1 j = x1 (ix3 (j 0) (j 1) (j 2)) := congrArg x1 (ix3_eta j).symm
  rw [hj]
  rfl

end Cert.MergeRefIdeal.Ref
end
-- ==== Proof.Merge.Ref.lean ====
module

public import proofs.«01_k».proof.Proof.Gen.MergeRefIdeal.Read
public import proofs.«01_k».proof.Proof.Merge.RefCtx
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators

/-! The reference of the merge, read at an index. -/
namespace Cert.MergeRefIdeal.Ref
open Cert.MergeRefIdeal Cert.MergeRefIdeal.Read

variable (x0 : FVec Ideal S8x8192x1024 .f32) (x1 : FVec Ideal S8x256x1024 .f32) (x2 : FVec Ideal S8x2x6x1024 .f32) (x3 : FVec Ideal S1024 .f32)
  (x4 x5 : FVec Ideal S8x8448x512 .bf16) (x6 : FVec Ideal S8x8448x512 .f32) (x7 : FVec Ideal S8x8448x512 .bf16)
  (x8 : FVec Ideal S8x8192x512 .bf16) (x9 : FVec Ideal S8x256x512 .bf16) (x10 : FVec Ideal S1024x3072 .f32) (x11 : FVec Ideal S3072 .f32)
  (x12 : FVec Ideal S128 .f32) (x13 x14 x15 : FVec Ideal S512x1024 .f32) (x16 : FVec Ideal S1024x1024 .f32)

/-- Which modulation vectors token `t` takes: 0 the latents', 1 the context's. -/
abbrev sel (t : Fin 8448) : Fin 2 := ⟨t.val / 8192, by omega⟩

/-- The row that token `t` starts from: a latent row or a context row. -/
def src (b : Fin 8) (t : Fin 8448) (k : Fin 1024) : EReal :=
  if h : t.val < 8192 then x0 (ix3 b ⟨t.val, h⟩ k) else x1 (ix3 b ⟨t.val - 8192, by omega⟩ k)

/-- The Fourier branch of token `t`. -/
def four (b : Fin 8) (t : Fin 8448) (n : Fin 512) : EReal :=
  if h : t.val < 8192 then x8 (ix3 b ⟨t.val, h⟩ n) else x9 (ix3 b ⟨t.val - 8192, by omega⟩ n)

/-- The reference's result. -/
theorem out_at (j : S8x8448x1024.Idx) :
    val_main_v172 (F := Ideal) x0 x1 x2 x3 x4 x5 x6 x7 x8 x9 x10 x11 x12 x13 x14 x15 x16 j
      = Row.mix (src x0 x1 (j 0) (j 1)) (fun k => x3 (ix1 k)) (fun k => x2 (ix4 (j 0) (sel (j 1)) 0 k)) (fun k => x2 (ix4 (j 0) (sel (j 1)) 1 k))
          (fun k => x2 (ix4 (j 0) (sel (j 1)) 2 k)) (fun n => x4 (ix3 (j 0) (j 1) n) + x5 (ix3 (j 0) (j 1) n)) (fun n => x6 (ix3 (j 0) (j 1) n))
          (fun n => x7 (ix3 (j 0) (j 1) n)) (four x8 x9 (j 0) (j 1)) (fun k n => x10 (ix2 k n)) (fun n => x11 (ix1 n)) (fun d => x12 (ix1 d))
          (fun n d => x13 (ix2 n d)) (fun n d => x14 (ix2 n d)) (fun n d => x15 (ix2 n d)) (fun n d => x16 (ix2 n d)) (j 2) := by
  have hl : (j 1).val < 8448 := (j 1).isLt
  pointwise [val_main_v172, outL_at, outC_at]
  split
  · rename_i h
    have h' : (j 1).val < 8192 := h
    have hs : sel (j 1) = 0 := Fin.ext (Nat.div_eq_of_lt h')
    refine Row.mix_congr (fun k => ?_) (fun k => rfl) (fun k => ?_) (fun k => ?_) (fun k => ?_) (fun k => rfl) (fun k => rfl) (fun k => rfl)
      (fun k => ?_) (fun k n => rfl) (fun n => rfl) (fun k => rfl) (fun n d => rfl) (fun n d => rfl) (fun n d => rfl) (fun n d => rfl) rfl
    · unfold src; rw [dif_pos h']
    · rw [hs]
    · rw [hs]
    · rw [hs]
    · unfold four; rw [dif_pos h']
  · rename_i h
    have h' : ¬(j 1).val < 8192 := h
    have hs : sel (j 1) = 1 := Fin.ext (by show (j 1).val / 8192 = 1; omega)
    have hr : (⟨8192 + ((j 1).val - 8192), by omega⟩ : Fin 8448) = j 1 := Fin.ext (by show 8192 + ((j 1).val - 8192) = _; omega)
    refine Row.mix_congr (fun k => ?_) (fun k => rfl) (fun k => ?_) (fun k => ?_) (fun k => ?_) (fun k => ?_) (fun k => ?_) (fun k => ?_)
      (fun k => ?_) (fun k n => rfl) (fun n => rfl) (fun k => rfl) (fun n d => rfl) (fun n d => rfl) (fun n d => rfl) (fun n d => rfl) rfl
    · unfold src; rw [dif_neg h']
    · rw [hs]
    · rw [hs]
    · rw [hs]
    · exact congrArg (fun t => x4 (ix3 (j 0) t k) + x5 (ix3 (j 0) t k)) hr
    · exact congrArg (fun t => x6 (ix3 (j 0) t k)) hr
    · exact congrArg (fun t => x7 (ix3 (j 0) t k)) hr
    · unfold four; rw [dif_neg h']

end Cert.MergeRefIdeal.Ref
end
-- ==== Proof.Merge.Kernel.lean ====
module

public import proofs.«01_k».proof.Proof.Merge.Pays
public import proofs.«01_k».proof.Proof.Merge.Ref

@[expose] public section
set_option maxRecDepth 16384
noncomputable section
open Idealize.ShloMosaic Idealize.ShloMosaic.TcCoe Idealize.SL.Sem
open Idealize.ShloMosaic.Pipeline (Dat)
open scoped BigOperators

/-! The merge call's result array. -/
namespace Cert.MergeIdeal.Value
open Cert.MergeIdeal Cert.MergeIdeal.Gen

variable (m : (ℓ : Loc nD τ sig) → Buf (Elt Ideal) ℓ)

/-- Where each window's block lies at a grid point. -/
theorem idx_val : ∀ t : Fin cfg0.N, win0_0.index t = ![t.val / 33, min (t.val % 33) 31, 0]
    ∧ win0_1.index t = ![t.val / 33, 0, 0]
    ∧ win0_2.index t = ![t.val / 33, t.val % 33 / 32, 0, 0]
    ∧ win0_3.index t = ![t.val / 33, t.val % 33, 0]
    ∧ win0_4.index t = ![t.val / 33, t.val % 33, 0]
    ∧ win0_5.index t = ![t.val / 33, t.val % 33, 0]
    ∧ win0_6.index t = ![t.val / 33, t.val % 33, 0]
    ∧ win0_7.index t = ![t.val / 33, min (t.val % 33) 31, 0]
    ∧ win0_8.index t = ![t.val / 33, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val / 33, t.val % 33, 0] :=
  (by decide +kernel : ∀ t : Fin grid0.N, _)

/-- Whether a grid point's tile holds latent rows, from its number. -/
theorem lat_val : ∀ t : Fin cfg0.N, lat (grid0.coords t) = if t.val % 33 < 32 then 1#1 else 0#1 :=
  (by decide +kernel : ∀ t : Fin grid0.N, _)

/-- The arguments' reference value. -/
abbrev REF (c : Dev nD) : FVec Ideal Cert.MergeRefIdeal.S8x8448x1024 .f32 :=
  MergeRefIdeal.Read.val_main_v172 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))

/-- Window 9's block is the whole gain row. -/
theorem gain_at (c : Dev nD) (t : Fin cfg0.N) (k) :
    View.ld (iblk m c 9 t) r0_4 (ix2 0 k) = m ((c : Thread nD τ).loc main_arg3) (ix1 k) := by
  have h : iblk m c 9 t = V m c main_v0 := by blk_ext! [iblk, idx_val t]
  rw [h]
  entry_read
  pointwise

/-- Window 10's block is the whole gate matrix. -/
theorem wgate_at (c : Dev nD) (t : Fin cfg0.N) (k) (n) :
    View.ld (iblk m c 10 t) r0_7 (ix2 k n) = m ((c : Thread nD τ).loc main_arg10) (ix2 k n) := by
  have h : iblk m c 10 t = V m c main_v1 := by blk_ext! [iblk, idx_val t]
  rw [h]
  entry_read
  pointwise

/-- Window 11's block is the whole gate bias. -/
theorem bgate_at (c : Dev nD) (t : Fin cfg0.N) (k) :
    View.ld (iblk m c 11 t) r0_12 (ix2 0 k) = m ((c : Thread nD τ).loc main_arg11) (ix1 k) := by
  have h : iblk m c 11 t = V m c main_v2 := by blk_ext! [iblk, idx_val t]
  rw [h]
  entry_read
  pointwise

/-- Window 12's block is the whole gain of the heads. -/
theorem onorm_at (c : Dev nD) (t : Fin cfg0.N) (k) :
    View.ld (iblk m c 12 t) r0_9 (ix2 0 k) = m ((c : Thread nD τ).loc main_arg12) (ix1 k) := by
  have h : iblk m c 12 t = V m c main_v3 := by blk_ext! [iblk, idx_val t]
  rw [h]
  entry_read
  pointwise

/-- Window 13's block is the whole projection of the recurrent branch. -/
theorem wdn_at (c : Dev nD) (t : Fin cfg0.N) (k) (n) :
    View.ld (iblk m c 13 t) r0_11 (ix2 k n) = m ((c : Thread nD τ).loc main_arg13) (ix2 k n) := by
  have h : iblk m c 13 t = V m c main_v4 := by blk_ext! [iblk, idx_val t]
  rw [h]
  entry_read
  pointwise

/-- Window 14's block is the whole projection of the short convolution. -/
theorem wsc_at (c : Dev nD) (t : Fin cfg0.N) (k) (n) :
    View.ld (iblk m c 14 t) r0_11 (ix2 k n) = m ((c : Thread nD τ).loc main_arg14) (ix2 k n) := by
  have h : iblk m c 14 t = V m c main_v5 := by blk_ext! [iblk, idx_val t]
  rw [h]
  entry_read
  pointwise

/-- Window 15's block is the whole projection of the Fourier branch. -/
theorem wfn_at (c : Dev nD) (t : Fin cfg0.N) (k) (n) :
    View.ld (iblk m c 15 t) r0_11 (ix2 k n) = m ((c : Thread nD τ).loc main_arg15) (ix2 k n) := by
  have h : iblk m c 15 t = V m c main_v6 := by blk_ext! [iblk, idx_val t]
  rw [h]
  entry_read
  pointwise

/-- Window 16's block is the whole output projection. -/
theorem wo_at (c : Dev nD) (t : Fin cfg0.N) (k) (n) :
    View.ld (iblk m c 16 t) r0_13 (ix2 k n) = m ((c : Thread nD τ).loc main_arg16) (ix2 k n) := by
  have h : iblk m c 16 t = V m c main_v7 := by blk_ext! [iblk, idx_val t]
  rw [h]
  entry_read
  pointwise

/-- A choice by the tile is the choice by the token, for two arrays laid one after the other. -/
theorem pick_eq {p q : EReal} (t : Fin cfg0.N) (tok : ℕ) {l : tok < 8192 → EReal} {r : ¬ tok < 8192 → EReal} (htok : tok / 256 = t.val % 33)
    (hp : ∀ h, p = l h) (hq : ∀ h, q = r h) : Scalar.select (lat (grid0.coords t)) p q = if h : tok < 8192 then l h else r h := by
  have hv := lat_val t
  by_cases h : tok < 8192
  · rw [dif_pos h, hv, if_pos (by omega)]
    exact hp h
  · rw [dif_neg h, hv, if_neg (by omega)]
    exact hq h

/-- What the body stores at grid point `t` is the reference's block there. -/
theorem point (c : Dev nD) (t : Fin cfg0.N) (y) :
    out0_17 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)
      (iblk m c 15 t) (iblk m c 16 t) y
      = REF m c (((cfg0.win 17).blk t).view.emb y) := by
  refine Eq.trans ?_ (MergeRefIdeal.Ref.out_at _ _ _ _ _ _ _ _ _ _ _ _ _ _ _ _ _ _).symm
  have ht : t.val < 132 := t.isLt
  have hy : (y 1).val < 256 := (y 1).isLt
  have he : (((cfg0.win 17).blk t).view.emb y 1).val = t.val % 33 * 256 + (y 1).val := by blk_simp [idx_val t]
  unfold out0_17
  canon_tiles x h
  case piece0 =>
    refine (row1_at (i := grid0.coords t) _ _ _ _ _ _ _ _ _ _ _ _ _ _ _ _ _ _ _ _).trans (Row.mix_congr (fun k => ?_) (gain_at m c t) (fun k => ?_) (fun k => ?_)
      (fun k => ?_) (fun k => ?_) (fun k => ?_) (fun k => ?_) (fun k => ?_) (wgate_at m c t) (bgate_at m c t) (onorm_at m c t)
      (wdn_at m c t) (wsc_at m c t) (wfn_at m c t) (wo_at m c t) ?_)
    · unfold MergeRefIdeal.Ref.src
      refine pick_eq t _ (by omega) (fun h => ?_) (fun h => ?_)
      · blk_point [iblk, V, idx_val t]
      · blk_point [iblk, V, idx_val t]
    · blk_point [iblk, V, idx_val t]; blk_simp [idx_val t]; omega
    · blk_point [iblk, V, idx_val t]; blk_simp [idx_val t]; omega
    · blk_point [iblk, V, idx_val t]; blk_simp [idx_val t]; omega
    · refine congrArg₂ (· + ·) ?_ ?_
      · blk_point [iblk, V, idx_val t]
      · blk_point [iblk, V, idx_val t]
    · blk_point [iblk, V, idx_val t]
    · blk_point [iblk, V, idx_val t]
    · unfold MergeRefIdeal.Ref.four
      refine pick_eq t _ (by omega) (fun h => ?_) (fun h => ?_)
      · blk_point [iblk, V, idx_val t]
      · blk_point [iblk, V, idx_val t]
    · apply Fin.ext; blk_simp [idx_val t]; first | done | omega
  case piece1 =>
    refine (row0_at (i := grid0.coords t) _ _ _ _ _ _ _ _ _ _ _ _ _ _ _ _ _ _ _ _).trans (Row.mix_congr (fun k => ?_) (gain_at m c t) (fun k => ?_) (fun k => ?_)
      (fun k => ?_) (fun k => ?_) (fun k => ?_) (fun k => ?_) (fun k => ?_) (wgate_at m c t) (bgate_at m c t) (onorm_at m c t)
      (wdn_at m c t) (wsc_at m c t) (wfn_at m c t) (wo_at m c t) ?_)
    · unfold MergeRefIdeal.Ref.src
      refine pick_eq t _ (by omega) (fun h => ?_) (fun h => ?_)
      · blk_point [iblk, V, idx_val t]
      · blk_point [iblk, V, idx_val t]
    · blk_point [iblk, V, idx_val t]; blk_simp [idx_val t]; omega
    · blk_point [iblk, V, idx_val t]; blk_simp [idx_val t]; omega
    · blk_point [iblk, V, idx_val t]; blk_simp [idx_val t]; omega
    · refine congrArg₂ (· + ·) ?_ ?_
      · blk_point [iblk, V, idx_val t]
      · blk_point [iblk, V, idx_val t]
    · blk_point [iblk, V, idx_val t]
    · blk_point [iblk, V, idx_val t]
    · unfold MergeRefIdeal.Ref.four
      refine pick_eq t _ (by omega) (fun h => ?_) (fun h => ?_)
      · blk_point [iblk, V, idx_val t]
      · blk_point [iblk, V, idx_val t]
    · apply Fin.ext; blk_simp [idx_val t]; first | done | omega

/-- The whole result array. -/
theorem final (c : Dev nD) : (dats m 0 c).arrAt 17 (cfgs 0).N = REF m c := by
  refine (dats m 0 c).arrAt_eq_of_covers 17 _ (by decide +kernel) fun t hf y => ?_
  blk_simp; rw [after0_17]
  exact point m c t y

end Cert.MergeIdeal.Value
end
-- ==== Proof.Merge.Claims.lean ====
module

public import proofs.«01_k».proof.Defs
public import proofs.«01_k».proof.Proof.Merge.Kernel
public import proofs.«01_k».proof.Proof.Gen.MergeRefIdeal.Run
public import proofs.«01_k».proof.Proof.Gen.MergeRefIdeal.Read
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the merge call. -/
namespace Cert.Proof

/-- The merge call at ideal numbers ends with its reference's result. -/
theorem value_Merge : Cert.algebraic_MergeIdeal_MergeRefIdeal := by
  intro m g m' g' hp hagree
  refine ⟨fun c => Cert.MergeIdeal.Value.REF m c, ?_, ?_⟩
  · exact Idealize.ShloMosaic.θ_run_mono (Idealize.ShloMosaic.θ_run_and (Cert.MergeIdeal.Gen.run_main m g) (Cert.MergeIdeal.Gen.unchanged m g))
      fun r hr c => ⟨((hr.1 c).1 17).trans (Cert.MergeIdeal.Value.final m c), hr.2 c⟩
  · refine (θ_run _ _ _).mono (fun r h c => ⟨(h c).1.trans ?_, (h c).2⟩) (Cert.MergeRefIdeal.Value.run m' g')
    obtain ⟨h0, h1, h2, h3, h4, h5, h6, h7, h8, h9, h10, h11, h12, h13, h14, h15, h16⟩ := hagree c
    rw [Cert.MergeRefIdeal.Read.val_main_v172_eq]
    change _ = Cert.MergeIdeal.Value.REF m c
    unfold Cert.MergeIdeal.Value.REF
    rw [← h0, ← h1, ← h2, ← h3, ← h4, ← h5, ← h6, ← h7, ← h8, ← h9, ← h10, ← h11, ← h12, ← h13, ← h14, ← h15, ← h16]
    first | done | rfl

/-- The merge's reference terminates, leaves its arguments alone and its counters at zero. -/
theorem frame_MergeRef : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

end Cert.Proof
end
-- ==== Proof.Mod.Claims.lean ====
module

public import proofs.«01_k».proof.Defs
public import proofs.«01_k».proof.Proof.Gen.ModIdeal.Frame
public import proofs.«01_k».proof.Proof.Gen.ModIdeal.Value
public import proofs.«01_k».proof.Proof.Gen.ModRefIdeal.Run
public import proofs.«01_k».proof.Proof.Gen.ModRefIdeal.Read
public import Idealize.ShloMosaic.Lib.Pointwise
public import Idealize.ShloMosaic.Lib.Pipeline.ValueKit
public import Idealize.ShloMosaic.Lib.Claim
public import Idealize.ShloMosaic.Lib.Quiescent

@[expose] public section
set_option maxRecDepth 16384
noncomputable section
open Idealize.ShloMosaic Idealize.ShloMosaic.TcCoe Idealize.SL.Sem
open Idealize.ShloMosaic.Pipeline (Dat)
open scoped BigOperators

/-! The modulation vectors of every layer: the call, its reference and the claims. -/
namespace Cert.ModIdeal.Value

/-- A modulation number: `silu` of a row times a column, plus a bias. -/
def cell (c w : Fin 1024 → EReal) (b : EReal) : EReal := ∑ k, c k * Ideal.logistic (c k) * w k + b

/-- Rows that agree entry by entry give the same number. -/
theorem cell_congr {c c' w w' : Fin 1024 → EReal} {b b' : EReal} (hc : ∀ k, c k = c' k) (hw : ∀ k, w k = w' k) (hb : b = b') :
    cell c w b = cell c' w' b' := by
  obtain rfl := funext hc
  obtain rfl := funext hw
  rw [hb]

section
open Cert.ModRefIdeal Cert.ModRefIdeal.Read

/-- The reference at an index. -/
theorem ref_at (x0 : FVec Ideal S16x1024 .f32) (x1 : FVec Ideal S2x1024x6144 .f32) (x2 : FVec Ideal S2x6144 .f32) (j : S2x16x6144.Idx) :
    val_main_v20 (F := Ideal) x0 x1 x2 j
      = cell (fun k => x0 (ix2 (j 1) k)) (fun k => x1 (ix3 (j 0) k (j 2))) (x2 (ix2 (j 0) (j 2))) := by
  have h2 : (j 0).val < 2 := (j 0).isLt
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_call0_v0, val_main_call0_v1, val_main_call0_cst, val_main_call0_v2, val_main_call0_v3,
    val_main_call0_cst_0, val_main_call0_v4, val_main_call0_v5, val_main_call1_v0, val_main_call1_v1, val_main_call1_cst,
    val_main_call1_v2, val_main_call1_v3, val_main_call1_cst_0, val_main_call1_v4, val_main_call1_v5]
  split
  · rename_i h
    have h' : (j 0).val < 1 := h
    refine cell_congr (fun k => rfl) (fun k => ?_) ?_
    · exact congrArg (fun l => x1 (ix3 l k (j 2))) (Fin.ext (by show 0 = (j 0).val; omega))
    · exact congrArg (fun l => x2 (ix2 l (j 2))) (Fin.ext (by show 0 = (j 0).val; omega))
  · rename_i h
    have h' : ¬(j 0).val < 1 := h
    refine cell_congr (fun k => rfl) (fun k => ?_) ?_
    · exact congrArg (fun l => x1 (ix3 l k (j 2))) (Fin.ext (by show 1 = (j 0).val; omega))
    · exact congrArg (fun l => x2 (ix2 l (j 2))) (Fin.ext (by show 1 = (j 0).val; omega))

end

open Cert.ModIdeal Cert.ModIdeal.Gen

/-- The stored block at an index. -/
theorem pay1_at (c : Vec Ideal S16x1024 .f32) (w : Vec Ideal S1x1024x1536 .f32) (b : Vec Ideal S1x1x1536 .f32) (j) :
    k0_pay1 (F := Ideal) c w b j = cell (fun k => c (ix2 (j 1) k)) (fun k => w (ix3 0 k (j 2))) (b (ix3 0 0 (j 2))) := by
  pointwise [k0_pay1]
  rfl

variable (m : (ℓ : Loc nD τ sig) → Buf (Elt Ideal) ℓ)

/-- Where each window's block lies at a grid point. -/
theorem idx_val : ∀ t : Fin cfg0.N, win0_0.index t = ![0, 0]
    ∧ win0_1.index t = ![t.val / 4, 0, t.val % 4]
    ∧ win0_2.index t = ![t.val / 4, 0, t.val % 4]
    ∧ win0_3.index t = ![t.val / 4, 0, t.val % 4] :=
  (by decide +kernel : ∀ t : Fin grid0.N, _)

/-- The arguments' reference value. -/
abbrev REF (c : Dev nD) : FVec Ideal Cert.ModRefIdeal.S2x16x6144 .f32 :=
  ModRefIdeal.Read.val_main_v20 (F := Ideal) (m ((c : Thread nD τ).loc main_arg0)) (m ((c : Thread nD τ).loc main_arg1))
    (m ((c : Thread nD τ).loc main_arg2))

/-- The bias as the call reads it. -/
theorem bias_at (c : Dev nD) (j) : V m c main_v0 j = m ((c : Thread nD τ).loc main_arg2) (ix2 (j 0) (j 2)) := by
  entry_read
  pointwise

/-- What the body stores at grid point `t` is the reference's block there. -/
theorem point (c : Dev nD) (t : Fin cfg0.N) (y) :
    out0_3 (iblk m c 0 t) (iblk m c 1 t) (iblk m c 2 t) y = REF m c (((cfg0.win 3).blk t).view.emb y) := by
  refine Eq.trans ?_ (ref_at _ _ _ _).symm
  have ht : t.val < 8 := t.isLt
  unfold out0_3
  canon_tiles x h
  refine (pay1_at _ _ _ _).trans (cell_congr (fun k => ?_) (fun k => ?_) ?_)
  · blk_point [iblk, V, idx_val t]
  · blk_point [iblk, V, idx_val t]
  · have key : ∀ A : Buf (Elt Ideal) ((c : Thread nD τ).loc main_v0), View.ld (((cfg0.win 2).blk t).view.read (Elt Ideal) A) r0_2 (ix3 0 0 (x 2))
        = A (ix3 (((cfg0.win 3).blk t).view.emb y 0) 0 (((cfg0.win 3).blk t).view.emb y 2)) := by
      intro A
      have hr : (r0_2.idx (ix3 0 0 (x 2)) 2).val = (x 2).val := (Rect.idx_unit_val _ _ _ _ 2).trans (Nat.zero_add _)
      refine congrArg A (funext fun a => Fin.ext ?_)
      fin_cases a
      · show _ = (((cfg0.win 3).blk t).view.emb y 0).val
        blk_simp [idx_val t]
      · blk_simp [idx_val t]
      · show (((cfg0.win 2).blk t).view.emb (r0_2.idx (ix3 0 0 (x 2))) 2).val = (((cfg0.win 3).blk t).view.emb y 2).val
        blk_simp [idx_val t]; omega
    exact (key (V m c main_v0)).trans (bias_at m c _)

/-- The whole result array. -/
theorem final (c : Dev nD) : (dats m 0 c).arrAt 3 (cfgs 0).N = REF m c := by
  refine (dats m 0 c).arrAt_eq_of_covers 3 _ (by decide +kernel) fun t hf y => ?_
  blk_simp; rw [after0_3]
  exact point m c t y

end Cert.ModIdeal.Value

namespace Cert.Proof

/-- The modulation call at ideal numbers ends with its reference's result. -/
theorem value_Mod : Cert.algebraic_ModIdeal_ModRefIdeal := by
  intro m g m' g' hp hagree
  refine ⟨fun c => Cert.ModIdeal.Value.REF m c, ?_, ?_⟩
  · run_from Cert.ModIdeal.Gen.run_main m g
    exact Cert.ModIdeal.Value.final m c
  · refine (θ_run _ _ _).mono (fun r h c => ⟨(h c).1.trans ?_, (h c).2⟩) (Cert.ModRefIdeal.Value.run m' g')
    obtain ⟨h0, h1, h2⟩ := hagree c
    rw [Cert.ModRefIdeal.Read.val_main_v20_eq]
    unfold Cert.ModIdeal.Value.REF
    rw [h0, h1, h2]

/-- The modulation's reference terminates, leaves its arguments alone and its counters at zero. -/
theorem frame_ModRef : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run (F := Ideal) m ρ)

end Cert.Proof
end
-- ==== Proof.Last.Run.lean ====
module

public import proofs.«01_k».proof.Proof.Gen.LastIdeal.Frame
public import Idealize.ShloMosaic.Lib.Claim

@[expose] public section
set_option maxRecDepth 16384
noncomputable section

/-! The last layer's merge and feed-forward calls, run: what the result array holds at the end. -/
namespace Cert.LastIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The result array ends as the second call leaves it, and the arguments end as they were. -/
theorem result : θ_run defs (onTc (τ := τ) (main (F := F))) ⟨m, fun _ => 0, ρ⟩ (fun r => ∀ c : Dev nD,
      r.2.mem ((c.tc : Thread nD τ).loc main_v13) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v13 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c)⟩)

end Cert.LastIdeal.Gen
end
-- ==== Proof.Last.Same.lean ====
module

public import proofs.«01_k».proof.Proof.Gen.LastIdeal.Frame
public import proofs.«01_k».proof.Proof.Gen.MergeIdeal.Frame
public import proofs.«01_k».proof.Proof.Gen.FfnLastIdeal.Frame
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem

/-! The two kernels of the last layer's program store what the same kernels do in programs of their own. -/
namespace Cert.LastIdeal.Value
open Cert.LastIdeal Cert.LastIdeal.Gen

/-- A grid point of the 32 latent tiles as a grid point of the 33 tiles. -/
def up (i : grid0.Coords) : MergeIdeal.grid0.Coords
  | 0 => ⟨(i 0).val, (i 0).isLt⟩
  | 1 => ⟨(i 1).val, Nat.lt_succ_of_lt (i 1).isLt⟩

set_option maxHeartbeats 1000000 in
/-- The first kernel stores what the merge kernel stores. -/
theorem merge_eq (i : grid0.Coords) (x0 x1 x2 x3 x4 x5 x6 x7 x8 x9 x10 x11 x12 x13 x14 x15 x16) :
    Gen.out0_17 (F := Ideal) i x0 x1 x2 x3 x4 x5 x6 x7 x8 x9 x10 x11 x12 x13 x14 x15 x16
      = MergeIdeal.Gen.out0_17 (F := Ideal) (up i) x0 x1 x2 x3 x4 x5 x6 x7 x8 x9 x10 x11 x12 x13 x14 x15 x16 := rfl

set_option maxHeartbeats 1000000 in
/-- The second kernel stores what the last feed-forward kernel stores. -/
theorem ffn_eq (x0 x1 x2 x3 x4 x5) :
    Gen.out1_6 (F := Ideal) x0 x1 x2 x3 x4 x5 = FfnLastIdeal.Gen.out0_6 (F := Ideal) x0 x1 x2 x3 x4 x5 := rfl

end Cert.LastIdeal.Value
end
-- ==== Proof.Last.Merge.lean ====
module

public import proofs.«01_k».proof.Proof.Last.Same
public import proofs.«01_k».proof.Proof.Merge.Pays
public import proofs.«01_k».proof.Proof.Merge.Ref

@[expose] public section
set_option maxRecDepth 16384
noncomputable section
open Idealize.ShloMosaic Idealize.ShloMosaic.TcCoe Idealize.SL.Sem
open Idealize.ShloMosaic.Pipeline (Dat)
open scoped BigOperators

/-! The array that the last layer's merge leaves. -/
namespace Cert.LastIdeal.Value
open Cert.LastIdeal Cert.LastIdeal.Gen
open Cert.MergeIdeal.Value (lat row1_at row0_at)

variable (V : (c : Dev nD) → (b : Ref sig .tc) → Buf (Elt Ideal) ((c : Thread nD τ).loc b))

/-- Where each window's block lies at a grid point. -/
theorem idx_val : ∀ t : Fin cfg0.N, win0_0.index t = ![t.val / 32, t.val % 32, 0]
    ∧ win0_1.index t = ![t.val / 32, 0, 0]
    ∧ win0_2.index t = ![t.val / 32, 0, 0, 0]
    ∧ win0_3.index t = ![t.val / 32, t.val % 32, 0]
    ∧ win0_4.index t = ![t.val / 32, t.val % 32, 0]
    ∧ win0_5.index t = ![t.val / 32, t.val % 32, 0]
    ∧ win0_6.index t = ![t.val / 32, t.val % 32, 0]
    ∧ win0_7.index t = ![t.val / 32, t.val % 32, 0]
    ∧ win0_8.index t = ![t.val / 32, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val / 32, t.val % 32, 0] :=
  (by decide +kernel : ∀ t : Fin grid0.N, _)

/-- Whether a grid point's tile holds latent rows, from its number. -/
theorem lat_val : ∀ t : Fin cfg0.N, lat (up (grid0.coords t)) = 1#1 :=
  (by decide +kernel : ∀ t : Fin grid0.N, _)

/-- The reference value of the merge on the arguments' contents. -/
abbrev REF (c : Dev nD) : FVec Ideal Cert.MergeRefIdeal.S8x8448x1024 .f32 :=
  MergeRefIdeal.Read.val_main_v172 (F := Ideal) (V c main_arg0) (V c main_arg1) (V c main_arg2) (V c main_arg3) (V c main_arg4) (V c main_arg5) (V c main_arg6) (V c main_arg7) (V c main_arg8)
    (V c main_arg9) (V c main_arg10) (V c main_arg11) (V c main_arg12) (V c main_arg13) (V c main_arg14) (V c main_arg15) (V c main_arg16)

/-- The prepared weights of the merge hold the arguments' numbers. -/
structure Weights (c : Dev nD) : Prop where
  gain : ∀ k, V c main_v0 (ix2 0 k) = V c main_arg3 (ix1 k)
  wgate : ∀ k n, V c main_v1 (ix2 k n) = V c main_arg10 (ix2 k n)
  bgate : ∀ k, V c main_v2 (ix2 0 k) = V c main_arg11 (ix1 k)
  onorm : ∀ k, V c main_v3 (ix2 0 k) = V c main_arg12 (ix1 k)
  wdn : ∀ k n, V c main_v4 (ix2 k n) = V c main_arg13 (ix2 k n)
  wsc : ∀ k n, V c main_v5 (ix2 k n) = V c main_arg14 (ix2 k n)
  wfn : ∀ k n, V c main_v6 (ix2 k n) = V c main_arg15 (ix2 k n)
  wo : ∀ k n, V c main_v7 (ix2 k n) = V c main_arg16 (ix2 k n)

/-- Window 9's block is the whole gain row. -/
theorem gain_at (c : Dev nD) (t : Fin cfg0.N) (k) : View.ld (iblk0 V c 9 t) MergeIdeal.Gen.r0_4 (ix2 0 k) = V c main_v0 (ix2 0 k) := by
  have h : iblk0 V c 9 t = V c main_v0 := by blk_ext! [iblk0, idx_val t]
  rw [h]
  pointwise

/-- Window 10's block is the whole gate matrix. -/
theorem wgate_at (c : Dev nD) (t : Fin cfg0.N) (k) (n) : View.ld (iblk0 V c 10 t) MergeIdeal.Gen.r0_7 (ix2 k n) = V c main_v1 (ix2 k n) := by
  have h : iblk0 V c 10 t = V c main_v1 := by blk_ext! [iblk0, idx_val t]
  rw [h]
  pointwise

/-- Window 11's block is the whole gate bias. -/
theorem bgate_at (c : Dev nD) (t : Fin cfg0.N) (k) : View.ld (iblk0 V c 11 t) MergeIdeal.Gen.r0_12 (ix2 0 k) = V c main_v2 (ix2 0 k) := by
  have h : iblk0 V c 11 t = V c main_v2 := by blk_ext! [iblk0, idx_val t]
  rw [h]
  pointwise

/-- Window 12's block is the whole gain of the heads. -/
theorem onorm_at (c : Dev nD) (t : Fin cfg0.N) (k) : View.ld (iblk0 V c 12 t) MergeIdeal.Gen.r0_9 (ix2 0 k) = V c main_v3 (ix2 0 k) := by
  have h : iblk0 V c 12 t = V c main_v3 := by blk_ext! [iblk0, idx_val t]
  rw [h]
  pointwise

/-- Window 13's block is the whole projection of the recurrent branch. -/
theorem wdn_at (c : Dev nD) (t : Fin cfg0.N) (k) (n) : View.ld (iblk0 V c 13 t) MergeIdeal.Gen.r0_11 (ix2 k n) = V c main_v4 (ix2 k n) := by
  have h : iblk0 V c 13 t = V c main_v4 := by blk_ext! [iblk0, idx_val t]
  rw [h]
  pointwise

/-- Window 14's block is the whole projection of the short convolution. -/
theorem wsc_at (c : Dev nD) (t : Fin cfg0.N) (k) (n) : View.ld (iblk0 V c 14 t) MergeIdeal.Gen.r0_11 (ix2 k n) = V c main_v5 (ix2 k n) := by
  have h : iblk0 V c 14 t = V c main_v5 := by blk_ext! [iblk0, idx_val t]
  rw [h]
  pointwise

/-- Window 15's block is the whole projection of the Fourier branch. -/
theorem wfn_at (c : Dev nD) (t : Fin cfg0.N) (k) (n) : View.ld (iblk0 V c 15 t) MergeIdeal.Gen.r0_11 (ix2 k n) = V c main_v6 (ix2 k n) := by
  have h : iblk0 V c 15 t = V c main_v6 := by blk_ext! [iblk0, idx_val t]
  rw [h]
  pointwise

/-- Window 16's block is the whole output projection. -/
theorem wo_at (c : Dev nD) (t : Fin cfg0.N) (k) (n) : View.ld (iblk0 V c 16 t) MergeIdeal.Gen.r0_13 (ix2 k n) = V c main_v7 (ix2 k n) := by
  have h : iblk0 V c 16 t = V c main_v7 := by blk_ext! [iblk0, idx_val t]
  rw [h]
  pointwise

/-- A read of a latent row from window 0's block. -/
theorem x_at (q : ℕ) (inb) (c : Dev nD) (t : Fin cfg0.N) (r : Fin 256) (k : Fin 1024) (i : S8x8192x1024.Idx) (h0 : (i 0).val = t.val / 32 * 2 + q)
    (h1 : (i 1).val = t.val % 32 * 256 + r.val) (h2 : (i 2).val = k.val) :
    View.ld (iblk0 V c 0 t) (Rect.unit (s := MergeIdeal.S2x256x1024) ![q, 0, 0] MergeIdeal.S1x256x1024.size inb) (ix3 0 r k) = V c main_arg0 i := by
  rw [show iblk0 V c 0 t = (win0_0.blk t).view.read (Elt Ideal) (V c main_arg0) from rfl]
  apply congrArg (V c main_arg0)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a row of the forward scan from window 3's block. -/
theorem of_at (q : ℕ) (inb) (c : Dev nD) (t : Fin cfg0.N) (r : Fin 256) (k : Fin 512) (i : S8x8448x512.Idx) (h0 : (i 0).val = t.val / 32 * 2 + q)
    (h1 : (i 1).val = t.val % 32 * 256 + r.val) (h2 : (i 2).val = k.val) :
    View.ld (iblk0 V c 3 t) (Rect.unit (s := MergeIdeal.S2x256x512) ![q, 0, 0] MergeIdeal.S1x256x512.size inb) (ix3 0 r k) = V c main_arg4 i := by
  rw [show iblk0 V c 3 t = (win0_3.blk t).view.read (Elt Ideal) (V c main_arg4) from rfl]
  apply congrArg (V c main_arg4)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a row of the backward scan from window 4's block. -/
theorem ob_at (q : ℕ) (inb) (c : Dev nD) (t : Fin cfg0.N) (r : Fin 256) (k : Fin 512) (i : S8x8448x512.Idx) (h0 : (i 0).val = t.val / 32 * 2 + q)
    (h1 : (i 1).val = t.val % 32 * 256 + r.val) (h2 : (i 2).val = k.val) :
    View.ld (iblk0 V c 4 t) (Rect.unit (s := MergeIdeal.S2x256x512) ![q, 0, 0] MergeIdeal.S1x256x512.size inb) (ix3 0 r k) = V c main_arg5 i := by
  rw [show iblk0 V c 4 t = (win0_4.blk t).view.read (Elt Ideal) (V c main_arg5) from rfl]
  apply congrArg (V c main_arg5)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a row of the gate of the scans from window 5's block. -/
theorem z_at (q : ℕ) (inb) (c : Dev nD) (t : Fin cfg0.N) (r : Fin 256) (k : Fin 512) (i : S8x8448x512.Idx) (h0 : (i 0).val = t.val / 32 * 2 + q)
    (h1 : (i 1).val = t.val % 32 * 256 + r.val) (h2 : (i 2).val = k.val) :
    View.ld (iblk0 V c 5 t) (Rect.unit (s := MergeIdeal.S2x256x512) ![q, 0, 0] MergeIdeal.S1x256x512.size inb) (ix3 0 r k) = V c main_arg6 i := by
  rw [show iblk0 V c 5 t = (win0_5.blk t).view.read (Elt Ideal) (V c main_arg6) from rfl]
  apply congrArg (V c main_arg6)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a row of the short convolution from window 6's block. -/
theorem sc_at (q : ℕ) (inb) (c : Dev nD) (t : Fin cfg0.N) (r : Fin 256) (k : Fin 512) (i : S8x8448x512.Idx) (h0 : (i 0).val = t.val / 32 * 2 + q)
    (h1 : (i 1).val = t.val % 32 * 256 + r.val) (h2 : (i 2).val = k.val) :
    View.ld (iblk0 V c 6 t) (Rect.unit (s := MergeIdeal.S2x256x512) ![q, 0, 0] MergeIdeal.S1x256x512.size inb) (ix3 0 r k) = V c main_arg7 i := by
  rw [show iblk0 V c 6 t = (win0_6.blk t).view.read (Elt Ideal) (V c main_arg7) from rfl]
  apply congrArg (V c main_arg7)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a latent row of the Fourier branch from window 7's block. -/
theorem fn_at (q : ℕ) (inb) (c : Dev nD) (t : Fin cfg0.N) (r : Fin 256) (k : Fin 512) (i : S8x8192x512.Idx) (h0 : (i 0).val = t.val / 32 * 2 + q)
    (h1 : (i 1).val = t.val % 32 * 256 + r.val) (h2 : (i 2).val = k.val) :
    View.ld (iblk0 V c 7 t) (Rect.unit (s := MergeIdeal.S2x256x512) ![q, 0, 0] MergeIdeal.S1x256x512.size inb) (ix3 0 r k) = V c main_arg8 i := by
  rw [show iblk0 V c 7 t = (win0_7.blk t).view.read (Elt Ideal) (V c main_arg8) from rfl]
  apply congrArg (V c main_arg8)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a modulation vector from window 2's block. -/
theorem mod_at (q p : ℕ) (inb) (c : Dev nD) (t : Fin cfg0.N) (k : Fin 1024) (i : S8x2x6x1024.Idx) (h0 : (i 0).val = t.val / 32 * 2 + q)
    (h1 : (i 1).val = 0) (h2 : (i 2).val = p) (h3 : (i 3).val = k.val) :
    View.ld (iblk0 V c 2 t) (Rect.unit (s := MergeIdeal.S2x1x6x1024) ![q, 0, p, 0] MergeIdeal.S1x1x1x1024.size inb) (ix4 0 0 0 k) = V c main_arg2 i := by
  rw [show iblk0 V c 2 t = (win0_2.blk t).view.read (Elt Ideal) (V c main_arg2) from rfl]
  apply congrArg (V c main_arg2)
  funext a
  match a with
  | 0 => apply Fin.ext; blk_simp [idx_val t]; erw [Rect.idx_unit_val]; rw [h0]; rfl
  | 1 => apply Fin.ext; blk_simp [idx_val t]; exact h1.symm
  | 2 => apply Fin.ext; blk_simp [idx_val t]; erw [Rect.idx_unit_val]; rw [h2]; rfl
  | 3 => apply Fin.ext; blk_simp [idx_val t]; erw [Rect.idx_unit_val]; rw [h3]; exact Nat.zero_add _

/-- A choice by the tile takes the latents' side, as the choice by the token does. -/
theorem pick_eq {p q : EReal} (t : Fin cfg0.N) (tok : ℕ) {l : tok < 8192 → EReal} {r : ¬ tok < 8192 → EReal} (htok : tok / 256 = t.val % 32)
    (hp : ∀ h, p = l h) : Scalar.select (lat (up (grid0.coords t))) p q = if h : tok < 8192 then l h else r h := by
  rw [lat_val t, dif_pos (by omega)]
  exact hp _

/-- What the body stores at grid point `t` is the reference's block there. -/
theorem point (c : Dev nD) (hw : Weights V c) (t : Fin cfg0.N) (y) :
    out0_17 (grid0.coords t) (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) (iblk0 V c 13 t) (iblk0 V c 14 t)
      (iblk0 V c 15 t) (iblk0 V c 16 t) y
      = REF V c (((cfg0.win 17).blk t).view.emb y) := by
  refine Eq.trans ?_ (MergeRefIdeal.Ref.out_at _ _ _ _ _ _ _ _ _ _ _ _ _ _ _ _ _ _).symm
  have ht : t.val < 128 := t.isLt
  have hy : (y 1).val < 256 := (y 1).isLt
  have he : (((cfg0.win 17).blk t).view.emb y 1).val = t.val % 32 * 256 + (y 1).val := by blk_simp [idx_val t]
  have e0 : (((cfg0.win 17).blk t).view.emb y 0).val = t.val / 32 * 2 + (y 0).val := by blk_simp [idx_val t]
  rw [merge_eq]
  unfold MergeIdeal.Gen.out0_17
  canon_tiles x h
  case piece0 =>
    refine (row1_at (i := up (grid0.coords t)) _ _ _ _ _ _ _ _ _ _ _ _ _ _ _ _ _ _ _ _).trans (Row.mix_congr (fun k => ?_) (fun k => (gain_at V c t k).trans (hw.gain k)) (fun k => ?_) (fun k => ?_)
      (fun k => ?_) (fun k => ?_) (fun k => ?_) (fun k => ?_) (fun k => ?_) (fun k n => (wgate_at V c t k n).trans (hw.wgate k n)) (fun k => (bgate_at V c t k).trans (hw.bgate k)) (fun k => (onorm_at V c t k).trans (hw.onorm k))
      (fun k n => (wdn_at V c t k n).trans (hw.wdn k n)) (fun k n => (wsc_at V c t k n).trans (hw.wsc k n)) (fun k n => (wfn_at V c t k n).trans (hw.wfn k n)) (fun k n => (wo_at V c t k n).trans (hw.wo k n)) ?_)
    · unfold MergeRefIdeal.Ref.src
      refine pick_eq t _ (by omega) (fun h => ?_)
      exact x_at V 1 _ c t _ _ _ (e0.trans (by omega)) (he.trans (by omega)) rfl
    · exact mod_at V 1 0 _ c t _ _ (e0.trans (by omega)) (Nat.div_eq_of_lt (by omega)) rfl rfl
    · exact mod_at V 1 1 _ c t _ _ (e0.trans (by omega)) (Nat.div_eq_of_lt (by omega)) rfl rfl
    · exact mod_at V 1 2 _ c t _ _ (e0.trans (by omega)) (Nat.div_eq_of_lt (by omega)) rfl rfl
    · refine congrArg₂ (· + ·) ?_ ?_
      · exact of_at V 1 _ c t _ _ _ (e0.trans (by omega)) (he.trans (by omega)) rfl
      · exact ob_at V 1 _ c t _ _ _ (e0.trans (by omega)) (he.trans (by omega)) rfl
    · exact z_at V 1 _ c t _ _ _ (e0.trans (by omega)) (he.trans (by omega)) rfl
    · exact sc_at V 1 _ c t _ _ _ (e0.trans (by omega)) (he.trans (by omega)) rfl
    · unfold MergeRefIdeal.Ref.four
      refine pick_eq t _ (by omega) (fun h => ?_)
      exact fn_at V 1 _ c t _ _ _ (e0.trans (by omega)) (he.trans (by omega)) rfl
    · apply Fin.ext; blk_simp [idx_val t]; first | done | omega
  case piece1 =>
    refine (row0_at (i := up (grid0.coords t)) _ _ _ _ _ _ _ _ _ _ _ _ _ _ _ _ _ _ _ _).trans (Row.mix_congr (fun k => ?_) (fun k => (gain_at V c t k).trans (hw.gain k)) (fun k => ?_) (fun k => ?_)
      (fun k => ?_) (fun k => ?_) (fun k => ?_) (fun k => ?_) (fun k => ?_) (fun k n => (wgate_at V c t k n).trans (hw.wgate k n)) (fun k => (bgate_at V c t k).trans (hw.bgate k)) (fun k => (onorm_at V c t k).trans (hw.onorm k))
      (fun k n => (wdn_at V c t k n).trans (hw.wdn k n)) (fun k n => (wsc_at V c t k n).trans (hw.wsc k n)) (fun k n => (wfn_at V c t k n).trans (hw.wfn k n)) (fun k n => (wo_at V c t k n).trans (hw.wo k n)) ?_)
    · unfold MergeRefIdeal.Ref.src
      refine pick_eq t _ (by omega) (fun h => ?_)
      exact x_at V 0 _ c t _ _ _ (e0.trans (by omega)) (he.trans (by omega)) rfl
    · exact mod_at V 0 0 _ c t _ _ (e0.trans (by omega)) (Nat.div_eq_of_lt (by omega)) rfl rfl
    · exact mod_at V 0 1 _ c t _ _ (e0.trans (by omega)) (Nat.div_eq_of_lt (by omega)) rfl rfl
    · exact mod_at V 0 2 _ c t _ _ (e0.trans (by omega)) (Nat.div_eq_of_lt (by omega)) rfl rfl
    · refine congrArg₂ (· + ·) ?_ ?_
      · exact of_at V 0 _ c t _ _ _ (e0.trans (by omega)) (he.trans (by omega)) rfl
      · exact ob_at V 0 _ c t _ _ _ (e0.trans (by omega)) (he.trans (by omega)) rfl
    · exact z_at V 0 _ c t _ _ _ (e0.trans (by omega)) (he.trans (by omega)) rfl
    · exact sc_at V 0 _ c t _ _ _ (e0.trans (by omega)) (he.trans (by omega)) rfl
    · unfold MergeRefIdeal.Ref.four
      refine pick_eq t _ (by omega) (fun h => ?_)
      exact fn_at V 0 _ c t _ _ _ (e0.trans (by omega)) (he.trans (by omega)) rfl
    · apply Fin.ext; blk_simp [idx_val t]; first | done | omega

/-- The array after the merge: the reference's latent rows, the context's as they were. -/
theorem merged (c : Dev nD) (hw : Weights V c) (b : Fin 8) (t : Fin 8192) (k : Fin 1024) :
    (dat0 V c).arrAt 17 cfg0.N (ix3 b ⟨t.val, by omega⟩ k) = REF V c (ix3 b ⟨t.val, by omega⟩ k) := by
  refine ((dat0 V c).arrAt_apply_of_coversWhere 17 (REF V c) (P := fun i => (i 1 : ℕ) / 256 < 32) (fun β => β (1 : Fin _) < 32)
    (by decide +kernel) (fun t hf y => ?_) (fun j => Iff.rfl) _).trans (if_pos ?_)
  · blk_simp; rw [after0_17]
    exact point V c hw t y
  · show t.val / 256 < 32
    omega

end Cert.LastIdeal.Value
end
-- ==== Proof.Last.Ref.lean ====
module

public import proofs.«01_k».proof.Proof.Gen.LastRefIdeal.Read
public import proofs.«01_k».proof.Proof.Ffn.RefLast
public import proofs.«01_k».proof.Proof.Merge.Ref

@[expose] public section
set_option maxRecDepth 16384
noncomputable section
open Idealize.ShloMosaic Idealize.ShloMosaic.TcCoe Idealize.SL.Sem
open scoped BigOperators

/-! The reference of the last layer's merge and feed-forward, read at an index. -/
namespace Cert.LastRefIdeal.Ref
open Cert.LastRefIdeal Cert.LastRefIdeal.Read

variable (x0 : FVec Ideal S8x8192x1024 .f32) (x1 : FVec Ideal S8x256x1024 .f32) (x2 : FVec Ideal S8x2x6x1024 .f32) (x3 : FVec Ideal S1024 .f32)
  (x4 x5 : FVec Ideal S8x8448x512 .bf16) (x6 : FVec Ideal S8x8448x512 .f32) (x7 : FVec Ideal S8x8448x512 .bf16)
  (x8 : FVec Ideal S8x8192x512 .bf16) (x9 : FVec Ideal S8x256x512 .bf16) (x10 : FVec Ideal S1024x3072 .f32) (x11 : FVec Ideal S3072 .f32)
  (x12 : FVec Ideal S128 .f32) (x13 x14 x15 : FVec Ideal S512x1024 .f32) (x16 : FVec Ideal S1024x1024 .f32) (x17 : FVec Ideal S1024 .f32)
  (x18 : FVec Ideal S1024x5632 .f32) (x19 : FVec Ideal S2816x1024 .f32) (x20 : FVec Ideal S1024 .f32)

/-- The latent rows after the merge are those of the merge's own reference. -/
theorem merged_eq : val_main_v85 (F := Ideal) x0 x2 x3 x4 x5 x6 x7 x8 x10 x11 x12 x13 x14 x15 x16 = MergeRefIdeal.Read.val_main_v85 (F := Ideal) x0 x2 x3 x4 x5 x6 x7 x8 x10 x11 x12 x13 x14 x15 x16 := rfl

/-- Modulation vector `q` of batch `b` for the latent rows. -/
abbrev mod (q : Fin 6) (b : Fin 8) (k : Fin 1024) : EReal := x2 (ix4 b 0 q k)

/-- The latent row `t` of batch `b` after the merge. -/
def row (b : Fin 8) (t : Fin 8192) (k : Fin 1024) : EReal := val_main_v85 (F := Ideal) x0 x2 x3 x4 x5 x6 x7 x8 x10 x11 x12 x13 x14 x15 x16 (ix3 b t k)

/-- The latent rows after the merge, at an index. -/
theorem row_at (j : S8x8192x1024.Idx) : val_main_v85 (F := Ideal) x0 x2 x3 x4 x5 x6 x7 x8 x10 x11 x12 x13 x14 x15 x16 j = row x0 x2 x3 x4 x5 x6 x7 x8 x10 x11 x12 x13 x14 x15 x16 (j 0) (j 1) (j 2) :=
  congrArg (val_main_v85 (F := Ideal) x0 x2 x3 x4 x5 x6 x7 x8 x10 x11 x12 x13 x14 x15 x16) (ix3_eta j).symm

/-- The reference's modulated rows. -/
theorem mod_at (j : S8x8192x1024.Idx) :
    val_main_v115 (F := Ideal) x0 x2 x3 x4 x5 x6 x7 x8 x10 x11 x12 x13 x14 x15 x16 x17 j
      = Row.modulated (row x0 x2 x3 x4 x5 x6 x7 x8 x10 x11 x12 x13 x14 x15 x16 (j 0) (j 1)) (fun k => x17 (ix1 k)) (mod x2 3 (j 0)) (mod x2 4 (j 0)) (j 2) := by
  pointwise [val_main_v86, val_main_v87, val_main_v88, val_main_v89, val_main_v90, val_main_v91, val_main_v92, val_main_v93, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_cst_8, val_main_cst_9, val_main_cst_10, val_main_cst_11, row_at]
  rw [Row.div_1024]
  exact congrArg (· + _) (mul_assoc _ _ _)

/-- The reference's hidden units. -/
theorem hidden_at (j : S8x8192x2816.Idx) :
    val_main_v120 (F := Ideal) x0 x2 x3 x4 x5 x6 x7 x8 x10 x11 x12 x13 x14 x15 x16 x17 x18 j
      = Row.hidden (Row.modulated (row x0 x2 x3 x4 x5 x6 x7 x8 x10 x11 x12 x13 x14 x15 x16 (j 0) (j 1)) (fun k => x17 (ix1 k)) (mod x2 3 (j 0)) (mod x2 4 (j 0))) (fun k n => x18 (ix2 k n)) (j 2) := by
  pointwise [val_main_v116, val_main_v117, val_main_v118, val_main_v119, val_main_v120, val_main_call1_v0, val_main_call1_v1, val_main_call1_v2, val_main_call1_v3, val_main_call1_v4, val_main_call1_v5, val_main_call1_cst, val_main_call1_cst_0, mod_at]
  rfl

/-- The reference's rows after the residual sum. -/
theorem ffn_at (j : S8x8192x1024.Idx) :
    val_main_v124 (F := Ideal) x0 x2 x3 x4 x5 x6 x7 x8 x10 x11 x12 x13 x14 x15 x16 x17 x18 x19 j
      = Row.ffn (row x0 x2 x3 x4 x5 x6 x7 x8 x10 x11 x12 x13 x14 x15 x16 (j 0) (j 1)) (fun k => x17 (ix1 k)) (mod x2 3 (j 0)) (mod x2 4 (j 0)) (mod x2 5 (j 0)) (fun k n => x18 (ix2 k n))
          (fun n d => x19 (ix2 n d)) (j 2) := by
  pointwise [val_main_v86, val_main_v87, val_main_v94, val_main_v95, val_main_v96, val_main_v121, val_main_v122, val_main_v123, val_main_v124, hidden_at, row_at]
  rfl

/-- The reference's result. -/
theorem out_at (j : S8x8192x1024.Idx) :
    val_main_v137 (F := Ideal) x0 x2 x3 x4 x5 x6 x7 x8 x10 x11 x12 x13 x14 x15 x16 x17 x18 x19 x20 j
      = Row.normed (Row.ffn (row x0 x2 x3 x4 x5 x6 x7 x8 x10 x11 x12 x13 x14 x15 x16 (j 0) (j 1)) (fun k => x17 (ix1 k)) (mod x2 3 (j 0)) (mod x2 4 (j 0)) (mod x2 5 (j 0))
          (fun k n => x18 (ix2 k n)) (fun n d => x19 (ix2 n d))) (fun k => x20 (ix1 k)) (j 2) := by
  pointwise [val_main_v125, val_main_v126, val_main_v127, val_main_v128, val_main_v129, val_main_v130, val_main_v131, val_main_v132, val_main_v133, val_main_v134, val_main_v135, val_main_v136, val_main_v137, val_main_cst_12, val_main_cst_13, val_main_cst_14, ffn_at]
  rw [Row.div_1024]
  rfl

/-- A latent row after the merge is that row of the merge's reference on all tokens. -/
theorem row_merge (b : Fin 8) (t : Fin 8192) (k : Fin 1024) :
    MergeRefIdeal.Read.val_main_v172 (F := Ideal) x0 x1 x2 x3 x4 x5 x6 x7 x8 x9 x10 x11 x12 x13 x14 x15 x16 (ix3 b ⟨t.val, by omega⟩ k)
      = row x0 x2 x3 x4 x5 x6 x7 x8 x10 x11 x12 x13 x14 x15 x16 b t k := by
  rw [row, merged_eq]
  pointwise [MergeRefIdeal.Read.val_main_v172]

end Cert.LastRefIdeal.Ref
end
-- ==== Proof.Last.Ffn.lean ====
module

public import proofs.«01_k».proof.Proof.Last.Same
public import proofs.«01_k».proof.Proof.Last.Ref
public import proofs.«01_k».proof.Proof.Ffn.Last

@[expose] public section
set_option maxRecDepth 16384
noncomputable section
open Idealize.ShloMosaic Idealize.ShloMosaic.TcCoe Idealize.SL.Sem
open Idealize.ShloMosaic.Pipeline (Dat)
open scoped BigOperators

/-! The array that the last layer's feed-forward call leaves. -/
namespace Cert.LastIdeal.Tail
open Cert.LastIdeal Cert.LastIdeal.Gen
open Cert.FfnLastIdeal.Value (pay1_at pay7_at)

variable (V : (c : Dev nD) → (b : Ref sig .tc) → Buf (Elt Ideal) ((c : Thread nD τ).loc b))

/-- Where each window's block lies at a grid point. -/
theorem idx_val : ∀ t : Fin cfg1.N, win1_0.index t = ![t.val / 32, t.val % 32, 0]
    ∧ win1_1.index t = ![t.val / 32, 0, 0, 0]
    ∧ win1_2.index t = ![0, 0]
    ∧ win1_3.index t = ![0, 0]
    ∧ win1_4.index t = ![0, 0]
    ∧ win1_5.index t = ![0, 0]
    ∧ win1_6.index t = ![t.val / 32, t.val % 32, 0] :=
  (by decide +kernel : ∀ t : Fin grid1.N, _)

/-- The reference value on the arguments' contents. -/
abbrev REF (c : Dev nD) : FVec Ideal Cert.LastRefIdeal.S8x8192x1024 .f32 :=
  LastRefIdeal.Read.val_main_v137 (F := Ideal) (V c main_arg0) (V c main_arg2) (V c main_arg3) (V c main_arg4) (V c main_arg5) (V c main_arg6) (V c main_arg7) (V c main_arg8) (V c main_arg10)
    (V c main_arg11) (V c main_arg12) (V c main_arg13) (V c main_arg14) (V c main_arg15) (V c main_arg16) (V c main_arg17) (V c main_arg18) (V c main_arg19) (V c main_arg20)

/-- The merged latent row `t` of batch `b`, as the reference has it. -/
abbrev row (c : Dev nD) (b : Fin 8) (t : Fin 8192) (k : Fin 1024) : EReal :=
  LastRefIdeal.Ref.row (V c main_arg0) (V c main_arg2) (V c main_arg3) (V c main_arg4) (V c main_arg5) (V c main_arg6) (V c main_arg7) (V c main_arg8) (V c main_arg10)
    (V c main_arg11) (V c main_arg12) (V c main_arg13) (V c main_arg14) (V c main_arg15) (V c main_arg16) b t k

/-- The prepared weights of the feed-forward call hold the arguments' numbers, and the merged latent rows are the reference's. -/
structure Entry (c : Dev nD) : Prop where
  gain : ∀ k, V c main_v9 (ix2 0 k) = V c main_arg17 (ix1 k)
  win : ∀ k n, V c main_v10 (ix2 k n) = V c main_arg18 (ix2 k n)
  wout : ∀ k n, V c main_v11 (ix2 k n) = V c main_arg19 (ix2 k n)
  fgain : ∀ k, V c main_v12 (ix2 0 k) = V c main_arg20 (ix1 k)
  rows : ∀ (b : Fin 8) (t : Fin 8192) (k : Fin 1024), V c main_v8 (ix3 b ⟨t.val, by omega⟩ k) = row V c b t k

/-- Window 2's block is the whole gain row. -/
theorem gain_at (c : Dev nD) (t : Fin cfg1.N) (k) : View.ld (iblk1 V c 2 t) FfnLastIdeal.Gen.r0_3 (ix2 0 k) = V c main_v9 (ix2 0 k) := by
  have h : iblk1 V c 2 t = V c main_v9 := by blk_ext! [iblk1, idx_val t]
  rw [h]
  pointwise

/-- Window 3's block is the whole first weight matrix. -/
theorem win_at (c : Dev nD) (t : Fin cfg1.N) (k) (n) : View.ld (iblk1 V c 3 t) FfnLastIdeal.Gen.r0_7 (ix2 k n) = V c main_v10 (ix2 k n) := by
  have h : iblk1 V c 3 t = V c main_v10 := by blk_ext! [iblk1, idx_val t]
  rw [h]
  pointwise

/-- Window 4's block is the whole second weight matrix. -/
theorem wout_at (c : Dev nD) (t : Fin cfg1.N) (k) (n) : View.ld (iblk1 V c 4 t) FfnLastIdeal.Gen.r0_8 (ix2 k n) = V c main_v11 (ix2 k n) := by
  have h : iblk1 V c 4 t = V c main_v11 := by blk_ext! [iblk1, idx_val t]
  rw [h]
  pointwise

/-- Window 5's block is the whole closing gain row. -/
theorem fgain_at (c : Dev nD) (t : Fin cfg1.N) (k) : View.ld (iblk1 V c 5 t) FfnLastIdeal.Gen.r0_3 (ix2 0 k) = V c main_v12 (ix2 0 k) := by
  have h : iblk1 V c 5 t = V c main_v12 := by blk_ext! [iblk1, idx_val t]
  rw [h]
  pointwise

/-- A read of a merged row from window 0's block. -/
theorem x_at (q : ℕ) (inb) (c : Dev nD) (t : Fin cfg1.N) (r : Fin 256) (k : Fin 1024) (i : S8x8448x1024.Idx) (h0 : (i 0).val = t.val / 32 * 2 + q)
    (h1 : (i 1).val = t.val % 32 * 256 + r.val) (h2 : (i 2).val = k.val) :
    View.ld (iblk1 V c 0 t) (Rect.unit (s := FfnLastIdeal.S2x256x1024) ![q, 0, 0] FfnLastIdeal.S1x256x1024.size inb) (ix3 0 r k) = V c main_v8 i := by
  rw [show iblk1 V c 0 t = (win1_0.blk t).view.read (Elt Ideal) (V c main_v8) from rfl]
  apply congrArg (V c main_v8)
  funext a
  match a with
  | 0 => apply Fin.ext; blk_simp [idx_val t]; erw [Rect.idx_unit_val]; rw [h0]; rfl
  | 1 => apply Fin.ext; blk_simp [idx_val t]; erw [Rect.idx_unit_val]; rw [h1]; exact congrArg (_ + ·) (Nat.zero_add _)
  | 2 => apply Fin.ext; blk_simp [idx_val t]; erw [Rect.idx_unit_val]; rw [h2]; exact Nat.zero_add _

/-- A read of a modulation vector from window 1's block. -/
theorem mod_at (q p : ℕ) (inb) (c : Dev nD) (t : Fin cfg1.N) (k : Fin 1024) (i : S8x2x6x1024.Idx) (h0 : (i 0).val = t.val / 32 * 2 + q)
    (h1 : (i 1).val = 0) (h2 : (i 2).val = p) (h3 : (i 3).val = k.val) :
    View.ld (iblk1 V c 1 t) (Rect.unit (s := FfnLastIdeal.S2x1x6x1024) ![q, 0, p, 0] FfnLastIdeal.S1x1x1x1024.size inb) (ix4 0 0 0 k)
      = V c main_arg2 i := by
  rw [show iblk1 V c 1 t = (win1_1.blk t).view.read (Elt Ideal) (V c main_arg2) from rfl]
  apply congrArg (V c main_arg2)
  funext a
  match a with
  | 0 => apply Fin.ext; blk_simp [idx_val t]; erw [Rect.idx_unit_val]; rw [h0]; rfl
  | 1 => apply Fin.ext; blk_simp [idx_val t]; exact h1.symm
  | 2 => apply Fin.ext; blk_simp [idx_val t]; erw [Rect.idx_unit_val]; rw [h2]; rfl
  | 3 => apply Fin.ext; blk_simp [idx_val t]; erw [Rect.idx_unit_val]; rw [h3]; exact Nat.zero_add _

/-- What the body stores at grid point `t` is the reference's block there. -/
theorem point (c : Dev nD) (hw : Entry V c) (t : Fin cfg1.N) (y) :
    out1_6 (iblk1 V c 0 t) (iblk1 V c 1 t) (iblk1 V c 2 t) (iblk1 V c 3 t) (iblk1 V c 4 t) (iblk1 V c 5 t) y
      = REF V c (((cfg1.win 6).blk t).view.emb y) := by
  refine Eq.trans ?_ (LastRefIdeal.Ref.out_at _ _ _ _ _ _ _ _ _ _ _ _ _ _ _ _ _ _ _ _).symm
  have ht : t.val < 128 := t.isLt
  have hy : (y 1).val < 256 := (y 1).isLt
  have he : (((cfg1.win 6).blk t).view.emb y 1).val = t.val % 32 * 256 + (y 1).val := by blk_simp [idx_val t]
  have e0 : (((cfg1.win 6).blk t).view.emb y 0).val = t.val / 32 * 2 + (y 0).val := by blk_simp [idx_val t]
  have hb : (((cfg1.win 6).blk t).view.emb y 1).val < 8192 := by omega
  rw [Value.ffn_eq]
  unfold FfnLastIdeal.Gen.out0_6 FfnLastIdeal.Gen.k0_pay10
  canon_tiles x h
  case piece0 =>
    refine (pay1_at _ _ _ _ _ _ _ _ _).trans (Row.normed_ffn_congr (fun k => ?_) (fun k => (gain_at V c t k).trans (hw.gain k)) (fun k => ?_)
      (fun k => ?_) (fun k => ?_) (fun k n => (win_at V c t k n).trans (hw.win k n)) (fun k n => (wout_at V c t k n).trans (hw.wout k n))
      (fun k => (fgain_at V c t k).trans (hw.fgain k)) ?_)
    · exact (x_at V 1 _ c t _ _ (ix3 _ ⟨_, Nat.lt_of_lt_of_le hb (by decide)⟩ _) (e0.trans (by omega)) (he.trans (by omega)) rfl).trans (hw.rows _ _ k)
    · exact mod_at V 1 3 _ c t _ _ (e0.trans (by omega)) rfl rfl rfl
    · exact mod_at V 1 4 _ c t _ _ (e0.trans (by omega)) rfl rfl rfl
    · exact mod_at V 1 5 _ c t _ _ (e0.trans (by omega)) rfl rfl rfl
    · apply Fin.ext; blk_simp [idx_val t]; first | done | omega
  case piece1 =>
    refine (pay7_at _ _ _ _ _ _ _ _ _).trans (Row.normed_ffn_congr (fun k => ?_) (fun k => (gain_at V c t k).trans (hw.gain k)) (fun k => ?_)
      (fun k => ?_) (fun k => ?_) (fun k n => (win_at V c t k n).trans (hw.win k n)) (fun k n => (wout_at V c t k n).trans (hw.wout k n))
      (fun k => (fgain_at V c t k).trans (hw.fgain k)) ?_)
    · exact (x_at V 0 _ c t _ _ (ix3 _ ⟨_, Nat.lt_of_lt_of_le hb (by decide)⟩ _) (e0.trans (by omega)) (he.trans (by omega)) rfl).trans (hw.rows _ _ k)
    · exact mod_at V 0 3 _ c t _ _ (e0.trans (by omega)) rfl rfl rfl
    · exact mod_at V 0 4 _ c t _ _ (e0.trans (by omega)) rfl rfl rfl
    · exact mod_at V 0 5 _ c t _ _ (e0.trans (by omega)) rfl rfl rfl
    · apply Fin.ext; blk_simp [idx_val t]; first | done | omega

/-- The whole result array. -/
theorem final (c : Dev nD) (hw : Entry V c) : (dat1 V c).arrAt 6 cfg1.N = REF V c := by
  refine (dat1 V c).arrAt_eq_of_covers 6 _ (by decide +kernel) fun t hf y => ?_
  blk_simp; rw [after1_6]
  exact point V c hw t y

end Cert.LastIdeal.Tail
end
-- ==== Proof.Last.Both.lean ====
module

public import proofs.«01_k».proof.Proof.Last.Run
public import proofs.«01_k».proof.Proof.Last.Merge
public import proofs.«01_k».proof.Proof.Last.Ffn

@[expose] public section
set_option maxRecDepth 16384
noncomputable section
open Idealize.ShloMosaic Idealize.ShloMosaic.TcCoe Idealize.SL.Sem
open Idealize.ShloMosaic.Pipeline (Dat)
open scoped BigOperators

/-! The last layer's merge and feed-forward calls, one after the other: the result array. -/
namespace Cert.LastIdeal.Both
open Cert.LastIdeal Cert.LastIdeal.Gen

variable (m : (ℓ : Loc nD τ sig) → Buf (Elt Ideal) ℓ) (ρ : Dev nD → PrngReg)

/-- The arguments' reference value. -/
abbrev REF (c : Dev nD) : FVec Ideal Cert.LastRefIdeal.S8x8192x1024 .f32 :=
  LastRefIdeal.Read.val_main_v137 (F := Ideal)
    (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))

/-- An argument holds, when the merge starts, what it held at the launch. -/
theorem arg1 (c : Dev nD) (a : Ref sig .tc) (h : a ∈ argRefs := by decide) : V1 m ρ c a = m ((c : Thread nD τ).loc a) := W1_args m ρ c a h

/-- An argument holds, when the feed-forward call starts, what it held at the launch. -/
theorem arg3 (c : Dev nD) (a : Ref sig .tc) (h : a ∈ argRefs := by decide) : V3 m ρ c a = m ((c : Thread nD τ).loc a) := W3_args m ρ c a h

/-- The merge's prepared weights hold the arguments' numbers. -/
theorem weights (c : Dev nD) : Value.Weights (V1 m ρ) c where
  gain := fun k => by
    rw [arg1 m ρ c main_arg3]
    change StableHlo.after hostOps0 (W0 m ρ c) (Proc.devRef .tc main_v0) (ix2 0 k) = W0 m ρ c (Proc.devRef .tc main_arg3) (ix1 k)
    entry_read
    pointwise
  wgate := fun k n => by
    rw [arg1 m ρ c main_arg10]
    change StableHlo.after hostOps0 (W0 m ρ c) (Proc.devRef .tc main_v1) (ix2 k n) = W0 m ρ c (Proc.devRef .tc main_arg10) (ix2 k n)
    entry_read
    pointwise
  bgate := fun k => by
    rw [arg1 m ρ c main_arg11]
    change StableHlo.after hostOps0 (W0 m ρ c) (Proc.devRef .tc main_v2) (ix2 0 k) = W0 m ρ c (Proc.devRef .tc main_arg11) (ix1 k)
    entry_read
    pointwise
  onorm := fun k => by
    rw [arg1 m ρ c main_arg12]
    change StableHlo.after hostOps0 (W0 m ρ c) (Proc.devRef .tc main_v3) (ix2 0 k) = W0 m ρ c (Proc.devRef .tc main_arg12) (ix1 k)
    entry_read
    pointwise
  wdn := fun k n => by
    rw [arg1 m ρ c main_arg13]
    change StableHlo.after hostOps0 (W0 m ρ c) (Proc.devRef .tc main_v4) (ix2 k n) = W0 m ρ c (Proc.devRef .tc main_arg13) (ix2 k n)
    entry_read
    pointwise
  wsc := fun k n => by
    rw [arg1 m ρ c main_arg14]
    change StableHlo.after hostOps0 (W0 m ρ c) (Proc.devRef .tc main_v5) (ix2 k n) = W0 m ρ c (Proc.devRef .tc main_arg14) (ix2 k n)
    entry_read
    pointwise
  wfn := fun k n => by
    rw [arg1 m ρ c main_arg15]
    change StableHlo.after hostOps0 (W0 m ρ c) (Proc.devRef .tc main_v6) (ix2 k n) = W0 m ρ c (Proc.devRef .tc main_arg15) (ix2 k n)
    entry_read
    pointwise
  wo := fun k n => by
    rw [arg1 m ρ c main_arg16]
    change StableHlo.after hostOps0 (W0 m ρ c) (Proc.devRef .tc main_v7) (ix2 k n) = W0 m ρ c (Proc.devRef .tc main_arg16) (ix2 k n)
    entry_read
    pointwise

/-- The array that the feed-forward call reads is the one that the merge left. -/
theorem merge_left (c : Dev nD) : V3 m ρ c main_v8 = (dat0 (V1 m ρ) c).arrAt 17 cfg0.N :=
  (W3_of m ρ c main_v8 (by decide)).trans (W2_arr m ρ c 17)

/-- The feed-forward call starts at the arguments' weights and at the reference's merged rows. -/
theorem entry (c : Dev nD) : Tail.Entry (V3 m ρ) c where
  gain := fun k => by
    rw [arg3 m ρ c main_arg17, ← W2_args m ρ c main_arg17 (by decide)]
    change StableHlo.after hostOps1 (W2 m ρ c) (Proc.devRef .tc main_v9) (ix2 0 k) = W2 m ρ c (Proc.devRef .tc main_arg17) (ix1 k)
    entry_read
    pointwise
  win := fun k n => by
    rw [arg3 m ρ c main_arg18, ← W2_args m ρ c main_arg18 (by decide)]
    change StableHlo.after hostOps1 (W2 m ρ c) (Proc.devRef .tc main_v10) (ix2 k n) = W2 m ρ c (Proc.devRef .tc main_arg18) (ix2 k n)
    entry_read
    pointwise
  wout := fun k n => by
    rw [arg3 m ρ c main_arg19, ← W2_args m ρ c main_arg19 (by decide)]
    change StableHlo.after hostOps1 (W2 m ρ c) (Proc.devRef .tc main_v11) (ix2 k n) = W2 m ρ c (Proc.devRef .tc main_arg19) (ix2 k n)
    entry_read
    pointwise
  fgain := fun k => by
    rw [arg3 m ρ c main_arg20, ← W2_args m ρ c main_arg20 (by decide)]
    change StableHlo.after hostOps1 (W2 m ρ c) (Proc.devRef .tc main_v12) (ix2 0 k) = W2 m ρ c (Proc.devRef .tc main_arg20) (ix1 k)
    entry_read
    pointwise
  rows := fun b t k => by
    refine (congrFun (merge_left m ρ c) _).trans ((Value.merged (V1 m ρ) c (weights m ρ c) b t k).trans ?_)
    refine (LastRefIdeal.Ref.row_merge _ _ _ _ _ _ _ _ _ _ _ _ _ _ _ _ _ b t k).trans ?_
    unfold Tail.row
    rw [arg1 m ρ c main_arg0, arg1 m ρ c main_arg2, arg1 m ρ c main_arg3, arg1 m ρ c main_arg4, arg1 m ρ c main_arg5, arg1 m ρ c main_arg6, arg1 m ρ c main_arg7, arg1 m ρ c main_arg8, arg1 m ρ c main_arg10, arg1 m ρ c main_arg11, arg1 m ρ c main_arg12, arg1 m ρ c main_arg13, arg1 m ρ c main_arg14, arg1 m ρ c main_arg15, arg1 m ρ c main_arg16,
      arg3 m ρ c main_arg0, arg3 m ρ c main_arg2, arg3 m ρ c main_arg3, arg3 m ρ c main_arg4, arg3 m ρ c main_arg5, arg3 m ρ c main_arg6, arg3 m ρ c main_arg7, arg3 m ρ c main_arg8, arg3 m ρ c main_arg10, arg3 m ρ c main_arg11, arg3 m ρ c main_arg12, arg3 m ρ c main_arg13, arg3 m ρ c main_arg14, arg3 m ρ c main_arg15, arg3 m ρ c main_arg16]

/-- The whole result array. -/
theorem final (c : Dev nD) : (dat1 (V3 m ρ) c).arrAt 6 cfg1.N = REF m c := by
  refine (Tail.final (V3 m ρ) c (entry m ρ c)).trans ?_
  unfold Tail.REF REF
  rw [arg3 m ρ c main_arg0, arg3 m ρ c main_arg2, arg3 m ρ c main_arg3, arg3 m ρ c main_arg4, arg3 m ρ c main_arg5, arg3 m ρ c main_arg6, arg3 m ρ c main_arg7, arg3 m ρ c main_arg8, arg3 m ρ c main_arg10, arg3 m ρ c main_arg11, arg3 m ρ c main_arg12, arg3 m ρ c main_arg13, arg3 m ρ c main_arg14, arg3 m ρ c main_arg15, arg3 m ρ c main_arg16, arg3 m ρ c main_arg17, arg3 m ρ c main_arg18, arg3 m ρ c main_arg19, arg3 m ρ c main_arg20]

end Cert.LastIdeal.Both
end
-- ==== Proof.Last.Claims.lean ====
module

public import proofs.«01_k».proof.Defs
public import proofs.«01_k».proof.Proof.Last.Both
public import proofs.«01_k».proof.Proof.Gen.LastRefIdeal.Run
public import proofs.«01_k».proof.Proof.Gen.LastRefIdeal.Read
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the last layer's merge and feed-forward calls. -/
namespace Cert.Proof

/-- The last layer's merge and feed-forward calls at ideal numbers end with their reference's result. -/
theorem value_Last : Cert.algebraic_LastIdeal_LastRefIdeal := by
  intro m g m' g' hp hagree
  refine ⟨fun c => Cert.LastIdeal.Both.REF m c, ?_, ?_⟩
  · exact Idealize.ShloMosaic.θ_run_mono (Cert.LastIdeal.Gen.result m g) fun r hr c =>
      ⟨(hr c).1.trans (Cert.LastIdeal.Both.final m g c), (hr c).2⟩
  · refine (θ_run _ _ _).mono (fun r h c => ⟨(h c).1.trans ?_, (h c).2⟩) (Cert.LastRefIdeal.Value.run m' g')
    obtain ⟨h0, h1, h2, h3, h4, h5, h6, h7, h8, h9, h10, h11, h12, h13, h14, h15, h16, h17, h18, h19, h20⟩ := hagree c
    rw [Cert.LastRefIdeal.Read.val_main_v137_eq]
    change _ = Cert.LastIdeal.Both.REF m c
    unfold Cert.LastIdeal.Both.REF
    rw [← h0, ← h2, ← h3, ← h4, ← h5, ← h6, ← h7, ← h8, ← h10, ← h11, ← h12, ← h13, ← h14, ← h15, ← h16, ← h17, ← h18, ← h19, ← h20]
    first | done | rfl

/-- The reference of the two calls terminates, leaves its arguments alone and its counters at zero. -/
theorem frame_LastRef : Cert.quiescent_LastRefIdeal := fun m ρ _ =>
  (θ_run Cert.LastRefIdeal.defs _ _).mono (fun r h => ⟨fun c => (h c).2, Idealize.ShloMosaic.sem_eq_zero_of_no_sems (by decide) r.2⟩)
    (Cert.LastRefIdeal.Value.run (F := Ideal) m ρ)

end Cert.Proof
end
-- ==== Proof.Scan.Pieces.lean ====
module

public import proofs.«01_k».proof.Proof.Gen.KernelIdeal.Frame.RunB

/-! What one grid point of the scan kernel stores, as lists built by recursion.

One grid point handles four chunks of 64 tokens, eight rows of the batch, four heads and two directions.  Everything is
written over the loads of one direction (`Side`) and the state a head starts the grid point with. -/

@[expose] public section

set_option maxRecDepth 16384

noncomputable section

namespace Cert.KernelIdeal.Scan

open Idealize.ShloMosaic Idealize.ShloMosaic.TcCoe Cert.KernelIdeal Cert.KernelIdeal.Gen

variable {F : FTy → Type} [FloatOps F]

/-- The loads of one direction: batch row, position of the chunk in the block, head. -/
structure Side (F : FTy → Type) [FloatOps F] where
  /-- The values. -/
  u : Fin 8 → Fin 4 → Fin 4 → Vec F S1x1x64x128 .bf16
  /-- The keys that read the state. -/
  w : Fin 8 → Fin 4 → Fin 4 → Vec F S1x1x64x128 .bf16
  /-- The queries. -/
  qg : Fin 8 → Fin 4 → Fin 4 → Vec F S1x1x64x128 .bf16
  /-- The keys that write the state. -/
  kd : Fin 8 → Fin 4 → Fin 4 → Vec F S1x1x64x128 .bf16
  /-- The mixing of a chunk's tokens. -/
  mix : Fin 8 → Fin 4 → Fin 4 → Vec F S1x1x64x64 .bf16
  /-- The decay of a chunk. -/
  dec : Fin 8 → Fin 4 → Fin 4 → Vec F S1x1x1x128 .f32

/-- The state against the keys (first 64 rows) and the queries (last 64 rows) of a chunk. -/
def both (w qg : Vec F S1x1x64x128 .bf16) (s : FVec F S128x128 .f32) : FVec F S128x128 .f32 :=
  matmul dot_S128x128_S128x128_S128x128_1_0_0_1_n_n none
    (concatenate S128x128 0 [⟨S64x128, shapeCast S64x128 w shapeCasts_S1x1x64x128_S64x128⟩,
      ⟨S64x128, shapeCast S64x128 qg shapeCasts_S1x1x64x128_S64x128⟩] concatenates_S64x128_S64x128_S128x128_d0)
    (truncf .bf16 s bitsLt_bf16_f32) (constant S128x128 .f32 0x00000000#32)

/-- The values of a chunk less what the state already holds at its keys. -/
def vnew (u : Vec F S1x1x64x128 .bf16) (bo : FVec F S128x128 .f32) : FVec F S64x128 .bf16 :=
  truncf .bf16 (subf (extf .f32 (shapeCast S64x128 u shapeCasts_S1x1x64x128_S64x128) bitsLt_bf16_f32)
    (extractStridedSlice S64x128 ![0, 0] bo slices_S128x128_o0_0_S64x128)) bitsLt_bf16_f32

/-- The outputs of a chunk: the queries against the state and the mixed new values. -/
def outv (mix : Vec F S1x1x64x64 .bf16) (bo : FVec F S128x128 .f32) (v : FVec F S64x128 .bf16) :
    FVec F S64x128 .bf16 :=
  truncf .bf16 (addf (extractStridedSlice S64x128 ![64, 0] bo slices_S128x128_o64_0_S64x128)
    (matmul dot_S64x64_S64x128_S64x128_1_0_0_1_n_n none (shapeCast S64x64 mix shapeCasts_S1x1x64x64_S64x64) v
      (constant S64x128 .f32 0x00000000#32))) bitsLt_bf16_f32

/-- The state after a chunk: decayed, and the new values written at the keys. -/
def nextv (kd : Vec F S1x1x64x128 .bf16) (dec : Vec F S1x1x1x128 .f32) (s : FVec F S128x128 .f32)
    (v : FVec F S64x128 .bf16) : FVec F S128x128 .f32 :=
  addf (mulf s (broadcastTo S128x128 (shapeCast S1x128 dec shapeCasts_S1x1x1x128_S1x128) broadcasts_S1x128_S128x128))
    (matmul dot_S64x128_S64x128_S128x128_0_0_1_1_n_n none (shapeCast S64x128 kd shapeCasts_S1x1x64x128_S64x128) v
      (constant S128x128 .f32 0x00000000#32))

/-- The new values of the chunk at position `q` of head `h` of batch row `b`, from the state `s`. -/
def Side.vnew (I : Side F) (b : Fin 8) (q h : Fin 4) (s : FVec F S128x128 .f32) : FVec F S64x128 .bf16 :=
  Scan.vnew (I.u b q h) (both (I.w b q h) (I.qg b q h) s)

/-- The state after the chunk at position `q`, from the state `s` before it. -/
def Side.next (I : Side F) (b : Fin 8) (q h : Fin 4) (s : FVec F S128x128 .f32) : FVec F S128x128 .f32 :=
  nextv (I.kd b q h) (I.dec b q h) s (I.vnew b q h s)

/-- The outputs of the chunk at position `q`, from the state `s` before it. -/
def Side.out (I : Side F) (b : Fin 8) (q h : Fin 4) (s : FVec F S128x128 .f32) : FVec F S64x128 .bf16 :=
  outv (I.mix b q h) (both (I.w b q h) (I.qg b q h) s) (I.vnew b q h s)

/-- Position `n` of a block in the forward order is `n`, in the backward order `3 - n`. -/
def pos (back : Bool) (n : ℕ) : Fin 4 := if back then ⟨3 - n % 4, by omega⟩ else ⟨n % 4, by omega⟩

/-- The state after `n` chunks of the block. -/
def Side.states (I : Side F) (back : Bool) (b : Fin 8) (h : Fin 4) (s : FVec F S128x128 .f32) :
    ℕ → FVec F S128x128 .f32
  | 0 => s
  | n + 1 => I.next b (pos back n) h (I.states back b h s n)

/-- The place of a head's outputs lies in the block. -/
theorem inb_out (b : Fin 8) (q h : Fin 4) : ∀ a, ![b.val, q.val * 64, h.val * 128] a + S1x64x128.size a ≤ S8x256x512.size a := by
  intro a
  have := b.isLt
  have := q.isLt
  have := h.isLt
  fin_cases a
  · show b.val + 1 ≤ 8; omega
  · show q.val * 64 + 64 ≤ 256; omega
  · show h.val * 128 + 128 ≤ 512; omega

/-- The place of a head's state lies in the scratch. -/
theorem inb_state (b u : Fin 8) : ∀ a, ![b.val, u.val, 0, 0] a + S1x1x128x128.size a ≤ S8x8x128x128.size a := by
  intro a
  have := b.isLt
  have := u.isLt
  fin_cases a
  · show b.val + 1 ≤ 8; omega
  · show u.val + 1 ≤ 8; omega
  · show 0 + 128 ≤ 128; omega
  · show 0 + 128 ≤ 128; omega

/-- The place of a head's chunk lies in the block. -/
theorem inb_in (b : Fin 8) (q h : Fin 4) :
    ∀ a, ![b.val, 0, q.val * 64, h.val * 128] a + S1x1x64x128.size a ≤ S8x1x256x512.size a := by
  intro a
  have := b.isLt
  have := q.isLt
  have := h.isLt
  fin_cases a
  · show b.val + 1 ≤ 8; omega
  · show 0 + 1 ≤ 1; omega
  · show q.val * 64 + 64 ≤ 256; omega
  · show h.val * 128 + 128 ≤ 512; omega

/-- The place of a head's mixing matrix lies in the block. -/
theorem inb_mix (b : Fin 8) (q h : Fin 4) :
    ∀ a, ![b.val, 0, q.val * 64, h.val * 64] a + S1x1x64x64.size a ≤ S8x1x256x256.size a := by
  intro a
  have := b.isLt
  have := q.isLt
  have := h.isLt
  fin_cases a
  · show b.val + 1 ≤ 8; omega
  · show 0 + 1 ≤ 1; omega
  · show q.val * 64 + 64 ≤ 256; omega
  · show h.val * 64 + 64 ≤ 256; omega

/-- The place of a head's decays lies in the block. -/
theorem inb_dec (b : Fin 8) (q : Fin 4) (u : Fin 8) :
    ∀ a, ![b.val, q.val, u.val, 0] a + S1x1x1x128.size a ≤ S8x4x8x128.size a := by
  intro a
  have := b.isLt
  have := q.isLt
  have := u.isLt
  fin_cases a
  · show b.val + 1 ≤ 8; omega
  · show q.val + 1 ≤ 4; omega
  · show u.val + 1 ≤ 8; omega
  · show 0 + 128 ≤ 128; omega

/-- The unit of head `h` in one direction. -/
def unit (back : Bool) (h : Fin 4) : Fin 8 := if back then ⟨4 + h.val, by omega⟩ else ⟨h.val, by omega⟩

/-- One store of outputs: chunk `n / 32`, batch row `n / 4 % 8`, head `n % 4`. -/
def outPiece (I : Side F) (back : Bool) (init : Fin 8 → Fin 8 → FVec F S128x128 .f32) (k : ℕ) (b : Fin 8) (h : Fin 4) :
    View.Piece (Elt F) S8x256x512 .bf16 :=
  ⟨Rect.unit ![b.val, (pos back k).val * 64, h.val * 128] S1x64x128.size (inb_out b (pos back k) h),
    shapeCast S1x64x128 (I.out b (pos back k) h (I.states back b h (init b (unit back h)) k)) shapeCasts_S64x128_S1x64x128⟩

/-- The first `n` stores of outputs, last first. -/
def outPieces (I : Side F) (back : Bool) (init : Fin 8 → Fin 8 → FVec F S128x128 .f32) :
    ℕ → List (View.Piece (Elt F) S8x256x512 .bf16)
  | 0 => []
  | n + 1 => outPiece I back init (n / 32) ⟨n / 4 % 8, Nat.mod_lt _ (by decide)⟩ ⟨n % 4, Nat.mod_lt _ (by decide)⟩
      :: outPieces I back init n

/-- One store of a state after the block: of batch row `b`, direction `back`, head `h`. -/
def statePiece (I J : Side F) (init : Fin 8 → Fin 8 → FVec F S128x128 .f32) (b : Fin 8) (back : Bool) (h : Fin 4) :
    View.Piece (Elt F) S8x8x128x128 .f32 :=
  ⟨Rect.unit ![b.val, (unit back h).val, 0, 0] S1x1x128x128.size (inb_state b (unit back h)),
    shapeCast S1x1x128x128 ((if back then J else I).states back b h (init b (unit back h)) 4) shapeCasts_S128x128_S1x1x128x128⟩

/-- The first `n` stores of states after the block, last first, over the stores `l` before them. -/
def statePieces (I J : Side F) (init : Fin 8 → Fin 8 → FVec F S128x128 .f32) (l : List (View.Piece (Elt F) S8x8x128x128 .f32)) :
    ℕ → List (View.Piece (Elt F) S8x8x128x128 .f32)
  | 0 => l
  | n + 1 => statePiece I J init ⟨n / 8 % 8, Nat.mod_lt _ (by decide)⟩ (Nat.ble 4 (n % 8)) ⟨n % 4, Nat.mod_lt _ (by decide)⟩
      :: statePieces I J init l n

/-- The loads of one direction off six buffers that hold `u`, `w`, `qg`, `kd`, `mix` and `dec`. -/
def side (back : Bool) (au : Memref sig .tc .vmem S8x1x256x512 .bf16) (hu : au.IsWhole) (aw : Memref sig .tc .vmem S8x1x256x512 .bf16)
    (hw : aw.IsWhole) (aq : Memref sig .tc .vmem S8x1x256x512 .bf16) (hq : aq.IsWhole)
    (ak : Memref sig .tc .vmem S8x1x256x512 .bf16) (hk : ak.IsWhole) (am : Memref sig .tc .vmem S8x1x256x256 .bf16)
    (hm : am.IsWhole) (ad : Memref sig .tc .vmem S8x4x8x128 .f32) (hd : ad.IsWhole)
    (u w qg kd : Vec F S8x1x256x512 .bf16) (mix : Vec F S8x1x256x256 .bf16) (dec : Vec F S8x4x8x128 .f32) : Side F where
  u b q h := View.readAt (Elt F) au.view (Rect.unit (s := S8x1x256x512) ![b.val, 0, q.val * 64, h.val * 128] S1x1x64x128.size (inb_in b q h)).toLoadRect (hu.unread u)
  w b q h := View.readAt (Elt F) aw.view (Rect.unit (s := S8x1x256x512) ![b.val, 0, q.val * 64, h.val * 128] S1x1x64x128.size (inb_in b q h)).toLoadRect (hw.unread w)
  qg b q h := View.readAt (Elt F) aq.view (Rect.unit (s := S8x1x256x512) ![b.val, 0, q.val * 64, h.val * 128] S1x1x64x128.size (inb_in b q h)).toLoadRect (hq.unread qg)
  kd b q h := View.readAt (Elt F) ak.view (Rect.unit (s := S8x1x256x512) ![b.val, 0, q.val * 64, h.val * 128] S1x1x64x128.size (inb_in b q h)).toLoadRect (hk.unread kd)
  mix b q h := View.readAt (Elt F) am.view (Rect.unit (s := S8x1x256x256) ![b.val, 0, q.val * 64, h.val * 64] S1x1x64x64.size (inb_mix b q h)).toLoadRect (hm.unread mix)
  dec b q h := View.readAt (Elt F) ad.view (Rect.unit (s := S8x4x8x128) ![b.val, q.val, (unit back h).val, 0] S1x1x1x128.size (inb_dec b q (unit back h))).toLoadRect (hd.unread dec)

/-- The states a grid point starts with, off a buffer that holds `xs`. -/
def initB (a : Memref sig .tc .vmem S8x8x128x128 .f32) (ha : a.IsWhole) (xs : Vec F S8x8x128x128 .f32) (b u : Fin 8) :
    FVec F S128x128 .f32 :=
  shapeCast S128x128 (View.readAt (Elt F) a.view (Rect.unit (s := S8x8x128x128) ![b.val, u.val, 0, 0] S1x1x128x128.size (inb_state b u)).toLoadRect (ha.unread xs))
    shapeCasts_S1x1x128x128_S128x128

/-- The stores before the first grid point's own: all states set to zero. -/
def zeroPieces : List (View.Piece (Elt F) S8x8x128x128 .f32) :=
  [⟨Rect.unit ![0, 0, 0, 0] S8x8x128x128.size inb_S8x8x128x128_S8x8x128x128_0_0_0_0, k0_pay4⟩]

/-- The states the first grid point starts with: those read back from the zero just stored. -/
def initA (a : Memref sig .tc .vmem S8x8x128x128 .f32) (b u : Fin 8) : FVec F S128x128 .f32 :=
  shapeCast S128x128 (a.view.readCov (zeroPieces (F := F)) (Rect.unit (s := S8x8x128x128) ![b.val, u.val, 0, 0] S1x1x128x128.size (inb_state b u)).toLoadRect)
    shapeCasts_S1x1x128x128_S128x128

end Cert.KernelIdeal.Scan
-- ==== Proof.Scan.Spec.lean ====
module

public import Idealize.ShloMosaic.Lib.Pointwise

@[expose] public section
noncomputable section
open scoped BigOperators

/-! The gated delta rule of one head of one batch entry in one direction, over the chunks it takes one after another. -/
namespace Cert.Scan

/-- What a head reads at every step: for each chunk the four operands, the mixing matrix and the decays. -/
structure Head where
  u : ℕ → Fin 64 → Fin 128 → EReal
  w : ℕ → Fin 64 → Fin 128 → EReal
  qg : ℕ → Fin 64 → Fin 128 → EReal
  kd : ℕ → Fin 64 → Fin 128 → EReal
  mix : ℕ → Fin 64 → Fin 64 → EReal
  dec : ℕ → Fin 128 → EReal

/-- The new values: the chunk's values less what the state already holds of them. -/
def vnew (u w : Fin 64 → Fin 128 → EReal) (s : Fin 128 → Fin 128 → EReal) (c : Fin 64) (e : Fin 128) : EReal :=
  u c e - ∑ d, w c d * s d e

/-- The chunk's outputs: what the queries read from the state, and what they read from the chunk itself. -/
def out (qg : Fin 64 → Fin 128 → EReal) (mix : Fin 64 → Fin 64 → EReal) (s : Fin 128 → Fin 128 → EReal) (v : Fin 64 → Fin 128 → EReal)
    (c : Fin 64) (e : Fin 128) : EReal :=
  (∑ d, qg c d * s d e) + ∑ j, mix c j * v j e

/-- The state after the chunk. -/
def next (kd : Fin 64 → Fin 128 → EReal) (dec : Fin 128 → EReal) (s : Fin 128 → Fin 128 → EReal) (v : Fin 64 → Fin 128 → EReal)
    (d e : Fin 128) : EReal :=
  s d e * dec e + ∑ c, kd c d * v c e

/-- The state before step `k`. -/
def Head.state (x : Head) : ℕ → Fin 128 → Fin 128 → EReal
  | 0 => fun _ _ => 0
  | k + 1 => next (x.kd k) (x.dec k) (x.state k) (vnew (x.u k) (x.w k) (x.state k))

/-- The outputs of step `k`. -/
def Head.outputs (x : Head) (k : ℕ) : Fin 64 → Fin 128 → EReal :=
  out (x.qg k) (x.mix k) (x.state k) (vnew (x.u k) (x.w k) (x.state k))

/-- The chunk that direction `p` takes at step `k`: direction 0 begins with the context's chunks 128 to 131, direction 1 goes backwards. -/
def chunk (p : Fin 2) (k : ℕ) : Fin 132 :=
  if p = 0 then ⟨(k + 128) % 132, Nat.mod_lt _ (by decide)⟩ else ⟨131 - k, by omega⟩

/-- The token at place `c` of chunk `n`. -/
def token (n : Fin 132) (c : Fin 64) : Fin 8448 := ⟨n.val * 64 + c.val, by omega⟩

/-- Column `d` of head `h` in an array of four heads side by side. -/
def col (h : Fin 4) (d : Fin 128) : Fin 512 := ⟨h.val * 128 + d.val, by omega⟩

/-- Column `j` of head `h`'s mixing matrix. -/
def mixCol (h : Fin 4) (j : Fin 64) : Fin 256 := ⟨h.val * 64 + j.val, by omega⟩

/-- Row of direction `p` and head `h` among the decays. -/
def decRow (p : Fin 2) (h : Fin 4) : Fin 8 := ⟨p.val * 4 + h.val, by omega⟩

/-- Direction `p`, batch entry `b`, head `h` of the arrays. -/
def head (u w qg kd : Fin 8 → Fin 2 → Fin 8448 → Fin 512 → EReal) (mix : Fin 8 → Fin 2 → Fin 8448 → Fin 256 → EReal)
    (dec : Fin 8 → Fin 132 → Fin 8 → Fin 128 → EReal) (p : Fin 2) (b : Fin 8) (h : Fin 4) : Head where
  u k c d := u b p (token (chunk p k) c) (col h d)
  w k c d := w b p (token (chunk p k) c) (col h d)
  qg k c d := qg b p (token (chunk p k) c) (col h d)
  kd k c d := kd b p (token (chunk p k) c) (col h d)
  mix k c j := mix b p (token (chunk p k) c) (mixCol h j)
  dec k d := dec b (chunk p k) (decRow p h) d

end Cert.Scan
end
-- ==== Proof.Scan.KerStep.lean ====
module

public import proofs.«01_k».proof.Proof.Scan.Pieces
public import proofs.«01_k».proof.Proof.Scan.Spec
public import Idealize.ShloMosaic.Lib.Pointwise
public import Idealize.ShloMosaic.Lib.Pipeline.ValueKit

@[expose] public section
set_option maxRecDepth 16384
noncomputable section
open Idealize.ShloMosaic Idealize.ShloMosaic.TcCoe
open scoped BigOperators

/-! One chunk of the kernel at ideal numbers is one step of the gated delta rule. -/
namespace Cert.KernelIdeal.Scan
open Cert.KernelIdeal Cert.KernelIdeal.Gen

/-- The kernel's new values, at an index. -/
theorem vnew_at (u w qg : Vec Ideal S1x1x64x128 .bf16) (s : FVec Ideal S128x128 .f32) (c : Fin 64) (e : Fin 128) :
    vnew u (both w qg s) (ix2 c e)
      = Cert.Scan.vnew (fun c d => u (ix4 0 0 c d)) (fun c d => w (ix4 0 0 c d)) (fun d e => s (ix2 d e)) c e := by
  have hc := c.isLt
  pointwise [vnew, both, Cert.Scan.vnew]

/-- The kernel's outputs, at an index. -/
theorem outv_at (mix : Vec Ideal S1x1x64x64 .bf16) (w qg : Vec Ideal S1x1x64x128 .bf16) (s : FVec Ideal S128x128 .f32)
    (v : FVec Ideal S64x128 .bf16) (c : Fin 64) (e : Fin 128) :
    outv mix (both w qg s) v (ix2 c e)
      = Cert.Scan.out (fun c d => qg (ix4 0 0 c d)) (fun c j => mix (ix4 0 0 c j)) (fun d e => s (ix2 d e)) (fun c e => v (ix2 c e)) c e := by
  have hc := c.isLt
  pointwise [outv, both, Cert.Scan.out]

/-- The kernel's next state, at an index. -/
theorem nextv_at (kd : Vec Ideal S1x1x64x128 .bf16) (dec : Vec Ideal S1x1x1x128 .f32) (s : FVec Ideal S128x128 .f32)
    (v : FVec Ideal S64x128 .bf16) (d e : Fin 128) :
    nextv kd dec s v (ix2 d e)
      = Cert.Scan.next (fun c d => kd (ix4 0 0 c d)) (fun d => dec (ix4 0 0 0 d)) (fun d e => s (ix2 d e)) (fun c e => v (ix2 c e)) d e := by
  pointwise [nextv, Cert.Scan.next]

/-- One direction's loads hold what the heads `H` read at the four steps from `k` on. -/
structure SideHolds (I : Side Ideal) (back : Bool) (H : Fin 8 → Fin 4 → Cert.Scan.Head) (k : ℕ) : Prop where
  u : ∀ b h n, n < 4 → ∀ c d, I.u b (pos back n) h (ix4 0 0 c d) = (H b h).u (k + n) c d
  w : ∀ b h n, n < 4 → ∀ c d, I.w b (pos back n) h (ix4 0 0 c d) = (H b h).w (k + n) c d
  qg : ∀ b h n, n < 4 → ∀ c d, I.qg b (pos back n) h (ix4 0 0 c d) = (H b h).qg (k + n) c d
  kd : ∀ b h n, n < 4 → ∀ c d, I.kd b (pos back n) h (ix4 0 0 c d) = (H b h).kd (k + n) c d
  mix : ∀ b h n, n < 4 → ∀ c j, I.mix b (pos back n) h (ix4 0 0 c j) = (H b h).mix (k + n) c j
  dec : ∀ b h n, n < 4 → ∀ d, I.dec b (pos back n) h (ix4 0 0 0 d) = (H b h).dec (k + n) d

variable {I : Side Ideal} {back : Bool} {H : Fin 8 → Fin 4 → Cert.Scan.Head} {k : ℕ}

/-- The new values of step `k + n`. -/
theorem SideHolds.vnew_eq (X : SideHolds I back H k) (b : Fin 8) (h : Fin 4) (n : ℕ) (hn : n < 4) (s : FVec Ideal S128x128 .f32)
    (hs : ∀ d e, s (ix2 d e) = (H b h).state (k + n) d e) (c : Fin 64) (e : Fin 128) :
    I.vnew b (pos back n) h s (ix2 c e)
      = Cert.Scan.vnew ((H b h).u (k + n)) ((H b h).w (k + n)) ((H b h).state (k + n)) c e := by
  unfold Side.vnew
  rw [vnew_at]
  simp only [X.u b h n hn, X.w b h n hn, hs]

/-- The outputs of step `k + n`. -/
theorem SideHolds.out_eq (X : SideHolds I back H k) (b : Fin 8) (h : Fin 4) (n : ℕ) (hn : n < 4) (s : FVec Ideal S128x128 .f32)
    (hs : ∀ d e, s (ix2 d e) = (H b h).state (k + n) d e) (c : Fin 64) (e : Fin 128) :
    I.out b (pos back n) h s (ix2 c e) = (H b h).outputs (k + n) c e := by
  unfold Side.out
  rw [outv_at]
  simp only [X.qg b h n hn, X.mix b h n hn, hs, X.vnew_eq b h n hn s hs]
  rfl

/-- The state after step `k + n`. -/
theorem SideHolds.next_eq (X : SideHolds I back H k) (b : Fin 8) (h : Fin 4) (n : ℕ) (hn : n < 4) (s : FVec Ideal S128x128 .f32)
    (hs : ∀ d e, s (ix2 d e) = (H b h).state (k + n) d e) (d e : Fin 128) :
    I.next b (pos back n) h s (ix2 d e) = (H b h).state (k + n + 1) d e := by
  unfold Side.next
  rw [nextv_at]
  simp only [X.kd b h n hn, X.dec b h n hn, hs, X.vnew_eq b h n hn s hs]
  rfl

/-- The state after `n` chunks of the block. -/
theorem SideHolds.states_eq (X : SideHolds I back H k) (b : Fin 8) (h : Fin 4) (s : FVec Ideal S128x128 .f32)
    (hs : ∀ d e, s (ix2 d e) = (H b h).state k d e) :
    ∀ n, n ≤ 4 → ∀ d e, I.states back b h s n (ix2 d e) = (H b h).state (k + n) d e
  | 0, _ => hs
  | n + 1, hn => X.next_eq b h n (by omega) _ (X.states_eq b h s hs n (by omega))

/-- The block of outputs that the four steps from `k` on fill. -/
def block (back : Bool) (H : Fin 8 → Fin 4 → Cert.Scan.Head) (k : ℕ) (y : S8x256x512.Idx) : EReal :=
  (H (y 0) ⟨(y 2).val / 128, by have := (y 2).isLt; change _ < 512 at this; omega⟩).outputs
    (k + if back then 3 - (y 1).val / 64 else (y 1).val / 64) ⟨(y 1).val % 64, Nat.mod_lt _ (by decide)⟩ ⟨(y 2).val % 128, Nat.mod_lt _ (by decide)⟩

/-- The states of all heads before step `k`. -/
def stateBlock (H : Fin 2 → Fin 8 → Fin 4 → Cert.Scan.Head) (k : ℕ) (y : S8x8x128x128.Idx) : EReal :=
  (H ⟨(y 1).val / 4, by have := (y 1).isLt; change _ < 8 at this; omega⟩ (y 0) ⟨(y 1).val % 4, Nat.mod_lt _ (by decide)⟩).state k (y 2) (y 3)

/-- Outputs of the same head, step, row and column are the same. -/
theorem outputs_congr (H : Fin 8 → Fin 4 → Cert.Scan.Head) {b b' : Fin 8} {h h' : Fin 4} {k k' : ℕ} {c c' : Fin 64} {e e' : Fin 128}
    (hb : b = b') (hh : h = h') (hk : k = k') (hc : c = c') (he : e = e') : (H b h).outputs k c e = (H b' h').outputs k' c' e' := by
  subst hb hh hk hc he; rfl

/-- States of the same head, step, row and column are the same. -/
theorem state_congr (H : Fin 2 → Fin 8 → Fin 4 → Cert.Scan.Head) {p p' : Fin 2} {b b' : Fin 8} {h h' : Fin 4} {k k' : ℕ}
    {d d' e e' : Fin 128} (hp : p = p') (hb : b = b') (hh : h = h') (hk : k = k') (hd : d = d') (he : e = e') :
    (H p b h).state k d e = (H p' b' h').state k' d' e' := by
  subst hp hb hh hk hd he; rfl

/-- One store of outputs holds its part of the block. -/
theorem outPiece_eq (X : SideHolds I back H k) (init : Fin 8 → Fin 8 → FVec Ideal S128x128 .f32)
    (hi : ∀ b h d e, init b (unit back h) (ix2 d e) = (H b h).state k d e) (n : ℕ) (hn : n < 4) (b : Fin 8) (h : Fin 4) :
    ∀ x, (outPiece I back init n b h).2 x = block back H k ((outPiece I back init n b h).1.emb x) := by
  intro x
  show shapeCast S1x64x128 (I.out b (pos back n) h (I.states back b h (init b (unit back h)) n)) shapeCasts_S64x128_S1x64x128 x = _
  have hx0 : (x 0).val < 1 := (x 0).isLt
  have hx1 : (x 1).val < 64 := (x 1).isLt
  have hx2 : (x 2).val < 128 := (x 2).isLt
  have hh := h.isLt
  have hb := b.isLt
  have e0 : shapeCast S1x64x128 (I.out b (pos back n) h (I.states back b h (init b (unit back h)) n)) shapeCasts_S64x128_S1x64x128 x
      = I.out b (pos back n) h (I.states back b h (init b (unit back h)) n) (ix2 (x 1) (x 2)) := by pointwise []
  refine e0.trans ((X.out_eq b h n hn _ (X.states_eq b h _ (hi b h) n (by omega)) _ _).trans ?_)
  have i0 : ((outPiece I back init n b h).1.emb x 0).val = b.val + 1 * (x 0).val := rfl
  have i1 : ((outPiece I back init n b h).1.emb x 1).val = (pos back n).val * 64 + 1 * (x 1).val := rfl
  have i2 : ((outPiece I back init n b h).1.emb x 2).val = h.val * 128 + 1 * (x 2).val := rfl
  have hp : (pos back n).val = if back then 3 - n else n := by
    unfold pos
    cases back
    · show n % 4 = n; omega
    · show 3 - n % 4 = 3 - n; omega
  refine outputs_congr H (Fin.ext ?_) (Fin.ext ?_) ?_ (Fin.ext ?_) (Fin.ext ?_)
  · rw [i0]; omega
  · show h.val = _ / 128; rw [i2]; omega
  · rw [i1, hp]
    cases back
    · show k + n = k + (n * 64 + 1 * (x 1).val) / 64; omega
    · show k + n = k + (3 - ((3 - n) * 64 + 1 * (x 1).val) / 64); omega
  · show (x 1).val = _ % 64; rw [i1]; omega
  · show (x 2).val = _ % 128; rw [i2]; omega

/-- All the stores of outputs do. -/
theorem outPieces_eq (X : SideHolds I back H k) (init : Fin 8 → Fin 8 → FVec Ideal S128x128 .f32)
    (hi : ∀ b h d e, init b (unit back h) (ix2 d e) = (H b h).state k d e) :
    ∀ n, n ≤ 128 → ∀ p ∈ outPieces I back init n, ∀ x, p.2 x = block back H k (p.1.emb x)
  | 0, _ => fun p hp => absurd hp List.not_mem_nil
  | n + 1, hn => fun p hp => by
    rcases List.mem_cons.1 hp with rfl | hp
    · exact outPiece_eq X init hi _ (by omega) _ _
    · exact outPieces_eq X init hi n (by omega) p hp

variable {J : Side Ideal} {G : Fin 2 → Fin 8 → Fin 4 → Cert.Scan.Head}

/-- One store of a state holds its part of the states after the block. -/
theorem statePiece_eq (X : SideHolds I false (G 0) k) (Y : SideHolds J true (G 1) k) (init : Fin 8 → Fin 8 → FVec Ideal S128x128 .f32)
    (hi : ∀ b h d e, init b (unit false h) (ix2 d e) = (G 0 b h).state k d e)
    (hj : ∀ b h d e, init b (unit true h) (ix2 d e) = (G 1 b h).state k d e) (b : Fin 8) (back : Bool) (h : Fin 4) :
    ∀ x, (statePiece I J init b back h).2 x = stateBlock G (k + 4) ((statePiece I J init b back h).1.emb x) := by
  intro x
  show shapeCast S1x1x128x128 ((if back then J else I).states back b h (init b (unit back h)) 4) shapeCasts_S128x128_S1x1x128x128 x = _
  have hx0 : (x 0).val < 1 := (x 0).isLt
  have hx1 : (x 1).val < 1 := (x 1).isLt
  have hh := h.isLt
  have e0 : shapeCast S1x1x128x128 ((if back then J else I).states back b h (init b (unit back h)) 4) shapeCasts_S128x128_S1x1x128x128 x
      = (if back then J else I).states back b h (init b (unit back h)) 4 (ix2 (x 2) (x 3)) := by pointwise []
  have i0 : ((statePiece I J init b back h).1.emb x 0).val = b.val + 1 * (x 0).val := rfl
  have i1 : ((statePiece I J init b back h).1.emb x 1).val = (unit back h).val + 1 * (x 1).val := rfl
  have i2 : ((statePiece I J init b back h).1.emb x 2).val = 0 + 1 * (x 2).val := rfl
  have i3 : ((statePiece I J init b back h).1.emb x 3).val = 0 + 1 * (x 3).val := rfl
  have e1 : (if back then J else I).states back b h (init b (unit back h)) 4 (ix2 (x 2) (x 3))
      = (G (if back then 1 else 0) b h).state (k + 4) (x 2) (x 3) := by
    cases back
    · exact X.states_eq b h _ (hi b h) 4 (by omega) _ _
    · exact Y.states_eq b h _ (hj b h) 4 (by omega) _ _
  refine e0.trans (e1.trans ?_)
  refine state_congr G (Fin.ext ?_) (Fin.ext ?_) (Fin.ext ?_) rfl (Fin.ext ?_) (Fin.ext ?_)
  · show _ = _ / 4
    rw [i1]
    cases back
    · show 0 = (h.val + 1 * (x 1).val) / 4; omega
    · show 1 = (4 + h.val + 1 * (x 1).val) / 4; omega
  · rw [i0]; omega
  · show _ = _ % 4
    rw [i1]
    cases back
    · show h.val = (h.val + 1 * (x 1).val) % 4; omega
    · show h.val = (4 + h.val + 1 * (x 1).val) % 4; omega
  · rw [i2]; omega
  · rw [i3]; omega

/-- All the stores of states do. -/
theorem statePieces_eq (X : SideHolds I false (G 0) k) (Y : SideHolds J true (G 1) k) (init : Fin 8 → Fin 8 → FVec Ideal S128x128 .f32)
    (hi : ∀ b h d e, init b (unit false h) (ix2 d e) = (G 0 b h).state k d e)
    (hj : ∀ b h d e, init b (unit true h) (ix2 d e) = (G 1 b h).state k d e) :
    ∀ n, ∀ p ∈ statePieces I J init [] n, ∀ x, p.2 x = stateBlock G (k + 4) (p.1.emb x)
  | 0 => fun p hp => absurd hp List.not_mem_nil
  | n + 1 => fun p hp => by
    rcases List.mem_cons.1 hp with rfl | hp
    · exact statePiece_eq X Y init hi hj _ _ _
    · exact statePieces_eq X Y init hi hj n p hp

section
variable {F : FTy → Type} [FloatOps F] {I J : Side F}

/-- The stores of states over earlier stores are theirs, then the earlier ones. -/
theorem statePieces_append (init : Fin 8 → Fin 8 → FVec F S128x128 .f32) (l : List (View.Piece (Elt F) S8x8x128x128 .f32)) :
    ∀ n, statePieces I J init l n = statePieces I J init [] n ++ l
  | 0 => rfl
  | n + 1 => congrArg (_ :: ·) (statePieces_append init l n)

/-- The store number `i` is among the first `n`. -/
theorem mem_statePieces (init : Fin 8 → Fin 8 → FVec F S128x128 .f32) (l : List (View.Piece (Elt F) S8x8x128x128 .f32)) (i : ℕ) :
    ∀ n, i < n → statePiece I J init ⟨i / 8 % 8, Nat.mod_lt _ (by decide)⟩ (Nat.ble 4 (i % 8)) ⟨i % 4, Nat.mod_lt _ (by decide)⟩
      ∈ statePieces I J init l n
  | 0, h => absurd h (Nat.not_lt_zero _)
  | n + 1, h => by
    rcases Nat.lt_succ_iff_lt_or_eq.1 h with h | rfl
    · exact List.mem_cons_of_mem _ (mem_statePieces init l i n h)
    · exact List.mem_cons_self

/-- An index that a store's box takes some index to is one of its indices. -/
theorem mem_of_emb {s : Shape} {e : EltTy} (p : View.Piece (Elt F) s e) (x : p.1.shape.Idx) (y : s.Idx) (h : p.1.emb x = y) : y ∈ p.1.set :=
  h ▸ LoadRect.idx_mem _ x

/-- The stores of states cover the buffer. -/
theorem statePieces_cover (init : Fin 8 → Fin 8 → FVec F S128x128 .f32) (y : S8x8x128x128.Idx) (n : ℕ) (hn : n = 64) :
    ∃ p ∈ statePieces I J init [] n, y ∈ p.1.set := by
  have h0 : (y 0).val < 8 := (y 0).isLt
  have h1 : (y 1).val < 8 := (y 1).isLt
  refine ⟨_, mem_statePieces init [] ((y 0).val * 8 + (y 1).val) n (by omega), mem_of_emb _ (ix4 0 0 (y 2) (y 3) : S1x1x128x128.Idx) _ ?_⟩
  refine funext fun a => Fin.ext ?_
  fin_cases a
  · show ((y 0).val * 8 + (y 1).val) / 8 % 8 + 1 * 0 = (y 0).val; omega
  · show (unit (Nat.ble 4 (((y 0).val * 8 + (y 1).val) % 8)) ⟨((y 0).val * 8 + (y 1).val) % 4, _⟩).val + 1 * 0 = (y 1).val
    unfold unit
    by_cases h : 4 ≤ (y 1).val
    · rw [if_pos (Nat.ble_eq_true_of_le (by omega))]
      show 4 + _ % 4 + 1 * 0 = _
      omega
    · rw [if_neg (fun q => h (by have := Nat.le_of_ble_eq_true q; omega))]
      show _ % 4 + 1 * 0 = _
      omega
  · show 0 + 1 * (y 2).val = (y 2).val; omega
  · show 0 + 1 * (y 3).val = (y 3).val; omega
end

end Cert.KernelIdeal.Scan
end
-- ==== Proof.Scan.RunA.lean ====
module

public import proofs.«01_k».proof.Proof.Scan.Pieces

/-! The stores of the scan kernel's body at the first grid point are the lists built by recursion. -/

@[expose] public section

set_option maxRecDepth 100000

noncomputable section

namespace Cert.KernelIdeal.Scan

open Idealize.ShloMosaic Idealize.ShloMosaic.TcCoe Idealize.ShloMosaic.Tactic Cert.KernelIdeal Cert.KernelIdeal.Gen

variable {F : FTy → Type} [FloatOps F]

variable (c : Dev nD) (i : grid0.Coords) (arg2 : Memref sig .tc .vmem S8x1x256x512 .bf16) (harg2 : arg2.IsWhole) (arg3 : Memref sig .tc .vmem S8x1x256x512 .bf16) (harg3 : arg3.IsWhole) (arg4 : Memref sig .tc .vmem S8x1x256x512 .bf16) (harg4 : arg4.IsWhole) (arg5 : Memref sig .tc .vmem S8x1x256x512 .bf16) (harg5 : arg5.IsWhole) (arg6 : Memref sig .tc .vmem S8x1x256x256 .bf16) (harg6 : arg6.IsWhole) (arg7 : Memref sig .tc .vmem S8x4x8x128 .f32) (harg7 : arg7.IsWhole) (arg8 : Memref sig .tc .vmem S8x1x256x512 .bf16) (harg8 : arg8.IsWhole) (arg9 : Memref sig .tc .vmem S8x1x256x512 .bf16) (harg9 : arg9.IsWhole) (arg10 : Memref sig .tc .vmem S8x1x256x512 .bf16) (harg10 : arg10.IsWhole) (arg11 : Memref sig .tc .vmem S8x1x256x512 .bf16) (harg11 : arg11.IsWhole) (arg12 : Memref sig .tc .vmem S8x1x256x256 .bf16) (harg12 : arg12.IsWhole) (arg13 : Memref sig .tc .vmem S8x4x8x128 .f32) (harg13 : arg13.IsWhole) (arg14 : Memref sig .tc .vmem S8x256x512 .bf16) (harg14 : arg14.IsWhole) (arg15 : Memref sig .tc .vmem S8x256x512 .bf16) (harg15 : arg15.IsWhole) (arg16 : Memref sig .tc .vmem S8x8x128x128 .f32) (harg16 : arg16.IsWhole)
  (x0 : Vec F S8x1x256x512 .bf16) (x1 : Vec F S8x1x256x512 .bf16) (x2 : Vec F S8x1x256x512 .bf16) (x3 : Vec F S8x1x256x512 .bf16) (x4 : Vec F S8x1x256x256 .bf16) (x5 : Vec F S8x4x8x128 .f32) (x6 : Vec F S8x1x256x512 .bf16) (x7 : Vec F S8x1x256x512 .bf16) (x8 : Vec F S8x1x256x512 .bf16) (x9 : Vec F S8x1x256x512 .bf16) (x10 : Vec F S8x1x256x256 .bf16) (x11 : Vec F S8x4x8x128 .f32)

set_option maxHeartbeats 2000000 in
/-- The forward outputs. -/
theorem fwd_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1
    = outPieces (side false arg2 harg2 arg3 harg3 arg4 harg4 arg5 harg5 arg6 harg6 arg7 harg7 x0 x1 x2 x3 x4 x5) false (initA arg16) 128 := by
  sl_kernel_rfl

set_option maxHeartbeats 2000000 in
/-- The backward outputs. -/
theorem bwd_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1
    = outPieces (side true arg8 harg8 arg9 harg9 arg10 harg10 arg11 harg11 arg12 harg12 arg13 harg13 x6 x7 x8 x9 x10 x11) true (initA arg16) 128 := by
  sl_kernel_rfl

set_option maxHeartbeats 2000000 in
/-- The states after the block. -/
theorem states_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1
    = statePieces (side false arg2 harg2 arg3 harg3 arg4 harg4 arg5 harg5 arg6 harg6 arg7 harg7 x0 x1 x2 x3 x4 x5) (side true arg8 harg8 arg9 harg9 arg10 harg10 arg11 harg11 arg12 harg12 arg13 harg13 x6 x7 x8 x9 x10 x11) (initA arg16) zeroPieces 64 := by
  sl_kernel_rfl

end Cert.KernelIdeal.Scan
-- ==== Proof.Scan.RunB.lean ====
module

public import proofs.«01_k».proof.Proof.Scan.Pieces

/-! The stores of the scan kernel's body at a later grid point are the lists built by recursion. -/

@[expose] public section

set_option maxRecDepth 100000

noncomputable section

namespace Cert.KernelIdeal.Scan

open Idealize.ShloMosaic Idealize.ShloMosaic.TcCoe Idealize.ShloMosaic.Tactic Cert.KernelIdeal Cert.KernelIdeal.Gen

variable {F : FTy → Type} [FloatOps F]

variable (c : Dev nD) (i : grid0.Coords) (arg2 : Memref sig .tc .vmem S8x1x256x512 .bf16) (harg2 : arg2.IsWhole) (arg3 : Memref sig .tc .vmem S8x1x256x512 .bf16) (harg3 : arg3.IsWhole) (arg4 : Memref sig .tc .vmem S8x1x256x512 .bf16) (harg4 : arg4.IsWhole) (arg5 : Memref sig .tc .vmem S8x1x256x512 .bf16) (harg5 : arg5.IsWhole) (arg6 : Memref sig .tc .vmem S8x1x256x256 .bf16) (harg6 : arg6.IsWhole) (arg7 : Memref sig .tc .vmem S8x4x8x128 .f32) (harg7 : arg7.IsWhole) (arg8 : Memref sig .tc .vmem S8x1x256x512 .bf16) (harg8 : arg8.IsWhole) (arg9 : Memref sig .tc .vmem S8x1x256x512 .bf16) (harg9 : arg9.IsWhole) (arg10 : Memref sig .tc .vmem S8x1x256x512 .bf16) (harg10 : arg10.IsWhole) (arg11 : Memref sig .tc .vmem S8x1x256x512 .bf16) (harg11 : arg11.IsWhole) (arg12 : Memref sig .tc .vmem S8x1x256x256 .bf16) (harg12 : arg12.IsWhole) (arg13 : Memref sig .tc .vmem S8x4x8x128 .f32) (harg13 : arg13.IsWhole) (arg14 : Memref sig .tc .vmem S8x256x512 .bf16) (harg14 : arg14.IsWhole) (arg15 : Memref sig .tc .vmem S8x256x512 .bf16) (harg15 : arg15.IsWhole) (arg16 : Memref sig .tc .vmem S8x8x128x128 .f32) (harg16 : arg16.IsWhole)
  (x0 : Vec F S8x1x256x512 .bf16) (x1 : Vec F S8x1x256x512 .bf16) (x2 : Vec F S8x1x256x512 .bf16) (x3 : Vec F S8x1x256x512 .bf16) (x4 : Vec F S8x1x256x256 .bf16) (x5 : Vec F S8x4x8x128 .f32) (x6 : Vec F S8x1x256x512 .bf16) (x7 : Vec F S8x1x256x512 .bf16) (x8 : Vec F S8x1x256x512 .bf16) (x9 : Vec F S8x1x256x512 .bf16) (x10 : Vec F S8x1x256x256 .bf16) (x11 : Vec F S8x4x8x128 .f32) (xs0 : Vec F S8x8x128x128 .f32)

set_option maxHeartbeats 2000000 in
/-- The forward outputs. -/
theorem fwd_B (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1
    = outPieces (side false arg2 harg2 arg3 harg3 arg4 harg4 arg5 harg5 arg6 harg6 arg7 harg7 x0 x1 x2 x3 x4 x5) false (initB arg16 harg16 xs0) 128 := by
  sl_kernel_rfl

set_option maxHeartbeats 2000000 in
/-- The backward outputs. -/
theorem bwd_B (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1
    = outPieces (side true arg8 harg8 arg9 harg9 arg10 harg10 arg11 harg11 arg12 harg12 arg13 harg13 x6 x7 x8 x9 x10 x11) true (initB arg16 harg16 xs0) 128 := by
  sl_kernel_rfl

set_option maxHeartbeats 2000000 in
/-- The states after the block. -/
theorem states_B (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.2.1
    = statePieces (side false arg2 harg2 arg3 harg3 arg4 harg4 arg5 harg5 arg6 harg6 arg7 harg7 x0 x1 x2 x3 x4 x5) (side true arg8 harg8 arg9 harg9 arg10 harg10 arg11 harg11 arg12 harg12 arg13 harg13 x6 x7 x8 x9 x10 x11) (initB arg16 harg16 xs0) [] 64 := by
  sl_kernel_rfl

end Cert.KernelIdeal.Scan
-- ==== Proof.Scan.KerPoint.lean ====
module

public import proofs.«01_k».proof.Proof.Scan.KerStep
public import proofs.«01_k».proof.Proof.Scan.RunA
public import proofs.«01_k».proof.Proof.Scan.RunB
public import proofs.«01_k».proof.Proof.Gen.KernelIdeal.Frame
public import Idealize.ShloMosaic.Lib.Pipeline.ReadBack
public import Idealize.ShloMosaic.Lib.WholeRead

@[expose] public section
set_option maxRecDepth 16384
noncomputable section
open Idealize.ShloMosaic Idealize.ShloMosaic.TcCoe
open scoped BigOperators

/-! What a grid point of the kernel leaves in its outputs and in the states, given what the heads read there and the states before it. -/
namespace Cert.KernelIdeal.Scan
open Cert.KernelIdeal Cert.KernelIdeal.Gen

/-- A state without its two unit axes. -/
theorem flat_at (v : FVec Ideal S1x1x128x128 .f32) (d e : Fin 128) :
    shapeCast S128x128 v shapeCasts_S1x1x128x128_S128x128 (ix2 d e) = v (ix4 0 0 d e) := by
  pointwise []

/-- The stored zero. -/
theorem zero_at (y) : k0_pay4 (F := Ideal) y = 0 := by
  pointwise [k0_pay4]

/-- The states that a later grid point starts with, read from a buffer that holds the heads' states. -/
theorem initB_eq (a : Memref sig .tc .vmem S8x8x128x128 .f32) (ha : a.IsWhole) (xs : Vec Ideal S8x8x128x128 .f32)
    (G : Fin 2 → Fin 8 → Fin 4 → Cert.Scan.Head) (k : ℕ) (hs : ∀ y, xs y = stateBlock G k y) :
    (∀ b h d e, initB a ha xs b (unit false h) (ix2 d e) = (G 0 b h).state k d e)
      ∧ ∀ b h d e, initB a ha xs b (unit true h) (ix2 d e) = (G 1 b h).state k d e := by
  have key : ∀ b u d e, initB a ha xs b u (ix2 d e) = xs (ix4 b u d e) := by
    intro b u d e
    unfold initB
    refine (flat_at _ d e).trans ?_
    refine (Memref.IsWhole.readAt_unread ha xs _ _).trans (congrArg xs (funext fun x => Fin.ext ?_))
    fin_cases x
    · show b.val + 1 * 0 = b.val; omega
    · show u.val + 1 * 0 = u.val; omega
    · show 0 + 1 * d.val = d.val; omega
    · show 0 + 1 * e.val = e.val; omega
  constructor
  · intro b h d e
    rw [key, hs]
    exact state_congr G (Fin.ext (by show h.val / 4 = 0; omega)) rfl (Fin.ext (by show h.val % 4 = h.val; omega)) rfl rfl rfl
  · intro b h d e
    rw [key, hs]
    exact state_congr G (Fin.ext (by show (4 + h.val) / 4 = 1; omega)) rfl (Fin.ext (by show (4 + h.val) % 4 = h.val; omega)) rfl rfl rfl

/-- The states that the first grid point starts with are zero. -/
theorem initA_eq (a : Memref sig .tc .vmem S8x8x128x128 .f32) (G : Fin 2 → Fin 8 → Fin 4 → Cert.Scan.Head) (k : ℕ) (hk : k = 0) :
    (∀ b h d e, initA (F := Ideal) a b (unit false h) (ix2 d e) = (G 0 b h).state k d e)
      ∧ ∀ b h d e, initA (F := Ideal) a b (unit true h) (ix2 d e) = (G 1 b h).state k d e := by
  have key : ∀ b u d e, initA (F := Ideal) a b u (ix2 d e) = 0 := by
    intro b u d e
    refine (flat_at _ d e).trans ?_
    unfold zeroPieces
    rw [View.readCov_fill _ _ _ _ _ (by intro x; fin_cases x <;> rfl)]
    exact zero_at _
  subst hk
  exact ⟨fun b h d e => key b _ d e, fun b h d e => key b _ d e⟩

variable (c : Dev nD) (i : grid0.Coords) (arg2 : Memref sig .tc .vmem S8x1x256x512 .bf16) (harg2 : arg2.IsWhole) (arg3 : Memref sig .tc .vmem S8x1x256x512 .bf16) (harg3 : arg3.IsWhole) (arg4 : Memref sig .tc .vmem S8x1x256x512 .bf16) (harg4 : arg4.IsWhole) (arg5 : Memref sig .tc .vmem S8x1x256x512 .bf16) (harg5 : arg5.IsWhole) (arg6 : Memref sig .tc .vmem S8x1x256x256 .bf16) (harg6 : arg6.IsWhole) (arg7 : Memref sig .tc .vmem S8x4x8x128 .f32) (harg7 : arg7.IsWhole) (arg8 : Memref sig .tc .vmem S8x1x256x512 .bf16) (harg8 : arg8.IsWhole) (arg9 : Memref sig .tc .vmem S8x1x256x512 .bf16) (harg9 : arg9.IsWhole) (arg10 : Memref sig .tc .vmem S8x1x256x512 .bf16) (harg10 : arg10.IsWhole) (arg11 : Memref sig .tc .vmem S8x1x256x512 .bf16) (harg11 : arg11.IsWhole) (arg12 : Memref sig .tc .vmem S8x1x256x256 .bf16) (harg12 : arg12.IsWhole) (arg13 : Memref sig .tc .vmem S8x4x8x128 .f32) (harg13 : arg13.IsWhole) (arg14 : Memref sig .tc .vmem S8x256x512 .bf16) (harg14 : arg14.IsWhole) (arg15 : Memref sig .tc .vmem S8x256x512 .bf16) (harg15 : arg15.IsWhole) (arg16 : Memref sig .tc .vmem S8x8x128x128 .f32) (harg16 : arg16.IsWhole)
  (x0 : Vec Ideal S8x1x256x512 .bf16) (x1 : Vec Ideal S8x1x256x512 .bf16) (x2 : Vec Ideal S8x1x256x512 .bf16) (x3 : Vec Ideal S8x1x256x512 .bf16) (x4 : Vec Ideal S8x1x256x256 .bf16) (x5 : Vec Ideal S8x4x8x128 .f32) (x6 : Vec Ideal S8x1x256x512 .bf16) (x7 : Vec Ideal S8x1x256x512 .bf16) (x8 : Vec Ideal S8x1x256x512 .bf16) (x9 : Vec Ideal S8x1x256x512 .bf16) (x10 : Vec Ideal S8x1x256x256 .bf16) (x11 : Vec Ideal S8x4x8x128 .f32)
  {G : Fin 2 → Fin 8 → Fin 4 → Cert.Scan.Head} {k : ℕ}

/-- The forward outputs of the first grid point. -/
theorem out0_A_12_at (hc0 : cond0_0 i) (X : SideHolds (side false arg2 harg2 arg3 harg3 arg4 harg4 arg5 harg5 arg6 harg6 arg7 harg7 x0 x1 x2 x3 x4 x5) false (G 0) k) (Y : SideHolds (side true arg8 harg8 arg9 harg9 arg10 harg10 arg11 harg11 arg12 harg12 arg13 harg13 x6 x7 x8 x9 x10 x11) true (G 1) k) (hk : k = 0) (y) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y = block false (G 0) k y := by
  have hc := cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
  rw [fwd_A] at hc
  unfold out0_A_12
  rw [fwd_A]
  exact View.read_writes_apply_of_pieces _ _ _ _ (outPieces_eq X _ (initA_eq arg16 G k hk).1 128 (by omega)) y hc

/-- The backward outputs of the first grid point. -/
theorem out0_A_13_at (hc0 : cond0_0 i) (X : SideHolds (side false arg2 harg2 arg3 harg3 arg4 harg4 arg5 harg5 arg6 harg6 arg7 harg7 x0 x1 x2 x3 x4 x5) false (G 0) k) (Y : SideHolds (side true arg8 harg8 arg9 harg9 arg10 harg10 arg11 harg11 arg12 harg12 arg13 harg13 x6 x7 x8 x9 x10 x11) true (G 1) k) (hk : k = 0) (y) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y = block true (G 1) k y := by
  have hc := cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
  rw [bwd_A] at hc
  unfold out0_A_13
  rw [bwd_A]
  exact View.read_writes_apply_of_pieces _ _ _ _ (outPieces_eq Y _ (initA_eq arg16 G k hk).2 128 (by omega)) y hc

/-- The states after the first grid point. -/
theorem sout0_A_0_at (hc0 : cond0_0 i) (X : SideHolds (side false arg2 harg2 arg3 harg3 arg4 harg4 arg5 harg5 arg6 harg6 arg7 harg7 x0 x1 x2 x3 x4 x5) false (G 0) k) (Y : SideHolds (side true arg8 harg8 arg9 harg9 arg10 harg10 arg11 harg11 arg12 harg12 arg13 harg13 x6 x7 x8 x9 x10 x11) true (G 1) k) (hk : k = 0) (y) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y = stateBlock G (k + 4) y := by
  unfold sout0_A_0
  rw [states_A, statePieces_append, View.writes_append]
  exact View.read_writes_apply_of_pieces _ _ _ _ (statePieces_eq X Y _ (initA_eq arg16 G k hk).1 (initA_eq arg16 G k hk).2 64) y (statePieces_cover _ y 64 rfl)

/-- The forward outputs of a later grid point. -/
theorem out0_B_12_at (hc0 : ¬cond0_0 i) (xs0 : Vec Ideal S8x8x128x128 .f32) (X : SideHolds (side false arg2 harg2 arg3 harg3 arg4 harg4 arg5 harg5 arg6 harg6 arg7 harg7 x0 x1 x2 x3 x4 x5) false (G 0) k) (Y : SideHolds (side true arg8 harg8 arg9 harg9 arg10 harg10 arg11 harg11 arg12 harg12 arg13 harg13 x6 x7 x8 x9 x10 x11) true (G 1) k) (hs : ∀ y, xs0 y = stateBlock G k y) (y) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y = block false (G 0) k y := by
  have hc := cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y
  rw [fwd_B] at hc
  unfold out0_B_12
  rw [fwd_B]
  exact View.read_writes_apply_of_pieces _ _ _ _ (outPieces_eq X _ (initB_eq arg16 harg16 xs0 G k hs).1 128 (by omega)) y hc

/-- The backward outputs of a later grid point. -/
theorem out0_B_13_at (hc0 : ¬cond0_0 i) (xs0 : Vec Ideal S8x8x128x128 .f32) (X : SideHolds (side false arg2 harg2 arg3 harg3 arg4 harg4 arg5 harg5 arg6 harg6 arg7 harg7 x0 x1 x2 x3 x4 x5) false (G 0) k) (Y : SideHolds (side true arg8 harg8 arg9 harg9 arg10 harg10 arg11 harg11 arg12 harg12 arg13 harg13 x6 x7 x8 x9 x10 x11) true (G 1) k) (hs : ∀ y, xs0 y = stateBlock G k y) (y) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y = block true (G 1) k y := by
  have hc := cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y
  rw [bwd_B] at hc
  unfold out0_B_13
  rw [bwd_B]
  exact View.read_writes_apply_of_pieces _ _ _ _ (outPieces_eq Y _ (initB_eq arg16 harg16 xs0 G k hs).2 128 (by omega)) y hc

/-- The states after a later grid point. -/
theorem sout0_B_0_at (hc0 : ¬cond0_0 i) (xs0 : Vec Ideal S8x8x128x128 .f32) (X : SideHolds (side false arg2 harg2 arg3 harg3 arg4 harg4 arg5 harg5 arg6 harg6 arg7 harg7 x0 x1 x2 x3 x4 x5) false (G 0) k) (Y : SideHolds (side true arg8 harg8 arg9 harg9 arg10 harg10 arg11 harg11 arg12 harg12 arg13 harg13 x6 x7 x8 x9 x10 x11) true (G 1) k) (hs : ∀ y, xs0 y = stateBlock G k y) (y) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y = stateBlock G (k + 4) y := by
  unfold sout0_B_0
  rw [states_B]
  exact View.read_writes_apply_of_pieces _ _ _ _ (statePieces_eq X Y _ (initB_eq arg16 harg16 xs0 G k hs).1 (initB_eq arg16 harg16 xs0 G k hs).2 64) y (statePieces_cover _ y 64 rfl)

end Cert.KernelIdeal.Scan
end
-- ==== Proof.Scan.KerGrid.lean ====
module

public import proofs.«01_k».proof.Proof.Scan.KerPoint
public import proofs.«01_k».proof.Proof.Gen.KernelIdeal.Value

@[expose] public section
set_option maxRecDepth 16384
noncomputable section
open Idealize.ShloMosaic Idealize.ShloMosaic.TcCoe Idealize.SL.Sem
open Idealize.ShloMosaic.Pipeline (Dat)
open scoped BigOperators

/-! The kernel's grid: what each point reads, and the states and outputs it leaves. -/
namespace Cert.KernelIdeal.Scan
open Cert.KernelIdeal Cert.KernelIdeal.Gen Cert.Scan

/-- Row `r` of tile `n`. -/
abbrev tileRow (n : Fin 33) (r : Fin 256) : Fin 8448 := ⟨n.val * 256 + r.val, by omega⟩

/-- Chunk `q` of tile `n`. -/
abbrev tileChunk (n : Fin 33) (q : Fin 4) : Fin 132 := ⟨n.val * 4 + q.val, by omega⟩

/-- A direction's loads off blocks that hold tile `n` of the arrays are what the heads read at the tile's four steps. -/
theorem side_holds (back : Bool) (p : Fin 2) (n : Fin 33) (k : ℕ)
    (hk : ∀ i, i < 4 → (chunk p (k + i)).val = n.val * 4 + (pos back i).val)
    (hp : ∀ h, unit back h = decRow p h)
    (au : Memref sig .tc .vmem S8x1x256x512 .bf16) (hu : au.IsWhole) (aw : Memref sig .tc .vmem S8x1x256x512 .bf16) (hw : aw.IsWhole)
    (aq : Memref sig .tc .vmem S8x1x256x512 .bf16) (hq : aq.IsWhole) (ak : Memref sig .tc .vmem S8x1x256x512 .bf16) (hkk : ak.IsWhole)
    (am : Memref sig .tc .vmem S8x1x256x256 .bf16) (hm : am.IsWhole) (ad : Memref sig .tc .vmem S8x4x8x128 .f32) (hd : ad.IsWhole)
    (u w qg kd : Vec Ideal S8x1x256x512 .bf16) (mix : Vec Ideal S8x1x256x256 .bf16) (dec : Vec Ideal S8x4x8x128 .f32)
    (U W Q K : Fin 8 → Fin 2 → Fin 8448 → Fin 512 → EReal) (M : Fin 8 → Fin 2 → Fin 8448 → Fin 256 → EReal)
    (D : Fin 8 → Fin 132 → Fin 8 → Fin 128 → EReal)
    (eu : ∀ b r x, u (ix4 b 0 r x) = U b p (tileRow n r) x) (ew : ∀ b r x, w (ix4 b 0 r x) = W b p (tileRow n r) x)
    (eq : ∀ b r x, qg (ix4 b 0 r x) = Q b p (tileRow n r) x) (ek : ∀ b r x, kd (ix4 b 0 r x) = K b p (tileRow n r) x)
    (em : ∀ b r x, mix (ix4 b 0 r x) = M b p (tileRow n r) x) (ed : ∀ b q z x, dec (ix4 b q z x) = D b (tileChunk n q) z x) :
    SideHolds (side back au hu aw hw aq hq ak hkk am hm ad hd u w qg kd mix dec) back (fun b h => head U W Q K M D p b h) k := by
  have tok : ∀ i, i < 4 → ∀ c : Fin 64, tileRow n ⟨(pos back i).val * 64 + c.val, by omega⟩ = token (chunk p (k + i)) c := by
    intro i hi c
    refine Fin.ext ?_
    show n.val * 256 + ((pos back i).val * 64 + c.val) = (chunk p (k + i)).val * 64 + c.val
    rw [hk i hi]; omega
  have wide : ∀ (a : Memref sig .tc .vmem S8x1x256x512 .bf16) (ha : a.IsWhole) (x : Vec Ideal S8x1x256x512 .bf16) (b : Fin 8) (q h : Fin 4)
      (c : Fin 64) (d : Fin 128),
      View.readAt (Elt Ideal) a.view (Rect.unit (s := S8x1x256x512) ![b.val, 0, q.val * 64, h.val * 128] S1x1x64x128.size (inb_in b q h)).toLoadRect (ha.unread x) (ix4 0 0 c d)
        = x (ix4 b 0 ⟨q.val * 64 + c.val, by omega⟩ (col h d)) := by
    intro a ha x b q h c d
    refine (Memref.IsWhole.readAt_unread ha x _ _).trans (congrArg x (funext fun z => Fin.ext ?_))
    fin_cases z
    · show b.val + 1 * 0 = b.val; omega
    · show 0 + 1 * 0 = 0; omega
    · show q.val * 64 + 1 * c.val = q.val * 64 + c.val; omega
    · show h.val * 128 + 1 * d.val = h.val * 128 + d.val; omega
  have hmix : ∀ (b : Fin 8) (q h : Fin 4) (c : Fin 64) (j : Fin 64),
      View.readAt (Elt Ideal) am.view (Rect.unit (s := S8x1x256x256) ![b.val, 0, q.val * 64, h.val * 64] S1x1x64x64.size (inb_mix b q h)).toLoadRect (hm.unread mix) (ix4 0 0 c j)
        = mix (ix4 b 0 ⟨q.val * 64 + c.val, by omega⟩ (mixCol h j)) := by
    intro b q h c j
    refine (Memref.IsWhole.readAt_unread hm mix _ _).trans (congrArg mix (funext fun z => Fin.ext ?_))
    fin_cases z
    · show b.val + 1 * 0 = b.val; omega
    · show 0 + 1 * 0 = 0; omega
    · show q.val * 64 + 1 * c.val = q.val * 64 + c.val; omega
    · show h.val * 64 + 1 * j.val = h.val * 64 + j.val; omega
  have hdec : ∀ (b : Fin 8) (q h : Fin 4) (d : Fin 128),
      View.readAt (Elt Ideal) ad.view (Rect.unit (s := S8x4x8x128) ![b.val, q.val, (unit back h).val, 0] S1x1x1x128.size (inb_dec b q (unit back h))).toLoadRect (hd.unread dec) (ix4 0 0 0 d)
        = dec (ix4 b q (unit back h) d) := by
    intro b q h d
    refine (Memref.IsWhole.readAt_unread hd dec _ _).trans (congrArg dec (funext fun z => Fin.ext ?_))
    fin_cases z
    · show b.val + 1 * 0 = b.val; omega
    · show q.val + 1 * 0 = q.val; omega
    · show (unit back h).val + 1 * 0 = (unit back h).val; omega
    · show 0 + 1 * d.val = d.val; omega
  refine ⟨?_, ?_, ?_, ?_, ?_, ?_⟩
  · intro b h i hi c d
    exact (wide au hu u b (pos back i) h c d).trans ((eu _ _ _).trans (congrArg (fun l => U b p l (col h d)) (tok i hi c)))
  · intro b h i hi c d
    exact (wide aw hw w b (pos back i) h c d).trans ((ew _ _ _).trans (congrArg (fun l => W b p l (col h d)) (tok i hi c)))
  · intro b h i hi c d
    exact (wide aq hq qg b (pos back i) h c d).trans ((eq _ _ _).trans (congrArg (fun l => Q b p l (col h d)) (tok i hi c)))
  · intro b h i hi c d
    exact (wide ak hkk kd b (pos back i) h c d).trans ((ek _ _ _).trans (congrArg (fun l => K b p l (col h d)) (tok i hi c)))
  · intro b h i hi c j
    exact (hmix b (pos back i) h c j).trans ((em _ _ _).trans (congrArg (fun l => M b p l (mixCol h j)) (tok i hi c)))
  · intro b h i hi d
    refine (hdec b (pos back i) h d).trans ((ed _ _ _ _).trans ?_)
    rw [hp h]
    exact congrArg (fun q => D b q (decRow p h) d) (Fin.ext (hk i hi).symm)

variable (m : (ℓ : Loc nD τ sig) → Buf (Elt Ideal) ℓ)

/-- The heads of the arguments. -/
def heads (c : Dev nD) (p : Fin 2) (b : Fin 8) (h : Fin 4) : Head :=
  head (fun b p l x => (m ((c : Thread nD τ).loc main_arg0) : FVec Ideal S8x2x8448x512 .bf16) (ix4 b p l x))
    (fun b p l x => (m ((c : Thread nD τ).loc main_arg1) : FVec Ideal S8x2x8448x512 .bf16) (ix4 b p l x))
    (fun b p l x => (m ((c : Thread nD τ).loc main_arg2) : FVec Ideal S8x2x8448x512 .bf16) (ix4 b p l x))
    (fun b p l x => (m ((c : Thread nD τ).loc main_arg3) : FVec Ideal S8x2x8448x512 .bf16) (ix4 b p l x))
    (fun b p l x => (m ((c : Thread nD τ).loc main_arg4) : FVec Ideal S8x2x8448x256 .bf16) (ix4 b p l x))
    (fun b n z x => (m ((c : Thread nD τ).loc main_arg5) : FVec Ideal S8x132x8x128 .f32) (ix4 b n z x)) p b h

/-- The tile that the forward direction reads at a grid point. -/
abbrev tileF (t : Fin cfg0.N) : Fin 33 := ⟨(t.val + 32) % 33, Nat.mod_lt _ (by decide)⟩

/-- The tile that the backward direction reads at a grid point. -/
abbrev tileB (t : Fin cfg0.N) : Fin 33 := ⟨32 - t.val, by omega⟩

/-- Where each window's block lies at a grid point. -/
theorem idx_val : ∀ t : Fin cfg0.N, win0_0.index t = ![0, 0, (t.val + 32) % 33, 0]
    ∧ win0_1.index t = ![0, 0, (t.val + 32) % 33, 0]
    ∧ win0_2.index t = ![0, 0, (t.val + 32) % 33, 0]
    ∧ win0_3.index t = ![0, 0, (t.val + 32) % 33, 0]
    ∧ win0_4.index t = ![0, 0, (t.val + 32) % 33, 0]
    ∧ win0_5.index t = ![0, (t.val + 32) % 33, 0, 0]
    ∧ win0_6.index t = ![0, 1, 32 - t.val, 0]
    ∧ win0_7.index t = ![0, 1, 32 - t.val, 0]
    ∧ win0_8.index t = ![0, 1, 32 - t.val, 0]
    ∧ win0_9.index t = ![0, 1, 32 - t.val, 0]
    ∧ win0_10.index t = ![0, 1, 32 - t.val, 0]
    ∧ win0_11.index t = ![0, 32 - t.val, 0, 0]
    ∧ win0_12.index t = ![0, (t.val + 32) % 33, 0]
    ∧ win0_13.index t = ![0, 32 - t.val, 0] :=
  (by decide +kernel : ∀ t : Fin grid0.N, _)

/-- Forward: the new values without the state that a grid point reads are those of its tile. -/
theorem blk0 (c : Dev nD) (t : Fin cfg0.N) (b : Fin 8) (r : Fin 256) (x : Fin 512) :
    iblk m c 0 t (ix4 b 0 r x) = m ((c : Thread nD τ).loc main_arg0) (ix4 b 0 (tileRow (tileF t) r) x) := by
  blk_point [iblk, V, idx_val t]

/-- Forward: the keys that read the state that a grid point reads are those of its tile. -/
theorem blk1 (c : Dev nD) (t : Fin cfg0.N) (b : Fin 8) (r : Fin 256) (x : Fin 512) :
    iblk m c 1 t (ix4 b 0 r x) = m ((c : Thread nD τ).loc main_arg1) (ix4 b 0 (tileRow (tileF t) r) x) := by
  blk_point [iblk, V, idx_val t]

/-- Forward: the queries that a grid point reads are those of its tile. -/
theorem blk2 (c : Dev nD) (t : Fin cfg0.N) (b : Fin 8) (r : Fin 256) (x : Fin 512) :
    iblk m c 2 t (ix4 b 0 r x) = m ((c : Thread nD τ).loc main_arg2) (ix4 b 0 (tileRow (tileF t) r) x) := by
  blk_point [iblk, V, idx_val t]

/-- Forward: the keys that write that a grid point reads are those of its tile. -/
theorem blk3 (c : Dev nD) (t : Fin cfg0.N) (b : Fin 8) (r : Fin 256) (x : Fin 512) :
    iblk m c 3 t (ix4 b 0 r x) = m ((c : Thread nD τ).loc main_arg3) (ix4 b 0 (tileRow (tileF t) r) x) := by
  blk_point [iblk, V, idx_val t]

/-- Forward: the mixing matrices that a grid point reads are those of its tile. -/
theorem blk4 (c : Dev nD) (t : Fin cfg0.N) (b : Fin 8) (r : Fin 256) (x : Fin 256) :
    iblk m c 4 t (ix4 b 0 r x) = m ((c : Thread nD τ).loc main_arg4) (ix4 b 0 (tileRow (tileF t) r) x) := by
  blk_point [iblk, V, idx_val t]

/-- Backward: the new values without the state that a grid point reads are those of its tile. -/
theorem blk6 (c : Dev nD) (t : Fin cfg0.N) (b : Fin 8) (r : Fin 256) (x : Fin 512) :
    iblk m c 6 t (ix4 b 0 r x) = m ((c : Thread nD τ).loc main_arg0) (ix4 b 1 (tileRow (tileB t) r) x) := by
  blk_point [iblk, V, idx_val t]

/-- Backward: the keys that read the state that a grid point reads are those of its tile. -/
theorem blk7 (c : Dev nD) (t : Fin cfg0.N) (b : Fin 8) (r : Fin 256) (x : Fin 512) :
    iblk m c 7 t (ix4 b 0 r x) = m ((c : Thread nD τ).loc main_arg1) (ix4 b 1 (tileRow (tileB t) r) x) := by
  blk_point [iblk, V, idx_val t]

/-- Backward: the queries that a grid point reads are those of its tile. -/
theorem blk8 (c : Dev nD) (t : Fin cfg0.N) (b : Fin 8) (r : Fin 256) (x : Fin 512) :
    iblk m c 8 t (ix4 b 0 r x) = m ((c : Thread nD τ).loc main_arg2) (ix4 b 1 (tileRow (tileB t) r) x) := by
  blk_point [iblk, V, idx_val t]

/-- Backward: the keys that write that a grid point reads are those of its tile. -/
theorem blk9 (c : Dev nD) (t : Fin cfg0.N) (b : Fin 8) (r : Fin 256) (x : Fin 512) :
    iblk m c 9 t (ix4 b 0 r x) = m ((c : Thread nD τ).loc main_arg3) (ix4 b 1 (tileRow (tileB t) r) x) := by
  blk_point [iblk, V, idx_val t]

/-- Backward: the mixing matrices that a grid point reads are those of its tile. -/
theorem blk10 (c : Dev nD) (t : Fin cfg0.N) (b : Fin 8) (r : Fin 256) (x : Fin 256) :
    iblk m c 10 t (ix4 b 0 r x) = m ((c : Thread nD τ).loc main_arg4) (ix4 b 1 (tileRow (tileB t) r) x) := by
  blk_point [iblk, V, idx_val t]

/-- Forward: the decays that a grid point reads are those of its tile. -/
theorem blk5 (c : Dev nD) (t : Fin cfg0.N) (b : Fin 8) (q : Fin 4) (z : Fin 8) (x : Fin 128) :
    iblk m c 5 t (ix4 b q z x) = m ((c : Thread nD τ).loc main_arg5) (ix4 b (tileChunk (tileF t) q) z x) := by
  blk_point [iblk, V, idx_val t]

/-- Backward: the decays that a grid point reads are those of its tile. -/
theorem blk11 (c : Dev nD) (t : Fin cfg0.N) (b : Fin 8) (q : Fin 4) (z : Fin 8) (x : Fin 128) :
    iblk m c 11 t (ix4 b q z x) = m ((c : Thread nD τ).loc main_arg5) (ix4 b (tileChunk (tileB t) q) z x) := by
  blk_point [iblk, V, idx_val t]

/-- The forward loads of a grid point. -/
theorem fwd_holds (c : Dev nD) (t : Fin cfg0.N) :
    SideHolds (side false (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t)) false (heads m c 0) (4 * t.val) := by
  have ht : t.val < 33 := t.isLt
  refine side_holds false 0 (tileF t) (4 * t.val) ?_ (fun h => Fin.ext (by simp [unit, decRow])) _ _ _ _ _ _ _ _ _ _ _ _ _ _ _ _ _ _ _ _ _ _ _ _
    (blk0 m c t) (blk1 m c t) (blk2 m c t) (blk3 m c t) (blk4 m c t) (blk5 m c t)
  intro i hi
  simp only [chunk, pos, tileF]
  simp
  omega

/-- The backward loads of a grid point. -/
theorem bwd_holds (c : Dev nD) (t : Fin cfg0.N) :
    SideHolds (side true (ms0_6 t) (hs0_6 t) (ms0_7 t) (hs0_7 t) (ms0_8 t) (hs0_8 t) (ms0_9 t) (hs0_9 t) (ms0_10 t) (hs0_10 t) (ms0_11 t) (hs0_11 t) (iblk m c 6 t) (iblk m c 7 t) (iblk m c 8 t) (iblk m c 9 t) (iblk m c 10 t) (iblk m c 11 t)) true (heads m c 1) (4 * t.val) := by
  have ht : t.val < 33 := t.isLt
  refine side_holds true 1 (tileB t) (4 * t.val) ?_ (fun h => Fin.ext (by simp [unit, decRow])) _ _ _ _ _ _ _ _ _ _ _ _ _ _ _ _ _ _ _ _ _ _ _ _
    (blk6 m c t) (blk7 m c t) (blk8 m c t) (blk9 m c t) (blk10 m c t) (blk11 m c t)
  intro i hi
  simp only [chunk, pos, tileB]
  simp
  omega

/-- The parts of a triple. -/
theorem of_triple {α β γ : Type} {p : α × β × γ} {a : α} {b : β} {d : γ} (h : p = (a, b, d)) : p.1 = a ∧ p.2.1 = b ∧ p.2.2 = d := by
  subst h; exact ⟨rfl, rfl, rfl⟩

/-- What the first grid point leaves. -/
theorem first_point (c : Dev nD) (t : Fin cfg0.N) (h0 : t.val % 33 = 0) :
    (∀ y, (outsAt0 m c t.val t.isLt).1 y = block false (heads m c 0) (4 * t.val) y)
      ∧ (∀ y, (outsAt0 m c t.val t.isLt).2.1 y = block true (heads m c 1) (4 * t.val) y)
      ∧ ∀ y, (outsAt0 m c t.val t.isLt).2.2 y = stateBlock (heads m c) (4 * t.val + 4) y := by
  have ht : t.val < 33 := t.isLt
  obtain ⟨e1, e2, e3⟩ := of_triple (outsAt0_A m c t h0)
  exact ⟨fun y => (congrFun e1 y).trans (out0_A_12_at (G := heads m c) (k := 4 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (fwd_holds m c t) (bwd_holds m c t) (by omega) y),
    fun y => (congrFun e2 y).trans (out0_A_13_at (G := heads m c) (k := 4 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (fwd_holds m c t) (bwd_holds m c t) (by omega) y),
    fun y => (congrFun e3 y).trans (sout0_A_0_at (G := heads m c) (k := 4 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (fwd_holds m c t) (bwd_holds m c t) (by omega) y)⟩

/-- What a later grid point leaves over the states that the one before left. -/
theorem later_point (c : Dev nD) (t : Fin cfg0.N) (h0 : ¬t.val % 33 = 0)
    (hs : ∀ y, (outsAt0 m c (t.val - 1) (Nat.lt_of_le_of_lt (Nat.sub_le _ _) t.isLt)).2.2 y = stateBlock (heads m c) (4 * t.val) y) :
    (∀ y, (outsAt0 m c t.val t.isLt).1 y = block false (heads m c 0) (4 * t.val) y)
      ∧ (∀ y, (outsAt0 m c t.val t.isLt).2.1 y = block true (heads m c 1) (4 * t.val) y)
      ∧ ∀ y, (outsAt0 m c t.val t.isLt).2.2 y = stateBlock (heads m c) (4 * t.val + 4) y := by
  obtain ⟨e1, e2, e3⟩ := of_triple (outsAt0_B m c t h0)
  exact ⟨fun y => (congrFun e1 y).trans (out0_B_12_at (G := heads m c) (k := 4 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ (fwd_holds m c t) (bwd_holds m c t) hs y),
    fun y => (congrFun e2 y).trans (out0_B_13_at (G := heads m c) (k := 4 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ (fwd_holds m c t) (bwd_holds m c t) hs y),
    fun y => (congrFun e3 y).trans (sout0_B_0_at (G := heads m c) (k := 4 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ (fwd_holds m c t) (bwd_holds m c t) hs y)⟩

/-- What a grid point leaves: the outputs of its four steps in both directions, and the states after them. -/
theorem outs_eq (c : Dev nD) : ∀ (n : ℕ) (hn : n < cfg0.N),
    (∀ y, (outsAt0 m c n hn).1 y = block false (heads m c 0) (4 * n) y)
      ∧ (∀ y, (outsAt0 m c n hn).2.1 y = block true (heads m c 1) (4 * n) y)
      ∧ ∀ y, (outsAt0 m c n hn).2.2 y = stateBlock (heads m c) (4 * n + 4) y
  | 0, hn => first_point m c ⟨0, hn⟩ (Nat.zero_mod _)
  | n + 1, hn =>
    later_point m c ⟨n + 1, hn⟩ (by have hN : n + 1 < 33 := hn; show ¬(n + 1) % 33 = 0; omega) (outs_eq c n (Nat.lt_of_succ_lt hn)).2.2

/-- The first result: the forward outputs, the tokens of tile 32 first. -/
def fwdOut (G : Fin 8 → Fin 4 → Head) (y : S8x8448x512.Idx) : EReal :=
  (G (y 0) ⟨(y 2).val / 128, by have := (y 2).isLt; change _ < 512 at this; omega⟩).outputs
    (((y 1).val / 64 + 4) % 132) ⟨(y 1).val % 64, Nat.mod_lt _ (by decide)⟩ ⟨(y 2).val % 128, Nat.mod_lt _ (by decide)⟩

/-- The second result: the backward outputs, the last chunk first. -/
def bwdOut (G : Fin 8 → Fin 4 → Head) (y : S8x8448x512.Idx) : EReal :=
  (G (y 0) ⟨(y 2).val / 128, by have := (y 2).isLt; change _ < 512 at this; omega⟩).outputs
    (131 - (y 1).val / 64) ⟨(y 1).val % 64, Nat.mod_lt _ (by decide)⟩ ⟨(y 2).val % 128, Nat.mod_lt _ (by decide)⟩

/-- A forward block of outputs lies at its tile's tokens. -/
theorem block_fwdOut (G : Fin 8 → Fin 4 → Head) (t : ℕ) (ht : t < 33) (y : S8x256x512.Idx) (z : S8x8448x512.Idx)
    (h0 : (z 0).val = (y 0).val) (h1 : (z 1).val = (t + 32) % 33 * 256 + (y 1).val) (h2 : (z 2).val = (y 2).val) :
    block false G (4 * t) y = fwdOut G z := by
  have hy : (y 1).val < 256 := (y 1).isLt
  refine outputs_congr G (Fin.ext h0.symm) (Fin.ext ?_) ?_ (Fin.ext ?_) (Fin.ext ?_)
  · show (y 2).val / 128 = (z 2).val / 128; rw [h2]
  · show 4 * t + (y 1).val / 64 = ((z 1).val / 64 + 4) % 132; omega
  · show (y 1).val % 64 = (z 1).val % 64; omega
  · show (y 2).val % 128 = (z 2).val % 128; rw [h2]

/-- A backward block of outputs lies at its tile's tokens. -/
theorem block_bwdOut (G : Fin 8 → Fin 4 → Head) (t : ℕ) (ht : t < 33) (y : S8x256x512.Idx) (z : S8x8448x512.Idx)
    (h0 : (z 0).val = (y 0).val) (h1 : (z 1).val = (32 - t) * 256 + (y 1).val) (h2 : (z 2).val = (y 2).val) :
    block true G (4 * t) y = bwdOut G z := by
  have hy : (y 1).val < 256 := (y 1).isLt
  refine outputs_congr G (Fin.ext h0.symm) (Fin.ext ?_) ?_ (Fin.ext ?_) (Fin.ext ?_)
  · show (y 2).val / 128 = (z 2).val / 128; rw [h2]
  · show 4 * t + (3 - (y 1).val / 64) = 131 - (z 1).val / 64; omega
  · show (y 1).val % 64 = (z 1).val % 64; omega
  · show (y 2).val % 128 = (z 2).val % 128; rw [h2]

/-- The kernel's first result is the forward outputs. -/
theorem final_fwd (c : Dev nD) : (dats m 0 c).arrAt 12 cfg0.N = fwdOut (heads m c 0) := by
  refine (dats m 0 c).arrAt_eq_of_covers 12 _ (by decide +kernel) fun t hf y => ?_
  blk_simp
  rw [after0_12, (outs_eq m c t.val t.isLt).1]
  refine block_fwdOut _ t.val t.isLt y _ ?_ ?_ ?_ <;> blk_simp [idx_val t] <;> simp

/-- The kernel's second result is the backward outputs. -/
theorem final_bwd (c : Dev nD) : (dats m 0 c).arrAt 13 cfg0.N = bwdOut (heads m c 1) := by
  refine (dats m 0 c).arrAt_eq_of_covers 13 _ (by decide +kernel) fun t hf y => ?_
  blk_simp
  rw [after0_13, (outs_eq m c t.val t.isLt).2.1]
  refine block_bwdOut _ t.val t.isLt y _ ?_ ?_ ?_ <;> blk_simp [idx_val t] <;> simp

end Cert.KernelIdeal.Scan
end
-- ==== Proof.Scan.RefStep.lean ====
module

public import proofs.«01_k».proof.Proof.Gen.RefIdeal.Run
public import proofs.«01_k».proof.Proof.Scan.Spec
public import Idealize.ShloMosaic.Lib.Pointwise
public import Idealize.ShloMosaic.Lib.WordCmp

@[expose] public section
set_option maxRecDepth 16384
noncomputable section
open Idealize.ShloMosaic Idealize.ShloMosaic.TcCoe Idealize.SL.Sem Idealize.ShloMosaic.StableHlo
open scoped BigOperators

/-! One step of the reference's loop, read at an index. -/
namespace Cert.RefIdeal.Scan
open Cert.RefIdeal Cert.RefIdeal.Gen Cert.RefIdeal.Value Cert.Scan

/-- The step's counter. -/
abbrev Ctr := (⟨S_, .i32⟩ : BufTy).Contents (Elt Ideal)

/-- A zero index. -/
abbrev zero : Ctr := constantI S_ 32 0#32

/-- The start of the slice of an array of six axes that a step reads. -/
abbrev at6 (x : Ctr) : Fin 6 → Int := fun k => ((![x, zero, zero, zero, zero, zero] : Fin 6 → Ctr) k (Shape.Idx.first h_S_)).toInt

/-- The start of the slice of an array of five axes that a step reads. -/
abbrev at5 (x : Ctr) : Fin 5 → Int := fun k => ((![x, zero, zero, zero, zero] : Fin 5 → Ctr) k (Shape.Idx.first h_S_)).toInt

/-- A step's number as a word is its number. -/
theorem ofNat_toInt : ∀ k : Fin 132, (BitVec.ofNat 32 k.val).toInt = (k.val : Int) := by decide

/-- The start of the slice of step `k`, of six axes. -/
theorem at6_eq (k : Fin 132) : ∀ a, at6 (fun _ => BitVec.ofNat 32 k.val) a = ((![k.val, 0, 0, 0, 0, 0] : Fin 6 → ℕ) a : Int) := by
  intro a
  fin_cases a
  · exact ofNat_toInt k
  all_goals rfl

/-- The start of the slice of step `k`, of five axes. -/
theorem at5_eq (k : Fin 132) : ∀ a, at5 (fun _ => BitVec.ofNat 32 k.val) a = ((![k.val, 0, 0, 0, 0] : Fin 5 → ℕ) a : Int) := by
  intro a
  fin_cases a
  · exact ofNat_toInt k
  all_goals rfl

/-- The slice of step `k` lies in the array of the chunks. -/
theorem fits_wide (k : Fin 132) : S132x2x8x4x64x128.Slices ![k.val, 0, 0, 0, 0, 0] S1x2x8x4x64x128 := by
  refine ⟨rfl, fun a => ?_⟩
  have := k.isLt
  fin_cases a
  · show k.val + 1 ≤ 132; omega
  all_goals exact Nat.le_refl _

/-- The slice of step `k` lies in the array of the mixing matrices. -/
theorem fits_mix (k : Fin 132) : S132x2x8x4x64x64.Slices ![k.val, 0, 0, 0, 0, 0] S1x2x8x4x64x64 := by
  refine ⟨rfl, fun a => ?_⟩
  have := k.isLt
  fin_cases a
  · show k.val + 1 ≤ 132; omega
  all_goals exact Nat.le_refl _

/-- The slice of step `k` lies in the array of the decays. -/
theorem fits_dec (k : Fin 132) : S132x2x8x4x128.Slices ![k.val, 0, 0, 0, 0] S1x2x8x4x128 := by
  refine ⟨rfl, fun a => ?_⟩
  have := k.isLt
  fin_cases a
  · show k.val + 1 ≤ 132; omega
  all_goals exact Nat.le_refl _

/-- The chunk of step `k` of an array of chunks. -/
def wide (x : Ctr) (A : FVec Ideal S132x2x8x4x64x128 .f32) : FVec Ideal S2x8x4x64x128 .f32 :=
  shapeCast S2x8x4x64x128 (Host.dynamicSlice S1x2x8x4x64x128 A (at6 x) sliceFits_S132x2x8x4x64x128_S1x2x8x4x64x128)
    shapeCasts_S1x2x8x4x64x128_S2x8x4x64x128

/-- The chunk of step `k`, at an index. -/
theorem wide_at (A : FVec Ideal S132x2x8x4x64x128 .f32) (k : Fin 132) (p : Fin 2) (b : Fin 8) (h : Fin 4) (c : Fin 64) (d : Fin 128) :
    wide (fun _ => BitVec.ofNat 32 k.val) A (ix5 p b h c d) = A (ix6 k p b h c d) := by
  unfold wide
  rw [WordCmp.dynamicSlice_eq_extract _ A (at6 _) _ ![k.val, 0, 0, 0, 0, 0] (fits_wide k) (at6_eq k)]
  pointwise []

/-- The mixing matrices of step `k`. -/
def mixAt (x : Ctr) (A : FVec Ideal S132x2x8x4x64x64 .f32) : FVec Ideal S2x8x4x64x64 .f32 :=
  shapeCast S2x8x4x64x64 (Host.dynamicSlice S1x2x8x4x64x64 A (at6 x) sliceFits_S132x2x8x4x64x64_S1x2x8x4x64x64)
    shapeCasts_S1x2x8x4x64x64_S2x8x4x64x64

/-- The mixing matrix of step `k`, at an index. -/
theorem mixAt_at (A : FVec Ideal S132x2x8x4x64x64 .f32) (k : Fin 132) (p : Fin 2) (b : Fin 8) (h : Fin 4) (c j : Fin 64) :
    mixAt (fun _ => BitVec.ofNat 32 k.val) A (ix5 p b h c j) = A (ix6 k p b h c j) := by
  unfold mixAt
  rw [WordCmp.dynamicSlice_eq_extract _ A (at6 _) _ ![k.val, 0, 0, 0, 0, 0] (fits_mix k) (at6_eq k)]
  pointwise []

/-- The decays of step `k`. -/
def decAt (x : Ctr) (A : FVec Ideal S132x2x8x4x128 .f32) : FVec Ideal S2x8x4x128 .f32 :=
  shapeCast S2x8x4x128 (Host.dynamicSlice S1x2x8x4x128 A (at5 x) sliceFits_S132x2x8x4x128_S1x2x8x4x128)
    shapeCasts_S1x2x8x4x128_S2x8x4x128

/-- The decays of step `k`, at an index. -/
theorem decAt_at (A : FVec Ideal S132x2x8x4x128 .f32) (k : Fin 132) (p : Fin 2) (b : Fin 8) (h : Fin 4) (d : Fin 128) :
    decAt (fun _ => BitVec.ofNat 32 k.val) A (ix4 p b h d) = A (ix5 k p b h d) := by
  unfold decAt
  rw [WordCmp.dynamicSlice_eq_extract _ A (at5 _) _ ![k.val, 0, 0, 0, 0] (fits_dec k) (at5_eq k)]
  pointwise []

/-- The new values of a step. -/
theorem vnew_pure (u w : FVec Ideal S2x8x4x64x128 .f32) (s : FVec Ideal S2x8x4x128x128 .f32)
    (p : Fin 2) (b : Fin 8) (h : Fin 4) (c : Fin 64) (e : Fin 128) :
    subf u (Host.dotGeneral dot_S2x8x4x64x128_S2x8x4x128x128_S2x8x4x64x128_4_3_3_4_012_012 none w s) (ix5 p b h c e)
      = vnew (fun c d => u (ix5 p b h c d)) (fun c d => w (ix5 p b h c d)) (fun d e => s (ix5 p b h d e)) c e := by
  pointwise [vnew]

/-- The outputs of a step. -/
theorem out_pure (q v : FVec Ideal S2x8x4x64x128 .f32) (x : FVec Ideal S2x8x4x64x64 .f32) (s : FVec Ideal S2x8x4x128x128 .f32)
    (p : Fin 2) (b : Fin 8) (h : Fin 4) (c : Fin 64) (e : Fin 128) :
    addf (Host.dotGeneral dot_S2x8x4x64x128_S2x8x4x128x128_S2x8x4x64x128_4_3_3_4_012_012 none q s)
        (Host.dotGeneral dot_S2x8x4x64x64_S2x8x4x64x128_S2x8x4x64x128_4_3_3_4_012_012 none x v) (ix5 p b h c e)
      = out (fun c d => q (ix5 p b h c d)) (fun c j => x (ix5 p b h c j)) (fun d e => s (ix5 p b h d e)) (fun c e => v (ix5 p b h c e)) c e := by
  pointwise [out]

/-- The state after a step. -/
theorem next_pure (k v : FVec Ideal S2x8x4x64x128 .f32) (a : FVec Ideal S2x8x4x128 .f32) (s : FVec Ideal S2x8x4x128x128 .f32)
    (p : Fin 2) (b : Fin 8) (h : Fin 4) (d e : Fin 128) :
    addf (mulf s (broadcastInDim S2x8x4x128x128 ![0, 1, 2, 3, 4] bcast_S2x8x4x1x128_S2x8x4x128x128_0_1_2_3_4
        (broadcastInDim S2x8x4x1x128 ![0, 1, 2, 4] bcast_S2x8x4x128_S2x8x4x1x128_0_1_2_4 a)))
        (Host.dotGeneral dot_S2x8x4x64x128_S2x8x4x64x128_S2x8x4x128x128_3_3_4_4_012_012 none k v) (ix5 p b h d e)
      = next (fun c d => k (ix5 p b h c d)) (fun d => a (ix4 p b h d)) (fun d e => s (ix5 p b h d e)) (fun c e => v (ix5 p b h c e)) d e := by
  pointwise [next]

/-- A step's outputs written into the array of all outputs: the row of the step is the outputs, the others are as they were. -/
theorem put_at (A : FVec Ideal S132x2x8x4x64x128 .f32) (o : FVec Ideal S2x8x4x64x128 .f32) (k i : Fin 132) (p : Fin 2) (b : Fin 8)
    (h : Fin 4) (c : Fin 64) (e : Fin 128) :
    Host.dynamicUpdateSlice A (broadcastInDim S1x2x8x4x64x128 ![1, 2, 3, 4, 5] bcast_S2x8x4x64x128_S1x2x8x4x64x128_1_2_3_4_5 o)
        (at6 (fun _ => BitVec.ofNat 32 k.val)) updateFits_S132x2x8x4x64x128_S1x2x8x4x64x128 (ix6 i p b h c e)
      = if i = k then o (ix5 p b h c e) else A (ix6 i p b h c e) := by
  rw [WordCmp.dynamicUpdateSlice_eq_update A _ (at6 _) _ ![k.val, 0, 0, 0, 0, 0] (fits_wide k) (at6_eq k)]
  pointwise []
  by_cases hik : i = k
  · subst hik
    simp
  · rw [if_neg hik, dif_neg (fun hc => hik (Fin.ext (by omega)))]

end Cert.RefIdeal.Scan
end
-- ==== Proof.Scan.RefAt.lean ====
module

public import proofs.«01_k».proof.Proof.Gen.RefIdeal.Run
public import proofs.«01_k».proof.Proof.Gen.RefIdeal.Step
public import proofs.«01_k».proof.Proof.Scan.Spec
public import Idealize.ShloMosaic.Lib.Pointwise

@[expose] public section
set_option maxRecDepth 16384
noncomputable section
open Idealize.ShloMosaic Idealize.ShloMosaic.TcCoe Idealize.SL.Sem Idealize.ShloMosaic.StableHlo
open scoped BigOperators

/-! The arrays that the reference's loop is given, read at an index: the chunk of a step, direction, batch row and head. -/
namespace Cert.RefIdeal.Scan
open Cert.RefIdeal Cert.RefIdeal.Gen Cert.RefIdeal.Value Cert.RefIdeal.Step Cert.Scan

variable (x0 x1 x2 x3 : FVec Ideal S8x2x8448x512 .bf16) (x4 : FVec Ideal S8x2x8448x256 .bf16) (x5 : FVec Ideal S8x132x8x128 .f32)

/-- The place where a step's chunk stands in an array: what the reordering of the chunks reads. -/
theorem pick {α : Type} (f : Fin 8 → Fin 2 → ℕ → α) (k : Fin 132) (p : Fin 2) (b : Fin 8) :
    (if p.val < 1 then if k.val < 4 then f b 0 (128 + k.val) else f b 0 (k.val - 4) else f b 1 k.rev.val)
      = f b p (chunk p k.val).val := by
  have hk := k.isLt
  unfold chunk
  match p with
  | 0 =>
    rw [if_pos (by decide), if_pos rfl]
    split
    · exact congrArg _ (by show _ = (k.val + 128) % 132; omega)
    · exact congrArg _ (by show _ = (k.val + 128) % 132; omega)
  | 1 =>
    rw [if_neg (by decide), if_neg (by decide)]
    exact congrArg _ (by show _ = 131 - k.val; rw [Fin.val_rev]; omega)

/-- The values of the chunks. -/
theorem u_at (k : Fin 132) (p : Fin 2) (b : Fin 8) (h : Fin 4) (c : Fin 64) (d : Fin 128) :
    A_main_v27 (F := Ideal) x0 x1 x2 x3 x4 x5 (ix6 k p b h c d) = x0 (ix4 b p (token (chunk p k.val) c) (col h d)) := by
  pointwise [A_main_v14, A_main_v15, A_main_v16, A_main_v17, A_main_v18, A_main_v19, A_main_v20, A_main_v21, A_main_v22, A_main_v23, A_main_v24, A_main_v25, A_main_v26, A_main_v27]
  have e := pick (fun b p n => if hn : n < 132 then x0 (ix4 b p (token ⟨n, hn⟩ c) (col h d)) else 0) k p b
  simp only [(chunk p k.val).isLt, dite_true] at e
  refine Eq.trans ?_ e
  have hk := k.isLt
  simp only [List.mem_singleton, if_true, one_ne_zero, if_false]
  split
  · split
    · rw [dif_pos (by omega)]; rfl
    · rw [dif_pos (by omega)]; rfl
  · rw [dif_pos (Fin.isLt _)]; rfl

/-- The keys that read, of the chunks: the same reordering. -/
theorem w_at (k : Fin 132) (p : Fin 2) (b : Fin 8) (h : Fin 4) (c : Fin 64) (d : Fin 128) :
    A_main_v41 (F := Ideal) x0 x1 x2 x3 x4 x5 (ix6 k p b h c d) = x1 (ix4 b p (token (chunk p k.val) c) (col h d)) :=
  u_at x1 x1 x2 x3 x4 x5 k p b h c d

/-- The queries of the chunks. -/
theorem q_at (k : Fin 132) (p : Fin 2) (b : Fin 8) (h : Fin 4) (c : Fin 64) (d : Fin 128) :
    A_main_v55 (F := Ideal) x0 x1 x2 x3 x4 x5 (ix6 k p b h c d) = x2 (ix4 b p (token (chunk p k.val) c) (col h d)) :=
  u_at x2 x1 x2 x3 x4 x5 k p b h c d

/-- The keys that write, of the chunks. -/
theorem k_at (k : Fin 132) (p : Fin 2) (b : Fin 8) (h : Fin 4) (c : Fin 64) (d : Fin 128) :
    A_main_v69 (F := Ideal) x0 x1 x2 x3 x4 x5 (ix6 k p b h c d) = x3 (ix4 b p (token (chunk p k.val) c) (col h d)) :=
  u_at x3 x1 x2 x3 x4 x5 k p b h c d

/-- The mixing matrices of the chunks. -/
theorem m_at (k : Fin 132) (p : Fin 2) (b : Fin 8) (h : Fin 4) (c j : Fin 64) :
    A_main_v83 (F := Ideal) x0 x1 x2 x3 x4 x5 (ix6 k p b h c j) = x4 (ix4 b p (token (chunk p k.val) c) (mixCol h j)) := by
  pointwise [A_main_v70, A_main_v71, A_main_v72, A_main_v73, A_main_v74, A_main_v75, A_main_v76, A_main_v77, A_main_v78, A_main_v79, A_main_v80, A_main_v81, A_main_v82, A_main_v83]
  have e := pick (fun b p n => if hn : n < 132 then x4 (ix4 b p (token ⟨n, hn⟩ c) (mixCol h j)) else 0) k p b
  simp only [(chunk p k.val).isLt, dite_true] at e
  refine Eq.trans ?_ e
  have hk := k.isLt
  simp only [List.mem_singleton, if_true, one_ne_zero, if_false]
  split
  · split
    · rw [dif_pos (by omega)]; rfl
    · rw [dif_pos (by omega)]; rfl
  · rw [dif_pos (Fin.isLt _)]; rfl

/-- The decays of the chunks. -/
theorem d_at (k : Fin 132) (p : Fin 2) (b : Fin 8) (h : Fin 4) (d : Fin 128) :
    A_main_v12 (F := Ideal) x0 x1 x2 x3 x4 x5 (ix5 k p b h d) = x5 (ix4 b (chunk p k.val) (decRow p h) d) := by
  pointwise [A_main_v0, A_main_v1, A_main_v2, A_main_v3, A_main_v4, A_main_v5, A_main_v6, A_main_v7, A_main_v8, A_main_v9, A_main_v10, A_main_v11, A_main_v12]
  have e0 : decRow 0 h = ⟨h.val, by omega⟩ := Fin.ext (by show 0 * 4 + h.val = h.val; omega)
  have e1 : decRow 1 h = ⟨4 + h.val, by omega⟩ := Fin.ext (by show 1 * 4 + h.val = 4 + h.val; omega)
  have e := pick (fun b p n => if hn : n < 132 then x5 (ix4 b ⟨n, hn⟩ (decRow p h) d) else 0) k p b
  simp only [(chunk p k.val).isLt, dite_true] at e
  refine Eq.trans ?_ e
  have hk := k.isLt
  simp only [List.mem_singleton, if_true, one_ne_zero, if_false, e0, e1]
  split
  · split
    · rw [dif_pos (by omega)]
    · rw [dif_pos (by omega)]
  · rw [dif_pos (Fin.isLt _)]; rfl

end Cert.RefIdeal.Scan
end
-- ==== Proof.Scan.RefEntry.lean ====
module

public import proofs.«01_k».proof.Proof.Gen.RefIdeal.Run
public import proofs.«01_k».proof.Proof.Gen.RefIdeal.Step

@[expose] public section
set_option maxRecDepth 65536
noncomputable section
open Idealize.ShloMosaic Idealize.ShloMosaic.TcCoe Idealize.SL.Sem Idealize.ShloMosaic.StableHlo

/-! What the operations before the loop leave in the buffers the loop reads. -/
namespace Cert.RefIdeal.Scan
open Cert.RefIdeal Cert.RefIdeal.Gen Cert.RefIdeal.Value Cert.RefIdeal.Step

variable {F : FTy → Type} [FloatOps F] (m : (ℓ : Loc nD τ sig) → Buf (Elt F) ℓ) (c : Dev nD)

set_option maxHeartbeats 2000000 in
/-- The first operand, in the order of the steps. -/
theorem entry_0 : entryContents preI m c (Proc.devRef .tc main_v85_0) = A_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  after_reads_simp
  rfl

set_option maxHeartbeats 2000000 in
/-- The second operand, in the order of the steps. -/
theorem entry_1 : entryContents preI m c (Proc.devRef .tc main_v85_1) = A_main_v41 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  after_reads_simp
  rfl

set_option maxHeartbeats 2000000 in
/-- The third operand, in the order of the steps. -/
theorem entry_2 : entryContents preI m c (Proc.devRef .tc main_v85_2) = A_main_v55 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  after_reads_simp
  rfl

set_option maxHeartbeats 2000000 in
/-- The fourth operand, in the order of the steps. -/
theorem entry_3 : entryContents preI m c (Proc.devRef .tc main_v85_3) = A_main_v69 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  after_reads_simp
  rfl

set_option maxHeartbeats 2000000 in
/-- The mixing matrices, in the order of the steps. -/
theorem entry_4 : entryContents preI m c (Proc.devRef .tc main_v85_4) = A_main_v83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  after_reads_simp
  rfl

set_option maxHeartbeats 2000000 in
/-- The decays, in the order of the steps. -/
theorem entry_5 : entryContents preI m c (Proc.devRef .tc main_v85_5) = A_main_v12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]
  after_reads_simp
  rfl

set_option maxHeartbeats 2000000 in
/-- The state before the first step. -/
theorem entry_7 : entryContents preI m c (Proc.devRef .tc main_v85_7) = K_main_v13 (F := F) := by
  simp only [entryContents, afterL_cons, afterL_nil]
  after_reads_simp
  rfl

end Cert.RefIdeal.Scan
end
-- ==== Proof.Scan.RefInv.lean ====
module

public import proofs.«01_k».proof.Proof.Scan.RefStep
public import proofs.«01_k».proof.Proof.Scan.RefAt
public import proofs.«01_k».proof.Proof.Scan.RefEntry

@[expose] public section
set_option maxRecDepth 16384
noncomputable section
open Idealize.ShloMosaic Idealize.ShloMosaic.TcCoe Idealize.SL.Sem Idealize.ShloMosaic.StableHlo
open scoped BigOperators

/-! What the reference's loop carries after `k` steps, and what the reference's results are. -/
namespace Cert.RefIdeal.Scan
open Cert.RefIdeal Cert.RefIdeal.Gen Cert.RefIdeal.Value Cert.RefIdeal.Step Cert.Scan

/-- The loop's six arrays hold the heads `H`. -/
structure Holds (U W Q K : FVec Ideal S132x2x8x4x64x128 .f32) (M : FVec Ideal S132x2x8x4x64x64 .f32) (D : FVec Ideal S132x2x8x4x128 .f32)
    (H : Fin 2 → Fin 8 → Fin 4 → Head) : Prop where
  u : ∀ (k : Fin 132) p b h c d, U (ix6 k p b h c d) = (H p b h).u k.val c d
  w : ∀ (k : Fin 132) p b h c d, W (ix6 k p b h c d) = (H p b h).w k.val c d
  qg : ∀ (k : Fin 132) p b h c d, Q (ix6 k p b h c d) = (H p b h).qg k.val c d
  kd : ∀ (k : Fin 132) p b h c d, K (ix6 k p b h c d) = (H p b h).kd k.val c d
  mix : ∀ (k : Fin 132) p b h c j, M (ix6 k p b h c j) = (H p b h).mix k.val c j
  dec : ∀ (k : Fin 132) p b h d, D (ix5 k p b h d) = (H p b h).dec k.val d

variable {U W Q K : FVec Ideal S132x2x8x4x64x128 .f32} {M : FVec Ideal S132x2x8x4x64x64 .f32} {D : FVec Ideal S132x2x8x4x128 .f32}
  {H : Fin 2 → Fin 8 → Fin 4 → Head}

/-- A step's counter. -/
abbrev word (k : ℕ) : Ctr := fun _ => BitVec.ofNat 32 k

/-- The new values of step `k`, from the state that the heads have before it. -/
theorem vnew_step (X : Holds U W Q K M D H) (k : Fin 132) (S : FVec Ideal S2x8x4x128x128 .f32)
    (hS : ∀ p b h d e, S (ix5 p b h d e) = (H p b h).state k.val d e) (p : Fin 2) (b : Fin 8) (h : Fin 4) (c : Fin 64) (e : Fin 128) :
    subf (wide (word k.val) U) (Host.dotGeneral dot_S2x8x4x64x128_S2x8x4x128x128_S2x8x4x64x128_4_3_3_4_012_012 none (wide (word k.val) W) S)
        (ix5 p b h c e)
      = vnew ((H p b h).u k.val) ((H p b h).w k.val) ((H p b h).state k.val) c e := by
  rw [vnew_pure]
  simp only [wide_at, X.u, X.w, hS]

/-- The outputs of step `k`. -/
theorem out_step (X : Holds U W Q K M D H) (k : Fin 132) (S : FVec Ideal S2x8x4x128x128 .f32) (v : FVec Ideal S2x8x4x64x128 .f32)
    (hS : ∀ p b h d e, S (ix5 p b h d e) = (H p b h).state k.val d e)
    (hv : ∀ p b h c e, v (ix5 p b h c e) = vnew ((H p b h).u k.val) ((H p b h).w k.val) ((H p b h).state k.val) c e)
    (p : Fin 2) (b : Fin 8) (h : Fin 4) (c : Fin 64) (e : Fin 128) :
    addf (Host.dotGeneral dot_S2x8x4x64x128_S2x8x4x128x128_S2x8x4x64x128_4_3_3_4_012_012 none (wide (word k.val) Q) S)
        (Host.dotGeneral dot_S2x8x4x64x64_S2x8x4x64x128_S2x8x4x64x128_4_3_3_4_012_012 none (mixAt (word k.val) M) v) (ix5 p b h c e)
      = (H p b h).outputs k.val c e := by
  rw [out_pure]
  simp only [wide_at, mixAt_at, X.qg, X.mix, hS, hv]
  rfl

/-- The state after step `k`. -/
theorem next_step (X : Holds U W Q K M D H) (k : Fin 132) (S : FVec Ideal S2x8x4x128x128 .f32) (v : FVec Ideal S2x8x4x64x128 .f32)
    (hS : ∀ p b h d e, S (ix5 p b h d e) = (H p b h).state k.val d e)
    (hv : ∀ p b h c e, v (ix5 p b h c e) = vnew ((H p b h).u k.val) ((H p b h).w k.val) ((H p b h).state k.val) c e)
    (p : Fin 2) (b : Fin 8) (h : Fin 4) (d e : Fin 128) :
    addf (mulf S (broadcastInDim S2x8x4x128x128 ![0, 1, 2, 3, 4] bcast_S2x8x4x1x128_S2x8x4x128x128_0_1_2_3_4
        (broadcastInDim S2x8x4x1x128 ![0, 1, 2, 4] bcast_S2x8x4x128_S2x8x4x1x128_0_1_2_4 (decAt (word k.val) D))))
        (Host.dotGeneral dot_S2x8x4x64x128_S2x8x4x64x128_S2x8x4x128x128_3_3_4_4_012_012 none (wide (word k.val) K) v) (ix5 p b h d e)
      = (H p b h).state (k.val + 1) d e := by
  rw [next_pure]
  simp only [wide_at, decAt_at, X.kd, X.dec, hS, hv]
  rfl

/-- What the loop carries before step `k`. -/
structure Inv (U W Q K : FVec Ideal S132x2x8x4x64x128 .f32) (M : FVec Ideal S132x2x8x4x64x64 .f32) (D : FVec Ideal S132x2x8x4x128 .f32)
    (H : Fin 2 → Fin 8 → Fin 4 → Head) (k : ℕ) (V : Valuation τ sig (Elt Ideal)) : Prop where
  u : V (Proc.devRef .tc main_v85_0) = U
  w : V (Proc.devRef .tc main_v85_1) = W
  qg : V (Proc.devRef .tc main_v85_2) = Q
  kd : V (Proc.devRef .tc main_v85_3) = K
  mix : V (Proc.devRef .tc main_v85_4) = M
  dec : V (Proc.devRef .tc main_v85_5) = D
  ctr : V (Proc.devRef .tc main_v85_6) = word k
  state : ∀ p b h d e, V (Proc.devRef .tc main_v85_7) (ix5 p b h d e) = (H p b h).state k d e
  outs : ∀ i : Fin 132, i.val < k → ∀ p b h c e, V (Proc.devRef .tc main_v85_8) (ix6 i p b h c e) = (H p b h).outputs i.val c e

/-- A step keeps it. -/
theorem Inv.step (X : Holds U W Q K M D H) (k : Fin 132) (V : Valuation τ sig (Elt Ideal)) (I : Inv U W Q K M D H k.val V) :
    Inv U W Q K M D H (k.val + 1) (STEP V) := by
  have hv : ∀ p b h c e, res_main_while0b_v107 V (ix5 p b h c e)
      = vnew ((H p b h).u k.val) ((H p b h).w k.val) ((H p b h).state k.val) c e := by
    intro p b h c e
    unfold res_main_while0b_v107
    rw [I.ctr, I.u, I.w]
    exact vnew_step X k _ I.state p b h c e
  refine ⟨(STEP_main_v85_0 V).trans I.u, (STEP_main_v85_1 V).trans I.w, (STEP_main_v85_2 V).trans I.qg, (STEP_main_v85_3 V).trans I.kd,
    (STEP_main_v85_4 V).trans I.mix, (STEP_main_v85_5 V).trans I.dec, ?_, ?_, ?_⟩
  · rw [STEP_main_v85_6]
    unfold Value.step_main_v85_6
    rw [I.ctr]
    funext x
    show BitVec.ofNat 32 k.val + 1#32 = BitVec.ofNat 32 (k.val + 1)
    rw [BitVec.ofNat_add]
  · intro p b h d e
    rw [STEP_main_v85_7]
    unfold Value.step_main_v85_7
    rw [I.ctr, I.dec, I.kd]
    exact next_step X k _ _ I.state hv p b h d e
  · intro i hi p b h c e
    rw [STEP_main_v85_8]
    unfold Value.step_main_v85_8
    rw [I.ctr, I.qg, I.mix]
    refine (put_at _ _ k i p b h c e).trans ?_
    split
    · next hik =>
      rw [hik]
      exact out_step X k _ _ I.state hv p b h c e
    · next hik => exact I.outs i (by have := Fin.val_ne_of_ne hik; omega) p b h c e

/-- After `k` steps. -/
theorem Inv.steps (X : Holds U W Q K M D H) (V : Valuation τ sig (Elt Ideal)) (I : Inv U W Q K M D H 0 V) :
    ∀ k : ℕ, k ≤ 132 → Inv U W Q K M D H k (STEP^[k] V)
  | 0, _ => I
  | k + 1, hk => by
    rw [Function.iterate_succ_apply']
    exact Inv.step X ⟨k, by omega⟩ _ (Inv.steps X V I k (by omega))

end Cert.RefIdeal.Scan
end
-- ==== Proof.Scan.RefOut.lean ====
module

public import proofs.«01_k».proof.Proof.Gen.RefIdeal.Run
public import proofs.«01_k».proof.Proof.Scan.Spec
public import Idealize.ShloMosaic.Lib.Pointwise

@[expose] public section
set_option maxRecDepth 16384
noncomputable section
open Idealize.ShloMosaic Idealize.ShloMosaic.TcCoe Idealize.SL.Sem Idealize.ShloMosaic.StableHlo
open scoped BigOperators

/-! What the reference's results are, of the outputs that its loop has collected. -/
namespace Cert.RefIdeal.Scan
open Cert.RefIdeal Cert.RefIdeal.Gen Cert.RefIdeal.Value Cert.Scan

/-- Chunks in the order of the tokens, as an array over the tokens. -/
def tokens (B : FVec Ideal S132x8x4x64x128 .f32) : FVec Ideal S8x8448x512 .bf16 :=
  truncf .bf16 (shapeCast _ (transpose S8x132x64x4x128 [1, 0, 3, 2, 4] B transposes_S132x8x4x64x128_S8x132x64x4x128_1_0_3_2_4) shapeCasts_S8x132x64x4x128_S8x8448x512) bitsLt_bf16_f32

/-- The outputs in the order of the tokens, at an index. -/
theorem tokens_at (B : FVec Ideal S132x8x4x64x128 .f32) (b : Fin 8) (l : Fin 8448) (x : Fin 512) :
    tokens B (ix3 b l x) = B (ix5 ⟨l.val / 64, by omega⟩ b ⟨x.val / 128, by omega⟩
      ⟨l.val % 64, Nat.mod_lt _ (by decide)⟩ ⟨x.val % 128, Nat.mod_lt _ (by decide)⟩) := by
  pointwise [tokens]

/-- The forward outputs in the order of the tokens: the chunks of steps 4 to 131, then those of steps 0 to 3. -/
def fwdChunks (A : FVec Ideal S132x2x8x4x64x128 .f32) : FVec Ideal S132x8x4x64x128 .f32 :=
  concatenate S132x8x4x64x128 0 [⟨S128x8x4x64x128, (shapeCast _ (extractStridedSlice S128x1x8x4x64x128 ![4, 0, 0, 0, 0, 0] A slices_S132x2x8x4x64x128_S128x1x8x4x64x128_4_0_0_0_0_0) shapeCasts_S128x1x8x4x64x128_S128x8x4x64x128)⟩, ⟨S4x8x4x64x128, (shapeCast _ (extractStridedSlice S4x1x8x4x64x128 ![0, 0, 0, 0, 0, 0] A slices_S132x2x8x4x64x128_S4x1x8x4x64x128_0_0_0_0_0_0) shapeCasts_S4x1x8x4x64x128_S4x8x4x64x128)⟩] concatenates_S128x8x4x64x128_S4x8x4x64x128_S132x8x4x64x128_d0

/-- The forward outputs of a chunk. -/
theorem fwdChunks_at (A : FVec Ideal S132x2x8x4x64x128 .f32) (n : Fin 132) (b : Fin 8) (h : Fin 4) (c : Fin 64) (e : Fin 128) :
    fwdChunks A (ix5 n b h c e) = A (ix6 ⟨(n.val + 4) % 132, Nat.mod_lt _ (by decide)⟩ 0 b h c e) := by
  pointwise [fwdChunks]
  have hn := n.isLt
  split
  · refine congrArg A ((ix6_inj _ _ _ _ _ _ _ _ _ _ _ _).2 ⟨Fin.ext ?_, rfl, rfl, rfl, rfl, rfl⟩)
    show 4 + n.val = (n.val + 4) % 132
    omega
  · refine congrArg A ((ix6_inj _ _ _ _ _ _ _ _ _ _ _ _).2 ⟨Fin.ext ?_, rfl, rfl, rfl, rfl, rfl⟩)
    show n.val - 128 = (n.val + 4) % 132
    omega

/-- The backward outputs in the order of the tokens: the last step's chunk first. -/
def bwdChunks (A : FVec Ideal S132x2x8x4x64x128 .f32) : FVec Ideal S132x8x4x64x128 .f32 :=
  Host.reverse [0] (shapeCast _ (extractStridedSlice S132x1x8x4x64x128 ![0, 1, 0, 0, 0, 0] A slices_S132x2x8x4x64x128_S132x1x8x4x64x128_0_1_0_0_0_0) shapeCasts_S132x1x8x4x64x128_S132x8x4x64x128)

/-- The backward outputs of a chunk. -/
theorem bwdChunks_at (A : FVec Ideal S132x2x8x4x64x128 .f32) (n : Fin 132) (b : Fin 8) (h : Fin 4) (c : Fin 64) (e : Fin 128) :
    bwdChunks A (ix5 n b h c e) = A (ix6 ⟨131 - n.val, by omega⟩ 1 b h c e) := by
  pointwise [bwdChunks]
  have hn := n.isLt
  refine congrArg A ((ix6_inj _ _ _ _ _ _ _ _ _ _ _ _).2 ⟨Fin.ext ?_, rfl, rfl, rfl, rfl, rfl⟩)
  show 132 - (n.val + 1) = 131 - n.val
  omega

/-- The first result reads the forward chunks of the loop's outputs. -/
theorem out_fwd (V : Valuation τ sig (Elt Ideal)) (A : FVec Ideal S132x2x8x4x64x128 .f32) (hA : V (Proc.devRef .tc main_v85_8) = A) :
    out_main_v93 V = tokens (fwdChunks A) := by
  subst hA; rfl

/-- The second result reads the backward chunks of the loop's outputs. -/
theorem out_bwd (V : Valuation τ sig (Elt Ideal)) (A : FVec Ideal S132x2x8x4x64x128 .f32) (hA : V (Proc.devRef .tc main_v85_8) = A) :
    out_main_v99 V = tokens (bwdChunks A) := by
  subst hA; rfl

end Cert.RefIdeal.Scan
end
-- ==== Proof.Scan.Claims.lean ====
module

public import proofs.«01_k».proof.Defs
public import proofs.«01_k».proof.Proof.Scan.KerGrid
public import proofs.«01_k».proof.Proof.Scan.RefInv
public import proofs.«01_k».proof.Proof.Scan.RefOut
public import Idealize.ShloMosaic.Lib.Claim

@[expose] public section
set_option maxRecDepth 16384
noncomputable section
open Idealize.ShloMosaic Idealize.ShloMosaic.TcCoe Idealize.SL.Sem Idealize.ShloMosaic.StableHlo
open scoped BigOperators

/-! The claim about the scan. -/
namespace Cert.RefIdeal.Scan
open Cert.RefIdeal Cert.RefIdeal.Gen Cert.RefIdeal.Value Cert.RefIdeal.Step Cert.Scan

variable (m : (ℓ : Loc nD τ sig) → Buf (Elt Ideal) ℓ)

/-- The heads of the reference's arguments. -/
def heads (c : Dev nD) (p : Fin 2) (b : Fin 8) (h : Fin 4) : Head :=
  head (fun b p l x => (m ((c.tc : Thread nD τ).loc main_arg0) : FVec Ideal S8x2x8448x512 .bf16) (ix4 b p l x))
    (fun b p l x => (m ((c.tc : Thread nD τ).loc main_arg1) : FVec Ideal S8x2x8448x512 .bf16) (ix4 b p l x))
    (fun b p l x => (m ((c.tc : Thread nD τ).loc main_arg2) : FVec Ideal S8x2x8448x512 .bf16) (ix4 b p l x))
    (fun b p l x => (m ((c.tc : Thread nD τ).loc main_arg3) : FVec Ideal S8x2x8448x512 .bf16) (ix4 b p l x))
    (fun b p l x => (m ((c.tc : Thread nD τ).loc main_arg4) : FVec Ideal S8x2x8448x256 .bf16) (ix4 b p l x))
    (fun b n z x => (m ((c.tc : Thread nD τ).loc main_arg5) : FVec Ideal S8x132x8x128 .f32) (ix4 b n z x)) p b h

/-- The loop's arrays hold the heads when it is entered. -/
theorem holds (c : Dev nD) : Holds (entryContents preI m c (Proc.devRef .tc main_v85_0)) (entryContents preI m c (Proc.devRef .tc main_v85_1))
    (entryContents preI m c (Proc.devRef .tc main_v85_2)) (entryContents preI m c (Proc.devRef .tc main_v85_3))
    (entryContents preI m c (Proc.devRef .tc main_v85_4)) (entryContents preI m c (Proc.devRef .tc main_v85_5)) (heads m c) :=
  ⟨fun k p b h x d => (congrFun (entry_0 m c) _).trans (u_at _ _ _ _ _ _ k p b h x d),
    fun k p b h x d => (congrFun (entry_1 m c) _).trans (w_at _ _ _ _ _ _ k p b h x d),
    fun k p b h x d => (congrFun (entry_2 m c) _).trans (q_at _ _ _ _ _ _ k p b h x d),
    fun k p b h x d => (congrFun (entry_3 m c) _).trans (k_at _ _ _ _ _ _ k p b h x d),
    fun k p b h x j => (congrFun (entry_4 m c) _).trans (m_at _ _ _ _ _ _ k p b h x j),
    fun k p b h d => (congrFun (entry_5 m c) _).trans (d_at _ _ _ _ _ _ k p b h d)⟩

/-- Before the first step. -/
theorem start (c : Dev nD) : Inv (entryContents preI m c (Proc.devRef .tc main_v85_0)) (entryContents preI m c (Proc.devRef .tc main_v85_1))
    (entryContents preI m c (Proc.devRef .tc main_v85_2)) (entryContents preI m c (Proc.devRef .tc main_v85_3))
    (entryContents preI m c (Proc.devRef .tc main_v85_4)) (entryContents preI m c (Proc.devRef .tc main_v85_5)) (heads m c) 0
    (entryContents preI m c) := by
  refine ⟨rfl, rfl, rfl, rfl, rfl, rfl, ctr_entry m c, ?_, fun i hi => absurd hi (Nat.not_lt_zero _)⟩
  intro p b h d e
  refine (congrFun (entry_7 m c) _).trans ?_
  show _ = (0 : EReal)
  pointwise [K_main_v13, K_main_cst]

/-- What the loop leaves. -/
theorem finish (c : Dev nD) (i : Fin 132) (p b h x e) :
    (STEP^[132] (entryContents preI m c)) (Proc.devRef .tc main_v85_8) (ix6 i p b h x e) = (heads m c p b h).outputs i.val x e :=
  ((start m c).steps (holds m c) _ 132 (le_refl _)).outs i i.isLt p b h x e

/-- Two arrays that agree at every index are the same. -/
theorem ext3 (A B : S8x8448x512.Idx → EReal) (h : ∀ b l x, A (ix3 b l x) = B (ix3 b l x)) : A = B := by
  funext y
  have e := h (y 0) (y 1) (y 2)
  rwa [ix3_eta y] at e

/-- The reference's first result at an index. -/
theorem result_fwd (c : Dev nD) (b : Fin 8) (l : Fin 8448) (x : Fin 512) :
    out_main_v93 (STEP^[132] (entryContents preI m c)) (ix3 b l x)
      = (heads m c 0 b ⟨x.val / 128, by omega⟩).outputs ((l.val / 64 + 4) % 132) ⟨l.val % 64, Nat.mod_lt _ (by decide)⟩ ⟨x.val % 128, Nat.mod_lt _ (by decide)⟩ := by
  refine (congrFun (out_fwd _ _ rfl) _).trans ((tokens_at _ b l x).trans ((fwdChunks_at _ _ _ _ _ _).trans ?_))
  exact finish m c _ _ _ _ _ _

/-- The reference's second result at an index. -/
theorem result_bwd (c : Dev nD) (b : Fin 8) (l : Fin 8448) (x : Fin 512) :
    out_main_v99 (STEP^[132] (entryContents preI m c)) (ix3 b l x)
      = (heads m c 1 b ⟨x.val / 128, by omega⟩).outputs (131 - l.val / 64) ⟨l.val % 64, Nat.mod_lt _ (by decide)⟩ ⟨x.val % 128, Nat.mod_lt _ (by decide)⟩ := by
  refine (congrFun (out_bwd _ _ rfl) _).trans ((tokens_at _ b l x).trans ((bwdChunks_at _ _ _ _ _ _).trans ?_))
  exact finish m c _ _ _ _ _ _

/-- The reference's two results are the kernel's, when the heads are the same. -/
theorem results (c : Dev nD) (G : Fin 2 → Fin 8 → Fin 4 → Head) (hG : heads m c = G) :
    out_main_v93 (STEP^[132] (entryContents preI m c)) = Cert.KernelIdeal.Scan.fwdOut (G 0)
      ∧ out_main_v99 (STEP^[132] (entryContents preI m c)) = Cert.KernelIdeal.Scan.bwdOut (G 1) := by
  have hf := result_fwd m c
  have hb := result_bwd m c
  rw [hG] at hf hb
  generalize out_main_v93 (STEP^[132] (entryContents preI m c)) = A at hf ⊢
  generalize out_main_v99 (STEP^[132] (entryContents preI m c)) = B at hb ⊢
  exact ⟨ext3 A _ fun b l x => hf b l x, ext3 B _ fun b l x => hb b l x⟩

end Cert.RefIdeal.Scan

namespace Cert.Proof

/-- The heads of arguments that agree are the same. -/
theorem same (m : (ℓ : Loc Cert.KernelIdeal.nD Cert.KernelIdeal.τ Cert.KernelIdeal.sig) → Buf (Elt Ideal) ℓ)
    (m' : (ℓ : Loc Cert.RefIdeal.nD Cert.RefIdeal.τ Cert.RefIdeal.sig) → Buf (Elt Ideal) ℓ) (c : Dev Cert.KernelIdeal.nD)
    (h0 : m' ((c.tc : Thread Cert.RefIdeal.nD Cert.RefIdeal.τ).loc Cert.RefIdeal.main_arg0) = m ((c.tc : Thread Cert.KernelIdeal.nD Cert.KernelIdeal.τ).loc Cert.KernelIdeal.main_arg0))
    (h1 : m' ((c.tc : Thread Cert.RefIdeal.nD Cert.RefIdeal.τ).loc Cert.RefIdeal.main_arg1) = m ((c.tc : Thread Cert.KernelIdeal.nD Cert.KernelIdeal.τ).loc Cert.KernelIdeal.main_arg1))
    (h2 : m' ((c.tc : Thread Cert.RefIdeal.nD Cert.RefIdeal.τ).loc Cert.RefIdeal.main_arg2) = m ((c.tc : Thread Cert.KernelIdeal.nD Cert.KernelIdeal.τ).loc Cert.KernelIdeal.main_arg2))
    (h3 : m' ((c.tc : Thread Cert.RefIdeal.nD Cert.RefIdeal.τ).loc Cert.RefIdeal.main_arg3) = m ((c.tc : Thread Cert.KernelIdeal.nD Cert.KernelIdeal.τ).loc Cert.KernelIdeal.main_arg3))
    (h4 : m' ((c.tc : Thread Cert.RefIdeal.nD Cert.RefIdeal.τ).loc Cert.RefIdeal.main_arg4) = m ((c.tc : Thread Cert.KernelIdeal.nD Cert.KernelIdeal.τ).loc Cert.KernelIdeal.main_arg4))
    (h5 : m' ((c.tc : Thread Cert.RefIdeal.nD Cert.RefIdeal.τ).loc Cert.RefIdeal.main_arg5) = m ((c.tc : Thread Cert.KernelIdeal.nD Cert.KernelIdeal.τ).loc Cert.KernelIdeal.main_arg5)) :
    Cert.RefIdeal.Scan.heads m' c = Cert.KernelIdeal.Scan.heads m c := by
  unfold Cert.RefIdeal.Scan.heads Cert.KernelIdeal.Scan.heads
  rw [h0, h1, h2, h3, h4, h5]

/-- The scan at ideal numbers ends with its reference's results. -/
theorem value_Scan : Cert.algebraic_KernelIdeal_RefIdeal := by
  intro m g m' g' hp hagree
  refine ⟨fun c => Cert.KernelIdeal.Scan.fwdOut (Cert.KernelIdeal.Scan.heads m c 0),
    fun c => Cert.KernelIdeal.Scan.bwdOut (Cert.KernelIdeal.Scan.heads m c 1), ?_, ?_⟩
  · run_from Cert.KernelIdeal.Gen.run_main m g
    · exact Cert.KernelIdeal.Scan.final_fwd m c
    · exact Cert.KernelIdeal.Scan.final_bwd m c
  · refine (θ_run _ _ _).mono (fun r h c => ⟨(h c).1.trans ?_, (h c).2.1.trans ?_, (h c).2.2⟩) (Cert.RefIdeal.Value.run m' g')
    all_goals obtain ⟨h0, h1, h2, h3, h4, h5⟩ := hagree c
    · exact (Cert.RefIdeal.Scan.results m' c _ (same m m' c h0 h1 h2 h3 h4 h5)).1
    · exact (Cert.RefIdeal.Scan.results m' c _ (same m m' c h0 h1 h2 h3 h4 h5)).2

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.RefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnLast
public import proofs.«01_k».proof.Proof.Gen.FfnLast.Skeleton
public import proofs.«01_k».proof.Proof.Gen.FfnLast.Launch
public import proofs.«01_k».proof.Proof.Gen.FfnLast.Points
public import proofs.«01_k».proof.Proof.Gen.FfnLast.Frame
public import proofs.«01_k».proof.Proof.Gen.FfnLastIdeal
public import proofs.«01_k».proof.Proof.Gen.FfnLastIdeal.Skeleton
public import proofs.«01_k».proof.Proof.Gen.FfnLastIdeal.Launch
public import proofs.«01_k».proof.Proof.Gen.FfnLastIdeal.Points
public import proofs.«01_k».proof.Proof.Gen.FfnLastIdeal.Frame
public import proofs.«01_k».proof.Proof.Gen.FfnLastRefIdeal
public import proofs.«01_k».proof.Proof.Gen.KernelIdeal.Value
public import proofs.«01_k».proof.Proof.Gen.FfnIdeal.Value
public import proofs.«01_k».proof.Proof.Gen.FfnLastIdeal.Value
public import proofs.«01_k».proof.Proof.Gen.RefIdeal.Run
public import proofs.«01_k».proof.Proof.Gen.FfnRefIdeal.Run
public import proofs.«01_k».proof.Proof.Gen.FfnRefIdeal.Read
public import proofs.«01_k».proof.Proof.Gen.FfnLastRefIdeal.Run
public import proofs.«01_k».proof.Proof.Gen.FfnLastRefIdeal.Read
public import proofs.«01_k».proof.Proof.Gen.RefIdeal.Step
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Run
public import proofs.«01_k».proof.Proof.Gen.LastRefIdeal.Read
public import proofs.«01_k».proof.Proof.Ffn.Claims
public import proofs.«01_k».proof.Proof.Merge.Claims
public import proofs.«01_k».proof.Proof.Mod.Claims
public import proofs.«01_k».proof.Proof.Last.Claims
public import proofs.«01_k».proof.Proof.Scan.Claims
public import Idealize.ShloMosaic.Adequacy
public import Idealize.ShloMosaic.Init

@[expose] public section

noncomputable section

namespace Cert.Proof

open Idealize.ShloMosaic Idealize.SL.Sem Cert.Kernel

/-- The reference of the scan ends without fault, leaves its arguments as they were and every counter at zero. -/
theorem frame_Ref : Cert.quiescent_RefIdeal := fun m ρ _ =>
  (θ_run Cert.RefIdeal.defs _ _).mono (fun r h => ⟨fun c => (h c).2.2, sem_eq_zero_of_no_sems (by decide) r.2⟩)
    (Cert.RefIdeal.Value.run (F := Ideal) m ρ)

/-- Everything that is claimed. -/
theorem claim : Cert.Claim :=
  ⟨Cert.Kernel.Gen.facts, Cert.KernelIdeal.Gen.facts, Cert.RefIdeal.Gen.facts, Cert.Ffn.Gen.facts, Cert.FfnIdeal.Gen.facts,
    Cert.FfnRefIdeal.Gen.facts, Cert.FfnLast.Gen.facts, Cert.FfnLastIdeal.Gen.facts, Cert.FfnLastRefIdeal.Gen.facts,
    Cert.Merge.Gen.facts, Cert.MergeIdeal.Gen.facts, Cert.MergeRefIdeal.Gen.facts, Cert.Mod.Gen.facts, Cert.ModIdeal.Gen.facts, Cert.ModRefIdeal.Gen.facts,
    Cert.Last.Gen.facts, Cert.LastIdeal.Gen.facts, Cert.LastRefIdeal.Gen.facts,
    fun m ρ _ => Cert.Kernel.Gen.frame m ρ, fun m ρ _ => Cert.KernelIdeal.Gen.frame m ρ, frame_Ref,
    fun m ρ _ => Cert.Ffn.Gen.frame m ρ, fun m ρ _ => Cert.FfnIdeal.Gen.frame m ρ, frame_FfnRef,
    fun m ρ _ => Cert.FfnLast.Gen.frame m ρ, fun m ρ _ => Cert.FfnLastIdeal.Gen.frame m ρ, frame_FfnLastRef,
    fun m ρ _ => Cert.Merge.Gen.frame m ρ, fun m ρ _ => Cert.MergeIdeal.Gen.frame m ρ, frame_MergeRef,
    fun m ρ _ => Cert.Mod.Gen.frame m ρ, fun m ρ _ => Cert.ModIdeal.Gen.frame m ρ, frame_ModRef,
    fun m ρ _ => Cert.Last.Gen.frame m ρ, fun m ρ _ => Cert.LastIdeal.Gen.frame m ρ, frame_LastRef,
    trivial, value_Scan, trivial, value_Ffn, trivial, value_FfnLast, trivial, value_Merge, trivial, value_Mod, trivial, value_Last⟩

end Cert.Proof

end
